-- ==== Defs.lean ====
def Pre_Kernel [hPre_fits_Kernel : Cert.Pre_fits_Kernel.Facts] (m : (ℓ : Loc Cert.Kernel.nD Cert.Kernel.τ Cert.Kernel.sig) → Buf (Elt Bits) ℓ) : Prop :=
  ∀ c : Dev Cert.Kernel.nD,
    (Cert.Pre_fits_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_fits_Kernel : Cert.Pre_fits_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_fits_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_fits_Kernel : Cert.Pre_fits_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_fits_Kernel : Cert.Pre_fits_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_fits_Kernel : Cert.Pre_fits_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_fits_Kernel : Cert.Pre_fits_Kernel.Facts) (hPre_fits_ReferenceIdeal : Cert.Pre_fits_ReferenceIdeal.Facts),
    quiescent_Kernel (hKernel := hKernel) (hPre_fits_Kernel := hPre_fits_Kernel)
    ∧ quiescent_KernelIdeal (hKernelIdeal := hKernelIdeal) (hPre_fits_Kernel := hPre_fits_Kernel)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal (hKernelIdeal := hKernelIdeal) (hReferenceIdeal := hReferenceIdeal) (hPre_fits_Kernel := hPre_fits_Kernel)
-- ==== Pre_fits_Kernel.lean ====
abbrev S1024x512 : Shape := ⟨2, ![1024, 512]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩

class Facts : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  natLt_1_32 : 1 < 32
  reducesTo_S1024x1024_S1024_d1 : S1024x1024.ReducesTo [1] S1024
  h_S_ : 0 < S_.numel
  bcast_S_S1024 : S_.BroadcastsInDim S1024 (![] : Fin 0 → Fin S1024.rank)

variable [Facts]

def fn {F : FTy → Type} [FloatOps F] (main_arg0 : FVec F S1024x512 .bf16) (main_arg1 : IVec S1024 32) : IVec S1024 1 :=
  let main_v0 : IVec S1024x1 32 := broadcastInDim S1024x1 ![0] bcast_S1024_S1024x1_0 main_arg1
  let main_v1 : IVec S1x1024 32 := broadcastInDim S1x1024 ![1] bcast_S1024_S1x1024_1 main_arg1
  let main_v2 : IVec S1024x1024 32 := broadcastInDim S1024x1024 ![0, 1] bcast_S1024x1_S1024x1024_0_1 main_v0
  let main_v3 : IVec S1024x1024 32 := broadcastInDim S1024x1024 ![0, 1] bcast_S1x1024_S1024x1024_0_1 main_v1
  let main_v4 : IVec S1024x1024 1 := cmpi .eq main_v2 main_v3
  let main_v5 : IVec S1024x1024 32 := (extui 32 · natLt_1_32) main_v4
  let main_c : IVec S_ 32 := constantI S_ 32 0#32
  let main_v6 : IVec S1024 32 := (fun x v => Host.reduce IntOp.addi x v reducesTo_S1024x1024_S1024_d1 h_S_) main_v5 main_c
  let main_c_0 : IVec S_ 32 := constantI S_ 32 0#32
  let main_v7 : IVec S1024 32 := broadcastInDim S1024 ![] bcast_S_S1024 main_c_0
  let main_v8 : IVec S1024 1 := cmpi .sge main_arg1 main_v7
  let main_c_1 : IVec S_ 32 := constantI S_ 32 8#32
  let main_v9 : IVec S1024 32 := broadcastInDim S1024 ![] bcast_S_S1024 main_c_1
  let main_v10 : IVec S1024 1 := cmpi .slt main_arg1 main_v9
  let main_v11 : IVec S1024 1 := andi main_v8 main_v10
  let main_c_2 : IVec S_ 32 := constantI S_ 32 192#32
  let main_v12 : IVec S1024 32 := broadcastInDim S1024 ![] bcast_S_S1024 main_c_2
  let main_v13 : IVec S1024 1 := cmpi .sle main_v6 main_v12
  let main_v14 : IVec S1024 1 := andi main_v11 main_v13
  main_v14
-- ==== Pre_fits_ReferenceIdeal.lean ====
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

class Facts : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S8192_d1 : S8192x8192.ReducesTo [1] S8192
  h_S_ : 0 < S_.numel
  bcast_S_S8192 : S_.BroadcastsInDim S8192 (![] : Fin 0 → Fin S8192.rank)

variable [Facts]

def fn {F : FTy → Type} [FloatOps F] (main_arg0 : FVec F S8192x512 .bf16) (main_arg1 : IVec S8192 32) : IVec S8192 1 :=
  let main_v0 : IVec S8192x1 32 := broadcastInDim S8192x1 ![0] bcast_S8192_S8192x1_0 main_arg1
  let main_v1 : IVec S1x8192 32 := broadcastInDim S1x8192 ![1] bcast_S8192_S1x8192_1 main_arg1
  let main_v2 : IVec S8192x8192 32 := broadcastInDim S8192x8192 ![0, 1] bcast_S8192x1_S8192x8192_0_1 main_v0
  let main_v3 : IVec S8192x8192 32 := broadcastInDim S8192x8192 ![0, 1] bcast_S1x8192_S8192x8192_0_1 main_v1
  let main_v4 : IVec S8192x8192 1 := cmpi .eq main_v2 main_v3
  let main_v5 : IVec S8192x8192 32 := (extui 32 · natLt_1_32) main_v4
  let main_c : IVec S_ 32 := constantI S_ 32 0#32
  let main_v6 : IVec S8192 32 := (fun x v => Host.reduce IntOp.addi x v reducesTo_S8192x8192_S8192_d1 h_S_) main_v5 main_c
  let main_c_0 : IVec S_ 32 := constantI S_ 32 0#32
  let main_v7 : IVec S8192 32 := broadcastInDim S8192 ![] bcast_S_S8192 main_c_0
  let main_v8 : IVec S8192 1 := cmpi .sge main_arg1 main_v7
  let main_c_1 : IVec S_ 32 := constantI S_ 32 8#32
  let main_v9 : IVec S8192 32 := broadcastInDim S8192 ![] bcast_S_S8192 main_c_1
  let main_v10 : IVec S8192 1 := cmpi .slt main_arg1 main_v9
  let main_v11 : IVec S8192 1 := andi main_v8 main_v10
  let main_c_2 : IVec S_ 32 := constantI S_ 32 192#32
  let main_v12 : IVec S8192 32 := broadcastInDim S8192 ![] bcast_S_S8192 main_c_2
  let main_v13 : IVec S8192 1 := cmpi .sle main_v6 main_v12
  let main_v14 : IVec S8192 1 := andi main_v11 main_v13
  main_v14
-- ==== Kernel.lean ====
abbrev S1024x512 : Shape := ⟨2, ![1024, 512]⟩
abbrev S1024 : Shape := ⟨1, ![1024]⟩
abbrev S8x192x512 : Shape := ⟨3, ![8, 192, 512]⟩
abbrev S8x1x128 : Shape := ⟨3, ![8, 1, 128]⟩
abbrev S_ : Shape := ⟨0, ![]⟩
abbrev S1x1024 : Shape := ⟨2, ![1, 1024]⟩
abbrev S8x1024 : Shape := ⟨2, ![8, 1024]⟩
abbrev S8 : Shape := ⟨1, ![8]⟩
abbrev S8x1 : Shape := ⟨2, ![8, 1]⟩
abbrev S1024x1024 : Shape := ⟨2, ![1024, 1024]⟩
abbrev S8x128 : Shape := ⟨2, ![8, 128]⟩
abbrev S192x1024 : Shape := ⟨2, ![192, 1024]⟩
abbrev S192x512 : Shape := ⟨2, ![192, 512]⟩
abbrev S1x192x512 : Shape := ⟨3, ![1, 192, 512]⟩
abbrev S1x1x128 : Shape := ⟨3, ![1, 1, 128]⟩
abbrev S1x128 : Shape := ⟨2, ![1, 128]⟩
abbrev S1x1x1 : Shape := ⟨3, ![1, 1, 1]⟩
abbrev S1x16x512 : Shape := ⟨3, ![1, 16, 512]⟩
abbrev S16x512 : Shape := ⟨2, ![16, 512]⟩
abbrev S1024x1 : Shape := ⟨2, ![1024, 1]⟩
abbrev S1024x192 : Shape := ⟨2, ![1024, 192]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .bf16⟩
  | .hbm, ⟨1, _⟩ => ⟨S1024, .i32⟩
  | .hbm, ⟨2, _⟩ => ⟨S1024x512, .bf16⟩
  | .local _ .vmem, ⟨0, _⟩ => ⟨S1024x512, .bf16⟩
  | .local _ .vmem, ⟨1, _⟩ => ⟨S1024, .i32⟩
  | .local _ .vmem, ⟨2, _⟩ => ⟨S1024x512, .bf16⟩
  | .local _ .vmem, ⟨3, _⟩ => ⟨S8x192x512, .bf16⟩
  | .local _ .vmem, ⟨4, _⟩ => ⟨S8x192x512, .bf16⟩
  | .local _ .vmem, ⟨5, _⟩ => ⟨S8x1x128, .i32⟩
  | .local _ .vmem, ⟨6, _⟩ => ⟨S8x1x128, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2 : BitVec 32 := 1#32
  let v8 : BitVec 32 := Scalar.addi v2 c1_i32_2
  let c8_i32_3 : BitVec 32 := 8#32
  let v9 : BitVec 32 := Scalar.remsi v8 c8_i32_3
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.addi v2 c2_i32
  let c8_i32_6 : BitVec 32 := 8#32
  let v13 : BitVec 32 := Scalar.remsi v12 c8_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c8_i32_10 : BitVec 32 := 8#32
  let v17 : BitVec 32 := Scalar.remsi v16 c8_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v20 : BitVec 32 := Scalar.addi v2 c4_i32
  let c8_i32_14 : BitVec 32 := 8#32
  let v21 : BitVec 32 := Scalar.remsi v20 c8_i32_14
  let c1_i32_16 : BitVec 32 := 1#32
  let v22 : BitVec 32 := Scalar.muli v21 c1_i32_16
  let v23 : BitVec 32 := Scalar.addi c0_i32_17 v22
  v23.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v24 : BitVec 32 := Scalar.addi v2 c5_i32
  let c8_i32_18 : BitVec 32 := 8#32
  let v25 : BitVec 32 := Scalar.remsi v24 c8_i32_18
  let c1_i32_20 : BitVec 32 := 1#32
  let v26 : BitVec 32 := Scalar.muli v25 c1_i32_20
  let v27 : BitVec 32 := Scalar.addi c0_i32_21 v26
  v27.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 32 := Scalar.addi v2 c6_i32
  let c8_i32_22 : BitVec 32 := 8#32
  let v29 : BitVec 32 := Scalar.remsi v28 c8_i32_22
  let c1_i32_24 : BitVec 32 := 1#32
  let v30 : BitVec 32 := Scalar.muli v29 c1_i32_24
  let v31 : BitVec 32 := Scalar.addi c0_i32_25 v30
  v31.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.addi v2 c7_i32
  let c8_i32_26 : BitVec 32 := 8#32
  let v33 : BitVec 32 := Scalar.remsi v32 c8_i32_26
  let c1_i32_28 : BitVec 32 := 1#32
  let v34 : BitVec 32 := Scalar.muli v33 c1_i32_28
  let v35 : BitVec 32 := Scalar.addi c0_i32_29 v34
  v35.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_off2 (d0 : Dev nD) (c1_i32_69 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v179 : BitVec 32 := Scalar.addi v2 c1_i32_69
  let c8_i32_70 : BitVec 32 := 8#32
  let v180 : BitVec 32 := Scalar.remsi v179 c8_i32_70
  let c0_i32_75 : BitVec 32 := 0#32
  let c0_i32_76 : BitVec 32 := 0#32
  ![v180.toNat, 0, 0]
def k0_dev8 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v179 : BitVec 32 := Scalar.addi v2 c1_i32_69
  let c8_i32_70 : BitVec 32 := 8#32
  let v180 : BitVec 32 := Scalar.remsi v179 c8_i32_70
  let c1_i32_71 : BitVec 32 := 1#32
  let v181 : BitVec 32 := Scalar.muli v180 c1_i32_71
  let v182 : BitVec 32 := Scalar.addi c0_i32_72 v181
  v182.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_77 : BitVec 32 := 2#32
  let v187 : BitVec 32 := Scalar.addi v2 c2_i32_77
  let c8_i32_78 : BitVec 32 := 8#32
  let v188 : BitVec 32 := Scalar.remsi v187 c8_i32_78
  let c1_i32_79 : BitVec 32 := 1#32
  let v189 : BitVec 32 := Scalar.muli v188 c1_i32_79
  let v190 : BitVec 32 := Scalar.addi c0_i32_80 v189
  v190.toNat
def k0_dev10 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_85 : BitVec 32 := 3#32
  let v195 : BitVec 32 := Scalar.addi v2 c3_i32_85
  let c8_i32_86 : BitVec 32 := 8#32
  let v196 : BitVec 32 := Scalar.remsi v195 c8_i32_86
  let c1_i32_87 : BitVec 32 := 1#32
  let v197 : BitVec 32 := Scalar.muli v196 c1_i32_87
  let v198 : BitVec 32 := Scalar.addi c0_i32_88 v197
  v198.toNat
def k0_dev11 (d0 : Dev nD) : Nat :=
  let c0_i32_96 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v203 : BitVec 32 := Scalar.addi v2 c4_i32_93
  let c8_i32_94 : BitVec 32 := 8#32
  let v204 : BitVec 32 := Scalar.remsi v203 c8_i32_94
  let c1_i32_95 : BitVec 32 := 1#32
  let v205 : BitVec 32 := Scalar.muli v204 c1_i32_95
  let v206 : BitVec 32 := Scalar.addi c0_i32_96 v205
  v206.toNat
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_101 : BitVec 32 := 5#32
  let v211 : BitVec 32 := Scalar.addi v2 c5_i32_101
  let c8_i32_102 : BitVec 32 := 8#32
  let v212 : BitVec 32 := Scalar.remsi v211 c8_i32_102
  let c1_i32_103 : BitVec 32 := 1#32
  let v213 : BitVec 32 := Scalar.muli v212 c1_i32_103
  let v214 : BitVec 32 := Scalar.addi c0_i32_104 v213
  v214.toNat
def k0_dev13 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_109 : BitVec 32 := 6#32
  let v219 : BitVec 32 := Scalar.addi v2 c6_i32_109
  let c8_i32_110 : BitVec 32 := 8#32
  let v220 : BitVec 32 := Scalar.remsi v219 c8_i32_110
  let c1_i32_111 : BitVec 32 := 1#32
  let v221 : BitVec 32 := Scalar.muli v220 c1_i32_111
  let v222 : BitVec 32 := Scalar.addi c0_i32_112 v221
  v222.toNat
def k0_dev14 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_117 : BitVec 32 := 7#32
  let v227 : BitVec 32 := Scalar.addi v2 c7_i32_117
  let c8_i32_118 : BitVec 32 := 8#32
  let v228 : BitVec 32 := Scalar.remsi v227 c8_i32_118
  let c1_i32_119 : BitVec 32 := 1#32
  let v229 : BitVec 32 := Scalar.muli v228 c1_i32_119
  let v230 : BitVec 32 := Scalar.addi c0_i32_120 v229
  v230.toNat
@[reducible] def k0_t1_loop (d0 : Dev nD) (v236 : BitVec 32) : Scf.Loop 32 :=
  let c0_i32_131 : BitVec 32 := 0#32
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v241 : BitVec 32 := Scalar.subi v240 c0_i32_131
  let c1_i32_132 : BitVec 32 := 1#32
  let v243 : BitVec 32 := Scalar.divsi v241 c1_i32_132
  let v244 : BitVec 32 := Scalar.muli v243 c1_i32_132
  let v245 : BitVec 32 := Scalar.addi c0_i32_131 v244
  let c1_i32_133 : BitVec 32 := 1#32
  ⟨c0_i32_131, v245, c1_i32_133⟩

def k0_off3 (d0 : Dev nD) (v236 : BitVec 32) (k0_t1 : Fin (k0_t1_loop d0 v236).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c1_i32_133 : BitVec 32 := 1#32
  let arg11 : BitVec 32 := Scf.iv c0_i32_131 c1_i32_133 k0_t1
  let c16_i32_423 : BitVec 32 := 16#32
  let v653 : BitVec 32 := Scalar.muli arg11 c16_i32_423
  let c0_i32_428 : BitVec 32 := 0#32
  ![v2.toNat, v653.toNat, 0]
def k0_off4 (d0 : Dev nD) (v236 : BitVec 32) (k0_t1 : Fin (k0_t1_loop d0 v236).trips) : Fin 3 → Nat :=
  let c0_i32_424 : BitVec 32 := 0#32
  let c0_i32_131 : BitVec 32 := 0#32
  let c1_i32_133 : BitVec 32 := 1#32
  let arg11 : BitVec 32 := Scf.iv c0_i32_131 c1_i32_133 k0_t1
  let c16_i32_422 : BitVec 32 := 16#32
  let v652 : BitVec 32 := Scalar.muli arg11 c16_i32_422
  let c0_i32_429 : BitVec 32 := 0#32
  ![0, v652.toNat, 0]
def k0_dev15 : Nat :=
  let c0_i32_427 : BitVec 32 := 0#32
  let c0_i32_425 : BitVec 32 := 0#32
  let c1_i32_426 : BitVec 32 := 1#32
  let v654 : BitVec 32 := Scalar.muli c0_i32_425 c1_i32_426
  let v655 : BitVec 32 := Scalar.addi c0_i32_427 v654
  v655.toNat
@[reducible] def k0_t2_loop (d0 : Dev nD) (v236 : BitVec 32) : Scf.Loop 32 :=
  let c0_i32_131 : BitVec 32 := 0#32
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v241 : BitVec 32 := Scalar.subi v240 c0_i32_131
  let c1_i32_132 : BitVec 32 := 1#32
  let v243 : BitVec 32 := Scalar.divsi v241 c1_i32_132
  let v244 : BitVec 32 := Scalar.muli v243 c1_i32_132
  let v245 : BitVec 32 := Scalar.addi c0_i32_131 v244
  let v242 : BitVec 32 := Scalar.addi c0_i32_131 v241
  let c1_i32_134 : BitVec 32 := 1#32
  ⟨v245, v242, c1_i32_134⟩
def k0_off5 (d0 : Dev nD) (v236 : BitVec 32) (k0_t2 : Fin (k0_t2_loop d0 v236).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let c0_i32_128 : BitVec 32 := 0#32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v241 : BitVec 32 := Scalar.subi v240 c0_i32_131
  let c1_i32_132 : BitVec 32 := 1#32
  let v243 : BitVec 32 := Scalar.divsi v241 c1_i32_132
  let v244 : BitVec 32 := Scalar.muli v243 c1_i32_132
  let v245 : BitVec 32 := Scalar.addi c0_i32_131 v244
  let c1_i32_134 : BitVec 32 := 1#32
  let arg11 : BitVec 32 := Scf.iv v245 c1_i32_134 k0_t2
  let c16_i32_423 : BitVec 32 := 16#32
  let v653 : BitVec 32 := Scalar.muli arg11 c16_i32_423
  let c0_i32_428 : BitVec 32 := 0#32
  ![v2.toNat, v653.toNat, 0]
def k0_off6 (d0 : Dev nD) (v236 : BitVec 32) (k0_t2 : Fin (k0_t2_loop d0 v236).trips) : Fin 3 → Nat :=
  let c0_i32_424 : BitVec 32 := 0#32
  let c0_i32_131 : BitVec 32 := 0#32
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v241 : BitVec 32 := Scalar.subi v240 c0_i32_131
  let c1_i32_132 : BitVec 32 := 1#32
  let v243 : BitVec 32 := Scalar.divsi v241 c1_i32_132
  let v244 : BitVec 32 := Scalar.muli v243 c1_i32_132
  let v245 : BitVec 32 := Scalar.addi c0_i32_131 v244
  let c1_i32_134 : BitVec 32 := 1#32
  let arg11 : BitVec 32 := Scf.iv v245 c1_i32_134 k0_t2
  let c16_i32_422 : BitVec 32 := 16#32
  let v652 : BitVec 32 := Scalar.muli arg11 c16_i32_422
  let c0_i32_429 : BitVec 32 := 0#32
  ![0, v652.toNat, 0]

def k0_chk1 (d0 : Dev nD) (v236 : BitVec 32) : Prop :=
  ((k0_t1_loop d0 v236).OK) ∧
  (∀ k0_t1 : Fin (k0_t1_loop d0 v236).trips, ∀ a, (k0_off3 d0 v236 k0_t1) a + S1x16x512.size a ≤ S8x192x512.size a) ∧
  (∀ k0_t1 : Fin (k0_t1_loop d0 v236).trips, ∀ a, (k0_off4 d0 v236 k0_t1) a + S1x16x512.size a ≤ S8x192x512.size a) ∧
  (∀ k0_t1 : Fin (k0_t1_loop d0 v236).trips, ∀ (hinb : ∀ a, (k0_off4 d0 v236 k0_t1) a + S1x16x512.size a ≤ S8x192x512.size a), (Rect.unit (s := S8x192x512) (k0_off4 d0 v236 k0_t1) S1x16x512.size hinb).WholeWords (EltTy.packing .bf16)) ∧
  (∀ k0_t1 : Fin (k0_t1_loop d0 v236).trips, ∀ (hinb : ∀ a, (k0_off3 d0 v236 k0_t1) a + S1x16x512.size a ≤ S8x192x512.size a), (Rect.unit (s := S8x192x512) (k0_off3 d0 v236 k0_t1) S1x16x512.size hinb).WholeWords (EltTy.packing .bf16)) ∧
  ((k0_t2_loop d0 v236).OK) ∧
  (∀ k0_t2 : Fin (k0_t2_loop d0 v236).trips, ∀ a, (k0_off5 d0 v236 k0_t2) a + S1x16x512.size a ≤ S8x192x512.size a) ∧
  (∀ k0_t2 : Fin (k0_t2_loop d0 v236).trips, ∀ a, (k0_off6 d0 v236 k0_t2) a + S1x16x512.size a ≤ S8x192x512.size a) ∧
  (∀ k0_t2 : Fin (k0_t2_loop d0 v236).trips, ∀ (hinb : ∀ a, (k0_off6 d0 v236 k0_t2) a + S1x16x512.size a ≤ S8x192x512.size a), (Rect.unit (s := S8x192x512) (k0_off6 d0 v236 k0_t2) S1x16x512.size hinb).WholeWords (EltTy.packing .bf16)) ∧
  (∀ k0_t2 : Fin (k0_t2_loop d0 v236).trips, ∀ (hinb : ∀ a, (k0_off5 d0 v236 k0_t2) a + S1x16x512.size a ≤ S8x192x512.size a), (Rect.unit (s := S8x192x512) (k0_off5 d0 v236 k0_t2) S1x16x512.size hinb).WholeWords (EltTy.packing .bf16))
theorem k0_t1_ok : ∀ (d0 : Dev nD) (v236 : BitVec 32) (k0_hw1 : k0_chk1 d0 v236), (k0_t1_loop d0 v236).OK := fun d0 v236 k0_hw1 => k0_hw1.1
theorem k0_off3_inb : ∀ (d0 : Dev nD) (v236 : BitVec 32) (k0_hw1 : k0_chk1 d0 v236) (k0_t1 : Fin (k0_t1_loop d0 v236).trips), ∀ a, (k0_off3 d0 v236 k0_t1) a + S1x16x512.size a ≤ S8x192x512.size a := fun d0 v236 k0_hw1 k0_t1 => k0_hw1.2.1 k0_t1
theorem k0_off4_inb : ∀ (d0 : Dev nD) (v236 : BitVec 32) (k0_hw1 : k0_chk1 d0 v236) (k0_t1 : Fin (k0_t1_loop d0 v236).trips), ∀ a, (k0_off4 d0 v236 k0_t1) a + S1x16x512.size a ≤ S8x192x512.size a := fun d0 v236 k0_hw1 k0_t1 => k0_hw1.2.2.1 k0_t1
theorem k0_off4_wordsbf16 : ∀ (d0 : Dev nD) (v236 : BitVec 32) (k0_hw1 : k0_chk1 d0 v236) (k0_t1 : Fin (k0_t1_loop d0 v236).trips), (Rect.unit (s := S8x192x512) (k0_off4 d0 v236 k0_t1) S1x16x512.size (k0_off4_inb d0 v236 k0_hw1 k0_t1)).WholeWords (EltTy.packing .bf16) := fun d0 v236 k0_hw1 k0_t1 => k0_hw1.2.2.2.1 k0_t1 (k0_off4_inb d0 v236 k0_hw1 k0_t1)
theorem k0_off3_wordsbf16 : ∀ (d0 : Dev nD) (v236 : BitVec 32) (k0_hw1 : k0_chk1 d0 v236) (k0_t1 : Fin (k0_t1_loop d0 v236).trips), (Rect.unit (s := S8x192x512) (k0_off3 d0 v236 k0_t1) S1x16x512.size (k0_off3_inb d0 v236 k0_hw1 k0_t1)).WholeWords (EltTy.packing .bf16) := fun d0 v236 k0_hw1 k0_t1 => k0_hw1.2.2.2.2.1 k0_t1 (k0_off3_inb d0 v236 k0_hw1 k0_t1)
theorem k0_t2_ok : ∀ (d0 : Dev nD) (v236 : BitVec 32) (k0_hw1 : k0_chk1 d0 v236), (k0_t2_loop d0 v236).OK := fun d0 v236 k0_hw1 => k0_hw1.2.2.2.2.2.1
theorem k0_off5_inb : ∀ (d0 : Dev nD) (v236 : BitVec 32) (k0_hw1 : k0_chk1 d0 v236) (k0_t2 : Fin (k0_t2_loop d0 v236).trips), ∀ a, (k0_off5 d0 v236 k0_t2) a + S1x16x512.size a ≤ S8x192x512.size a := fun d0 v236 k0_hw1 k0_t2 => k0_hw1.2.2.2.2.2.2.1 k0_t2
theorem k0_off6_inb : ∀ (d0 : Dev nD) (v236 : BitVec 32) (k0_hw1 : k0_chk1 d0 v236) (k0_t2 : Fin (k0_t2_loop d0 v236).trips), ∀ a, (k0_off6 d0 v236 k0_t2) a + S1x16x512.size a ≤ S8x192x512.size a := fun d0 v236 k0_hw1 k0_t2 => k0_hw1.2.2.2.2.2.2.2.1 k0_t2
theorem k0_off6_wordsbf16 : ∀ (d0 : Dev nD) (v236 : BitVec 32) (k0_hw1 : k0_chk1 d0 v236) (k0_t2 : Fin (k0_t2_loop d0 v236).trips), (Rect.unit (s := S8x192x512) (k0_off6 d0 v236 k0_t2) S1x16x512.size (k0_off6_inb d0 v236 k0_hw1 k0_t2)).WholeWords (EltTy.packing .bf16) := fun d0 v236 k0_hw1 k0_t2 => k0_hw1.2.2.2.2.2.2.2.2.1 k0_t2 (k0_off6_inb d0 v236 k0_hw1 k0_t2)
theorem k0_off5_wordsbf16 : ∀ (d0 : Dev nD) (v236 : BitVec 32) (k0_hw1 : k0_chk1 d0 v236) (k0_t2 : Fin (k0_t2_loop d0 v236).trips), (Rect.unit (s := S8x192x512) (k0_off5 d0 v236 k0_t2) S1x16x512.size (k0_off5_inb d0 v236 k0_hw1 k0_t2)).WholeWords (EltTy.packing .bf16) := fun d0 v236 k0_hw1 k0_t2 => k0_hw1.2.2.2.2.2.2.2.2.2 k0_t2 (k0_off5_inb d0 v236 k0_hw1 k0_t2)

def k0_dev16 : Nat :=
  let c0_i32_427 : BitVec 32 := 0#32
  let c0_i32_425 : BitVec 32 := 0#32
  let c1_i32_426 : BitVec 32 := 1#32
  let v654 : BitVec 32 := Scalar.muli c0_i32_425 c1_i32_426
  let v655 : BitVec 32 := Scalar.addi c0_i32_427 v654
  v655.toNat
@[reducible] def k0_t3_loop (d0 : Dev nD) (v248 : BitVec 32) : Scf.Loop 32 :=
  let c0_i32_144 : BitVec 32 := 0#32
  let c1_i32_141 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v253 : BitVec 32 := Scalar.subi v252 c0_i32_144
  let c1_i32_145 : BitVec 32 := 1#32
  let v255 : BitVec 32 := Scalar.divsi v253 c1_i32_145
  let v256 : BitVec 32 := Scalar.muli v255 c1_i32_145
  let v257 : BitVec 32 := Scalar.addi c0_i32_144 v256
  let c1_i32_146 : BitVec 32 := 1#32
  ⟨c0_i32_144, v257, c1_i32_146⟩

def k0_off7 (d0 : Dev nD) (v248 : BitVec 32) (k0_t3 : Fin (k0_t3_loop d0 v248).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_144 : BitVec 32 := 0#32
  let c1_i32_146 : BitVec 32 := 1#32
  let arg11 : BitVec 32 := Scf.iv c0_i32_144 c1_i32_146 k0_t3
  let c16_i32_423 : BitVec 32 := 16#32
  let v653 : BitVec 32 := Scalar.muli arg11 c16_i32_423
  let c0_i32_428 : BitVec 32 := 0#32
  ![v2.toNat, v653.toNat, 0]
def k0_off8 (d0 : Dev nD) (v248 : BitVec 32) (k0_t3 : Fin (k0_t3_loop d0 v248).trips) : Fin 3 → Nat :=
  let c1_i32_424 : BitVec 32 := 1#32
  let c0_i32_144 : BitVec 32 := 0#32
  let c1_i32_146 : BitVec 32 := 1#32
  let arg11 : BitVec 32 := Scf.iv c0_i32_144 c1_i32_146 k0_t3
  let c16_i32_422 : BitVec 32 := 16#32
  let v652 : BitVec 32 := Scalar.muli arg11 c16_i32_422
  let c0_i32_429 : BitVec 32 := 0#32
  ![1, v652.toNat, 0]
def k0_dev17 : Nat :=
  let c0_i32_427 : BitVec 32 := 0#32
  let c1_i32_425 : BitVec 32 := 1#32
  let c1_i32_426 : BitVec 32 := 1#32
  let v654 : BitVec 32 := Scalar.muli c1_i32_425 c1_i32_426
  let v655 : BitVec 32 := Scalar.addi c0_i32_427 v654
  v655.toNat
@[reducible] def k0_t4_loop (d0 : Dev nD) (v248 : BitVec 32) : Scf.Loop 32 :=
  let c0_i32_144 : BitVec 32 := 0#32
  let c1_i32_141 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v253 : BitVec 32 := Scalar.subi v252 c0_i32_144
  let c1_i32_145 : BitVec 32 := 1#32
  let v255 : BitVec 32 := Scalar.divsi v253 c1_i32_145
  let v256 : BitVec 32 := Scalar.muli v255 c1_i32_145
  let v257 : BitVec 32 := Scalar.addi c0_i32_144 v256
  let v254 : BitVec 32 := Scalar.addi c0_i32_144 v253
  let c1_i32_147 : BitVec 32 := 1#32
  ⟨v257, v254, c1_i32_147⟩
def k0_off9 (d0 : Dev nD) (v248 : BitVec 32) (k0_t4 : Fin (k0_t4_loop d0 v248).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_144 : BitVec 32 := 0#32
  let c1_i32_141 : BitVec 32 := 1#32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v253 : BitVec 32 := Scalar.subi v252 c0_i32_144
  let c1_i32_145 : BitVec 32 := 1#32
  let v255 : BitVec 32 := Scalar.divsi v253 c1_i32_145
  let v256 : BitVec 32 := Scalar.muli v255 c1_i32_145
  let v257 : BitVec 32 := Scalar.addi c0_i32_144 v256
  let c1_i32_147 : BitVec 32 := 1#32
  let arg11 : BitVec 32 := Scf.iv v257 c1_i32_147 k0_t4
  let c16_i32_423 : BitVec 32 := 16#32
  let v653 : BitVec 32 := Scalar.muli arg11 c16_i32_423
  let c0_i32_428 : BitVec 32 := 0#32
  ![v2.toNat, v653.toNat, 0]
def k0_off10 (d0 : Dev nD) (v248 : BitVec 32) (k0_t4 : Fin (k0_t4_loop d0 v248).trips) : Fin 3 → Nat :=
  let c1_i32_424 : BitVec 32 := 1#32
  let c0_i32_144 : BitVec 32 := 0#32
  let c1_i32_141 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v253 : BitVec 32 := Scalar.subi v252 c0_i32_144
  let c1_i32_145 : BitVec 32 := 1#32
  let v255 : BitVec 32 := Scalar.divsi v253 c1_i32_145
  let v256 : BitVec 32 := Scalar.muli v255 c1_i32_145
  let v257 : BitVec 32 := Scalar.addi c0_i32_144 v256
  let c1_i32_147 : BitVec 32 := 1#32
  let arg11 : BitVec 32 := Scf.iv v257 c1_i32_147 k0_t4
  let c16_i32_422 : BitVec 32 := 16#32
  let v652 : BitVec 32 := Scalar.muli arg11 c16_i32_422
  let c0_i32_429 : BitVec 32 := 0#32
  ![1, v652.toNat, 0]

def k0_chk2 (d0 : Dev nD) (v248 : BitVec 32) : Prop :=
  ((k0_t3_loop d0 v248).OK) ∧
  (∀ k0_t3 : Fin (k0_t3_loop d0 v248).trips, ∀ a, (k0_off7 d0 v248 k0_t3) a + S1x16x512.size a ≤ S8x192x512.size a) ∧
  (∀ k0_t3 : Fin (k0_t3_loop d0 v248).trips, ∀ a, (k0_off8 d0 v248 k0_t3) a + S1x16x512.size a ≤ S8x192x512.size a) ∧
  (∀ k0_t3 : Fin (k0_t3_loop d0 v248).trips, ∀ (hinb : ∀ a, (k0_off8 d0 v248 k0_t3) a + S1x16x512.size a ≤ S8x192x512.size a), (Rect.unit (s := S8x192x512) (k0_off8 d0 v248 k0_t3) S1x16x512.size hinb).WholeWords (EltTy.packing .bf16)) ∧
  (∀ k0_t3 : Fin (k0_t3_loop d0 v248).trips, ∀ (hinb : ∀ a, (k0_off7 d0 v248 k0_t3) a + S1x16x512.size a ≤ S8x192x512.size a), (Rect.unit (s := S8x192x512) (k0_off7 d0 v248 k0_t3) S1x16x512.size hinb).WholeWords (EltTy.packing .bf16)) ∧
  ((k0_t4_loop d0 v248).OK) ∧
  (∀ k0_t4 : Fin (k0_t4_loop d0 v248).trips, ∀ a, (k0_off9 d0 v248 k0_t4) a + S1x16x512.size a ≤ S8x192x512.size a) ∧
  (∀ k0_t4 : Fin (k0_t4_loop d0 v248).trips, ∀ a, (k0_off10 d0 v248 k0_t4) a + S1x16x512.size a ≤ S8x192x512.size a) ∧
  (∀ k0_t4 : Fin (k0_t4_loop d0 v248).trips, ∀ (hinb : ∀ a, (k0_off10 d0 v248 k0_t4) a + S1x16x512.size a ≤ S8x192x512.size a), (Rect.unit (s := S8x192x512) (k0_off10 d0 v248 k0_t4) S1x16x512.size hinb).WholeWords (EltTy.packing .bf16)) ∧
  (∀ k0_t4 : Fin (k0_t4_loop d0 v248).trips, ∀ (hinb : ∀ a, (k0_off9 d0 v248 k0_t4) a + S1x16x512.size a ≤ S8x192x512.size a), (Rect.unit (s := S8x192x512) (k0_off9 d0 v248 k0_t4) S1x16x512.size hinb).WholeWords (EltTy.packing .bf16))
theorem k0_t3_ok : ∀ (d0 : Dev nD) (v248 : BitVec 32) (k0_hw2 : k0_chk2 d0 v248), (k0_t3_loop d0 v248).OK := fun d0 v248 k0_hw2 => k0_hw2.1
theorem k0_off7_inb : ∀ (d0 : Dev nD) (v248 : BitVec 32) (k0_hw2 : k0_chk2 d0 v248) (k0_t3 : Fin (k0_t3_loop d0 v248).trips), ∀ a, (k0_off7 d0 v248 k0_t3) a + S1x16x512.size a ≤ S8x192x512.size a := fun d0 v248 k0_hw2 k0_t3 => k0_hw2.2.1 k0_t3
theorem k0_off8_inb : ∀ (d0 : Dev nD) (v248 : BitVec 32) (k0_hw2 : k0_chk2 d0 v248) (k0_t3 : Fin (k0_t3_loop d0 v248).trips), ∀ a, (k0_off8 d0 v248 k0_t3) a + S1x16x512.size a ≤ S8x192x512.size a := fun d0 v248 k0_hw2 k0_t3 => k0_hw2.2.2.1 k0_t3
theorem k0_off8_wordsbf16 : ∀ (d0 : Dev nD) (v248 : BitVec 32) (k0_hw2 : k0_chk2 d0 v248) (k0_t3 : Fin (k0_t3_loop d0 v248).trips), (Rect.unit (s := S8x192x512) (k0_off8 d0 v248 k0_t3) S1x16x512.size (k0_off8_inb d0 v248 k0_hw2 k0_t3)).WholeWords (EltTy.packing .bf16) := fun d0 v248 k0_hw2 k0_t3 => k0_hw2.2.2.2.1 k0_t3 (k0_off8_inb d0 v248 k0_hw2 k0_t3)
theorem k0_off7_wordsbf16 : ∀ (d0 : Dev nD) (v248 : BitVec 32) (k0_hw2 : k0_chk2 d0 v248) (k0_t3 : Fin (k0_t3_loop d0 v248).trips), (Rect.unit (s := S8x192x512) (k0_off7 d0 v248 k0_t3) S1x16x512.size (k0_off7_inb d0 v248 k0_hw2 k0_t3)).WholeWords (EltTy.packing .bf16) := fun d0 v248 k0_hw2 k0_t3 => k0_hw2.2.2.2.2.1 k0_t3 (k0_off7_inb d0 v248 k0_hw2 k0_t3)
theorem k0_t4_ok : ∀ (d0 : Dev nD) (v248 : BitVec 32) (k0_hw2 : k0_chk2 d0 v248), (k0_t4_loop d0 v248).OK := fun d0 v248 k0_hw2 => k0_hw2.2.2.2.2.2.1
theorem k0_off9_inb : ∀ (d0 : Dev nD) (v248 : BitVec 32) (k0_hw2 : k0_chk2 d0 v248) (k0_t4 : Fin (k0_t4_loop d0 v248).trips), ∀ a, (k0_off9 d0 v248 k0_t4) a + S1x16x512.size a ≤ S8x192x512.size a := fun d0 v248 k0_hw2 k0_t4 => k0_hw2.2.2.2.2.2.2.1 k0_t4
theorem k0_off10_inb : ∀ (d0 : Dev nD) (v248 : BitVec 32) (k0_hw2 : k0_chk2 d0 v248) (k0_t4 : Fin (k0_t4_loop d0 v248).trips), ∀ a, (k0_off10 d0 v248 k0_t4) a + S1x16x512.size a ≤ S8x192x512.size a := fun d0 v248 k0_hw2 k0_t4 => k0_hw2.2.2.2.2.2.2.2.1 k0_t4
theorem k0_off10_wordsbf16 : ∀ (d0 : Dev nD) (v248 : BitVec 32) (k0_hw2 : k0_chk2 d0 v248) (k0_t4 : Fin (k0_t4_loop d0 v248).trips), (Rect.unit (s := S8x192x512) (k0_off10 d0 v248 k0_t4) S1x16x512.size (k0_off10_inb d0 v248 k0_hw2 k0_t4)).WholeWords (EltTy.packing .bf16) := fun d0 v248 k0_hw2 k0_t4 => k0_hw2.2.2.2.2.2.2.2.2.1 k0_t4 (k0_off10_inb d0 v248 k0_hw2 k0_t4)
theorem k0_off9_wordsbf16 : ∀ (d0 : Dev nD) (v248 : BitVec 32) (k0_hw2 : k0_chk2 d0 v248) (k0_t4 : Fin (k0_t4_loop d0 v248).trips), (Rect.unit (s := S8x192x512) (k0_off9 d0 v248 k0_t4) S1x16x512.size (k0_off9_inb d0 v248 k0_hw2 k0_t4)).WholeWords (EltTy.packing .bf16) := fun d0 v248 k0_hw2 k0_t4 => k0_hw2.2.2.2.2.2.2.2.2.2 k0_t4 (k0_off9_inb d0 v248 k0_hw2 k0_t4)

def k0_dev18 : Nat :=
  let c0_i32_427 : BitVec 32 := 0#32
  let c1_i32_425 : BitVec 32 := 1#32
  let c1_i32_426 : BitVec 32 := 1#32
  let v654 : BitVec 32 := Scalar.muli c1_i32_425 c1_i32_426
  let v655 : BitVec 32 := Scalar.addi c0_i32_427 v654
  v655.toNat
@[reducible] def k0_t5_loop (d0 : Dev nD) (v260 : BitVec 32) : Scf.Loop 32 :=
  let c0_i32_156 : BitVec 32 := 0#32
  let c2_i32_153 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v265 : BitVec 32 := Scalar.subi v264 c0_i32_156
  let c1_i32_157 : BitVec 32 := 1#32
  let v267 : BitVec 32 := Scalar.divsi v265 c1_i32_157
  let v268 : BitVec 32 := Scalar.muli v267 c1_i32_157
  let v269 : BitVec 32 := Scalar.addi c0_i32_156 v268
  let c1_i32_158 : BitVec 32 := 1#32
  ⟨c0_i32_156, v269, c1_i32_158⟩

def k0_off11 (d0 : Dev nD) (v260 : BitVec 32) (k0_t5 : Fin (k0_t5_loop d0 v260).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_156 : BitVec 32 := 0#32
  let c1_i32_158 : BitVec 32 := 1#32
  let arg11 : BitVec 32 := Scf.iv c0_i32_156 c1_i32_158 k0_t5
  let c16_i32_423 : BitVec 32 := 16#32
  let v653 : BitVec 32 := Scalar.muli arg11 c16_i32_423
  let c0_i32_428 : BitVec 32 := 0#32
  ![v2.toNat, v653.toNat, 0]
def k0_off12 (d0 : Dev nD) (v260 : BitVec 32) (k0_t5 : Fin (k0_t5_loop d0 v260).trips) : Fin 3 → Nat :=
  let c2_i32_424 : BitVec 32 := 2#32
  let c0_i32_156 : BitVec 32 := 0#32
  let c1_i32_158 : BitVec 32 := 1#32
  let arg11 : BitVec 32 := Scf.iv c0_i32_156 c1_i32_158 k0_t5
  let c16_i32_422 : BitVec 32 := 16#32
  let v652 : BitVec 32 := Scalar.muli arg11 c16_i32_422
  let c0_i32_429 : BitVec 32 := 0#32
  ![2, v652.toNat, 0]
def k0_dev19 : Nat :=
  let c0_i32_427 : BitVec 32 := 0#32
  let c2_i32_425 : BitVec 32 := 2#32
  let c1_i32_426 : BitVec 32 := 1#32
  let v654 : BitVec 32 := Scalar.muli c2_i32_425 c1_i32_426
  let v655 : BitVec 32 := Scalar.addi c0_i32_427 v654
  v655.toNat
@[reducible] def k0_t6_loop (d0 : Dev nD) (v260 : BitVec 32) : Scf.Loop 32 :=
  let c0_i32_156 : BitVec 32 := 0#32
  let c2_i32_153 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v265 : BitVec 32 := Scalar.subi v264 c0_i32_156
  let c1_i32_157 : BitVec 32 := 1#32
  let v267 : BitVec 32 := Scalar.divsi v265 c1_i32_157
  let v268 : BitVec 32 := Scalar.muli v267 c1_i32_157
  let v269 : BitVec 32 := Scalar.addi c0_i32_156 v268
  let v266 : BitVec 32 := Scalar.addi c0_i32_156 v265
  let c1_i32_159 : BitVec 32 := 1#32
  ⟨v269, v266, c1_i32_159⟩
def k0_off13 (d0 : Dev nD) (v260 : BitVec 32) (k0_t6 : Fin (k0_t6_loop d0 v260).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_156 : BitVec 32 := 0#32
  let c2_i32_153 : BitVec 32 := 2#32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v265 : BitVec 32 := Scalar.subi v264 c0_i32_156
  let c1_i32_157 : BitVec 32 := 1#32
  let v267 : BitVec 32 := Scalar.divsi v265 c1_i32_157
  let v268 : BitVec 32 := Scalar.muli v267 c1_i32_157
  let v269 : BitVec 32 := Scalar.addi c0_i32_156 v268
  let c1_i32_159 : BitVec 32 := 1#32
  let arg11 : BitVec 32 := Scf.iv v269 c1_i32_159 k0_t6
  let c16_i32_423 : BitVec 32 := 16#32
  let v653 : BitVec 32 := Scalar.muli arg11 c16_i32_423
  let c0_i32_428 : BitVec 32 := 0#32
  ![v2.toNat, v653.toNat, 0]
def k0_off14 (d0 : Dev nD) (v260 : BitVec 32) (k0_t6 : Fin (k0_t6_loop d0 v260).trips) : Fin 3 → Nat :=
  let c2_i32_424 : BitVec 32 := 2#32
  let c0_i32_156 : BitVec 32 := 0#32
  let c2_i32_153 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v265 : BitVec 32 := Scalar.subi v264 c0_i32_156
  let c1_i32_157 : BitVec 32 := 1#32
  let v267 : BitVec 32 := Scalar.divsi v265 c1_i32_157
  let v268 : BitVec 32 := Scalar.muli v267 c1_i32_157
  let v269 : BitVec 32 := Scalar.addi c0_i32_156 v268
  let c1_i32_159 : BitVec 32 := 1#32
  let arg11 : BitVec 32 := Scf.iv v269 c1_i32_159 k0_t6
  let c16_i32_422 : BitVec 32 := 16#32
  let v652 : BitVec 32 := Scalar.muli arg11 c16_i32_422
  let c0_i32_429 : BitVec 32 := 0#32
  ![2, v652.toNat, 0]

def k0_chk3 (d0 : Dev nD) (v260 : BitVec 32) : Prop :=
  ((k0_t5_loop d0 v260).OK) ∧
  (∀ k0_t5 : Fin (k0_t5_loop d0 v260).trips, ∀ a, (k0_off11 d0 v260 k0_t5) a + S1x16x512.size a ≤ S8x192x512.size a) ∧
  (∀ k0_t5 : Fin (k0_t5_loop d0 v260).trips, ∀ a, (k0_off12 d0 v260 k0_t5) a + S1x16x512.size a ≤ S8x192x512.size a) ∧
  (∀ k0_t5 : Fin (k0_t5_loop d0 v260).trips, ∀ (hinb : ∀ a, (k0_off12 d0 v260 k0_t5) a + S1x16x512.size a ≤ S8x192x512.size a), (Rect.unit (s := S8x192x512) (k0_off12 d0 v260 k0_t5) S1x16x512.size hinb).WholeWords (EltTy.packing .bf16)) ∧
  (∀ k0_t5 : Fin (k0_t5_loop d0 v260).trips, ∀ (hinb : ∀ a, (k0_off11 d0 v260 k0_t5) a + S1x16x512.size a ≤ S8x192x512.size a), (Rect.unit (s := S8x192x512) (k0_off11 d0 v260 k0_t5) S1x16x512.size hinb).WholeWords (EltTy.packing .bf16)) ∧
  ((k0_t6_loop d0 v260).OK) ∧
  (∀ k0_t6 : Fin (k0_t6_loop d0 v260).trips, ∀ a, (k0_off13 d0 v260 k0_t6) a + S1x16x512.size a ≤ S8x192x512.size a) ∧
  (∀ k0_t6 : Fin (k0_t6_loop d0 v260).trips, ∀ a, (k0_off14 d0 v260 k0_t6) a + S1x16x512.size a ≤ S8x192x512.size a) ∧
  (∀ k0_t6 : Fin (k0_t6_loop d0 v260).trips, ∀ (hinb : ∀ a, (k0_off14 d0 v260 k0_t6) a + S1x16x512.size a ≤ S8x192x512.size a), (Rect.unit (s := S8x192x512) (k0_off14 d0 v260 k0_t6) S1x16x512.size hinb).WholeWords (EltTy.packing .bf16)) ∧
  (∀ k0_t6 : Fin (k0_t6_loop d0 v260).trips, ∀ (hinb : ∀ a, (k0_off13 d0 v260 k0_t6) a + S1x16x512.size a ≤ S8x192x512.size a), (Rect.unit (s := S8x192x512) (k0_off13 d0 v260 k0_t6) S1x16x512.size hinb).WholeWords (EltTy.packing .bf16))
theorem k0_t5_ok : ∀ (d0 : Dev nD) (v260 : BitVec 32) (k0_hw3 : k0_chk3 d0 v260), (k0_t5_loop d0 v260).OK := fun d0 v260 k0_hw3 => k0_hw3.1
theorem k0_off11_inb : ∀ (d0 : Dev nD) (v260 : BitVec 32) (k0_hw3 : k0_chk3 d0 v260) (k0_t5 : Fin (k0_t5_loop d0 v260).trips), ∀ a, (k0_off11 d0 v260 k0_t5) a + S1x16x512.size a ≤ S8x192x512.size a := fun d0 v260 k0_hw3 k0_t5 => k0_hw3.2.1 k0_t5
theorem k0_off12_inb : ∀ (d0 : Dev nD) (v260 : BitVec 32) (k0_hw3 : k0_chk3 d0 v260) (k0_t5 : Fin (k0_t5_loop d0 v260).trips), ∀ a, (k0_off12 d0 v260 k0_t5) a + S1x16x512.size a ≤ S8x192x512.size a := fun d0 v260 k0_hw3 k0_t5 => k0_hw3.2.2.1 k0_t5
theorem k0_off12_wordsbf16 : ∀ (d0 : Dev nD) (v260 : BitVec 32) (k0_hw3 : k0_chk3 d0 v260) (k0_t5 : Fin (k0_t5_loop d0 v260).trips), (Rect.unit (s := S8x192x512) (k0_off12 d0 v260 k0_t5) S1x16x512.size (k0_off12_inb d0 v260 k0_hw3 k0_t5)).WholeWords (EltTy.packing .bf16) := fun d0 v260 k0_hw3 k0_t5 => k0_hw3.2.2.2.1 k0_t5 (k0_off12_inb d0 v260 k0_hw3 k0_t5)
theorem k0_off11_wordsbf16 : ∀ (d0 : Dev nD) (v260 : BitVec 32) (k0_hw3 : k0_chk3 d0 v260) (k0_t5 : Fin (k0_t5_loop d0 v260).trips), (Rect.unit (s := S8x192x512) (k0_off11 d0 v260 k0_t5) S1x16x512.size (k0_off11_inb d0 v260 k0_hw3 k0_t5)).WholeWords (EltTy.packing .bf16) := fun d0 v260 k0_hw3 k0_t5 => k0_hw3.2.2.2.2.1 k0_t5 (k0_off11_inb d0 v260 k0_hw3 k0_t5)
theorem k0_t6_ok : ∀ (d0 : Dev nD) (v260 : BitVec 32) (k0_hw3 : k0_chk3 d0 v260), (k0_t6_loop d0 v260).OK := fun d0 v260 k0_hw3 => k0_hw3.2.2.2.2.2.1
theorem k0_off13_inb : ∀ (d0 : Dev nD) (v260 : BitVec 32) (k0_hw3 : k0_chk3 d0 v260) (k0_t6 : Fin (k0_t6_loop d0 v260).trips), ∀ a, (k0_off13 d0 v260 k0_t6) a + S1x16x512.size a ≤ S8x192x512.size a := fun d0 v260 k0_hw3 k0_t6 => k0_hw3.2.2.2.2.2.2.1 k0_t6
theorem k0_off14_inb : ∀ (d0 : Dev nD) (v260 : BitVec 32) (k0_hw3 : k0_chk3 d0 v260) (k0_t6 : Fin (k0_t6_loop d0 v260).trips), ∀ a, (k0_off14 d0 v260 k0_t6) a + S1x16x512.size a ≤ S8x192x512.size a := fun d0 v260 k0_hw3 k0_t6 => k0_hw3.2.2.2.2.2.2.2.1 k0_t6
theorem k0_off14_wordsbf16 : ∀ (d0 : Dev nD) (v260 : BitVec 32) (k0_hw3 : k0_chk3 d0 v260) (k0_t6 : Fin (k0_t6_loop d0 v260).trips), (Rect.unit (s := S8x192x512) (k0_off14 d0 v260 k0_t6) S1x16x512.size (k0_off14_inb d0 v260 k0_hw3 k0_t6)).WholeWords (EltTy.packing .bf16) := fun d0 v260 k0_hw3 k0_t6 => k0_hw3.2.2.2.2.2.2.2.2.1 k0_t6 (k0_off14_inb d0 v260 k0_hw3 k0_t6)
theorem k0_off13_wordsbf16 : ∀ (d0 : Dev nD) (v260 : BitVec 32) (k0_hw3 : k0_chk3 d0 v260) (k0_t6 : Fin (k0_t6_loop d0 v260).trips), (Rect.unit (s := S8x192x512) (k0_off13 d0 v260 k0_t6) S1x16x512.size (k0_off13_inb d0 v260 k0_hw3 k0_t6)).WholeWords (EltTy.packing .bf16) := fun d0 v260 k0_hw3 k0_t6 => k0_hw3.2.2.2.2.2.2.2.2.2 k0_t6 (k0_off13_inb d0 v260 k0_hw3 k0_t6)

def k0_dev20 : Nat :=
  let c0_i32_427 : BitVec 32 := 0#32
  let c2_i32_425 : BitVec 32 := 2#32
  let c1_i32_426 : BitVec 32 := 1#32
  let v654 : BitVec 32 := Scalar.muli c2_i32_425 c1_i32_426
  let v655 : BitVec 32 := Scalar.addi c0_i32_427 v654
  v655.toNat
@[reducible] def k0_t7_loop (d0 : Dev nD) (v272 : BitVec 32) : Scf.Loop 32 :=
  let c0_i32_168 : BitVec 32 := 0#32
  let c3_i32_165 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v277 : BitVec 32 := Scalar.subi v276 c0_i32_168
  let c1_i32_169 : BitVec 32 := 1#32
  let v279 : BitVec 32 := Scalar.divsi v277 c1_i32_169
  let v280 : BitVec 32 := Scalar.muli v279 c1_i32_169
  let v281 : BitVec 32 := Scalar.addi c0_i32_168 v280
  let c1_i32_170 : BitVec 32 := 1#32
  ⟨c0_i32_168, v281, c1_i32_170⟩

def k0_off15 (d0 : Dev nD) (v272 : BitVec 32) (k0_t7 : Fin (k0_t7_loop d0 v272).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_168 : BitVec 32 := 0#32
  let c1_i32_170 : BitVec 32 := 1#32
  let arg11 : BitVec 32 := Scf.iv c0_i32_168 c1_i32_170 k0_t7
  let c16_i32_423 : BitVec 32 := 16#32
  let v653 : BitVec 32 := Scalar.muli arg11 c16_i32_423
  let c0_i32_428 : BitVec 32 := 0#32
  ![v2.toNat, v653.toNat, 0]
def k0_off16 (d0 : Dev nD) (v272 : BitVec 32) (k0_t7 : Fin (k0_t7_loop d0 v272).trips) : Fin 3 → Nat :=
  let c3_i32_424 : BitVec 32 := 3#32
  let c0_i32_168 : BitVec 32 := 0#32
  let c1_i32_170 : BitVec 32 := 1#32
  let arg11 : BitVec 32 := Scf.iv c0_i32_168 c1_i32_170 k0_t7
  let c16_i32_422 : BitVec 32 := 16#32
  let v652 : BitVec 32 := Scalar.muli arg11 c16_i32_422
  let c0_i32_429 : BitVec 32 := 0#32
  ![3, v652.toNat, 0]
def k0_dev21 : Nat :=
  let c0_i32_427 : BitVec 32 := 0#32
  let c3_i32_425 : BitVec 32 := 3#32
  let c1_i32_426 : BitVec 32 := 1#32
  let v654 : BitVec 32 := Scalar.muli c3_i32_425 c1_i32_426
  let v655 : BitVec 32 := Scalar.addi c0_i32_427 v654
  v655.toNat
@[reducible] def k0_t8_loop (d0 : Dev nD) (v272 : BitVec 32) : Scf.Loop 32 :=
  let c0_i32_168 : BitVec 32 := 0#32
  let c3_i32_165 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v277 : BitVec 32 := Scalar.subi v276 c0_i32_168
  let c1_i32_169 : BitVec 32 := 1#32
  let v279 : BitVec 32 := Scalar.divsi v277 c1_i32_169
  let v280 : BitVec 32 := Scalar.muli v279 c1_i32_169
  let v281 : BitVec 32 := Scalar.addi c0_i32_168 v280
  let v278 : BitVec 32 := Scalar.addi c0_i32_168 v277
  let c1_i32_171 : BitVec 32 := 1#32
  ⟨v281, v278, c1_i32_171⟩
def k0_off17 (d0 : Dev nD) (v272 : BitVec 32) (k0_t8 : Fin (k0_t8_loop d0 v272).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_168 : BitVec 32 := 0#32
  let c3_i32_165 : BitVec 32 := 3#32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v277 : BitVec 32 := Scalar.subi v276 c0_i32_168
  let c1_i32_169 : BitVec 32 := 1#32
  let v279 : BitVec 32 := Scalar.divsi v277 c1_i32_169
  let v280 : BitVec 32 := Scalar.muli v279 c1_i32_169
  let v281 : BitVec 32 := Scalar.addi c0_i32_168 v280
  let c1_i32_171 : BitVec 32 := 1#32
  let arg11 : BitVec 32 := Scf.iv v281 c1_i32_171 k0_t8
  let c16_i32_423 : BitVec 32 := 16#32
  let v653 : BitVec 32 := Scalar.muli arg11 c16_i32_423
  let c0_i32_428 : BitVec 32 := 0#32
  ![v2.toNat, v653.toNat, 0]
def k0_off18 (d0 : Dev nD) (v272 : BitVec 32) (k0_t8 : Fin (k0_t8_loop d0 v272).trips) : Fin 3 → Nat :=
  let c3_i32_424 : BitVec 32 := 3#32
  let c0_i32_168 : BitVec 32 := 0#32
  let c3_i32_165 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v277 : BitVec 32 := Scalar.subi v276 c0_i32_168
  let c1_i32_169 : BitVec 32 := 1#32
  let v279 : BitVec 32 := Scalar.divsi v277 c1_i32_169
  let v280 : BitVec 32 := Scalar.muli v279 c1_i32_169
  let v281 : BitVec 32 := Scalar.addi c0_i32_168 v280
  let c1_i32_171 : BitVec 32 := 1#32
  let arg11 : BitVec 32 := Scf.iv v281 c1_i32_171 k0_t8
  let c16_i32_422 : BitVec 32 := 16#32
  let v652 : BitVec 32 := Scalar.muli arg11 c16_i32_422
  let c0_i32_429 : BitVec 32 := 0#32
  ![3, v652.toNat, 0]

def k0_chk4 (d0 : Dev nD) (v272 : BitVec 32) : Prop :=
  ((k0_t7_loop d0 v272).OK) ∧
  (∀ k0_t7 : Fin (k0_t7_loop d0 v272).trips, ∀ a, (k0_off15 d0 v272 k0_t7) a + S1x16x512.size a ≤ S8x192x512.size a) ∧
  (∀ k0_t7 : Fin (k0_t7_loop d0 v272).trips, ∀ a, (k0_off16 d0 v272 k0_t7) a + S1x16x512.size a ≤ S8x192x512.size a) ∧
  (∀ k0_t7 : Fin (k0_t7_loop d0 v272).trips, ∀ (hinb : ∀ a, (k0_off16 d0 v272 k0_t7) a + S1x16x512.size a ≤ S8x192x512.size a), (Rect.unit (s := S8x192x512) (k0_off16 d0 v272 k0_t7) S1x16x512.size hinb).WholeWords (EltTy.packing .bf16)) ∧
  (∀ k0_t7 : Fin (k0_t7_loop d0 v272).trips, ∀ (hinb : ∀ a, (k0_off15 d0 v272 k0_t7) a + S1x16x512.size a ≤ S8x192x512.size a), (Rect.unit (s := S8x192x512) (k0_off15 d0 v272 k0_t7) S1x16x512.size hinb).WholeWords (EltTy.packing .bf16)) ∧
  ((k0_t8_loop d0 v272).OK) ∧
  (∀ k0_t8 : Fin (k0_t8_loop d0 v272).trips, ∀ a, (k0_off17 d0 v272 k0_t8) a + S1x16x512.size a ≤ S8x192x512.size a) ∧
  (∀ k0_t8 : Fin (k0_t8_loop d0 v272).trips, ∀ a, (k0_off18 d0 v272 k0_t8) a + S1x16x512.size a ≤ S8x192x512.size a) ∧
  (∀ k0_t8 : Fin (k0_t8_loop d0 v272).trips, ∀ (hinb : ∀ a, (k0_off18 d0 v272 k0_t8) a + S1x16x512.size a ≤ S8x192x512.size a), (Rect.unit (s := S8x192x512) (k0_off18 d0 v272 k0_t8) S1x16x512.size hinb).WholeWords (EltTy.packing .bf16)) ∧
  (∀ k0_t8 : Fin (k0_t8_loop d0 v272).trips, ∀ (hinb : ∀ a, (k0_off17 d0 v272 k0_t8) a + S1x16x512.size a ≤ S8x192x512.size a), (Rect.unit (s := S8x192x512) (k0_off17 d0 v272 k0_t8) S1x16x512.size hinb).WholeWords (EltTy.packing .bf16))
theorem k0_t7_ok : ∀ (d0 : Dev nD) (v272 : BitVec 32) (k0_hw4 : k0_chk4 d0 v272), (k0_t7_loop d0 v272).OK := fun d0 v272 k0_hw4 => k0_hw4.1
theorem k0_off15_inb : ∀ (d0 : Dev nD) (v272 : BitVec 32) (k0_hw4 : k0_chk4 d0 v272) (k0_t7 : Fin (k0_t7_loop d0 v272).trips), ∀ a, (k0_off15 d0 v272 k0_t7) a + S1x16x512.size a ≤ S8x192x512.size a := fun d0 v272 k0_hw4 k0_t7 => k0_hw4.2.1 k0_t7
theorem k0_off16_inb : ∀ (d0 : Dev nD) (v272 : BitVec 32) (k0_hw4 : k0_chk4 d0 v272) (k0_t7 : Fin (k0_t7_loop d0 v272).trips), ∀ a, (k0_off16 d0 v272 k0_t7) a + S1x16x512.size a ≤ S8x192x512.size a := fun d0 v272 k0_hw4 k0_t7 => k0_hw4.2.2.1 k0_t7
theorem k0_off16_wordsbf16 : ∀ (d0 : Dev nD) (v272 : BitVec 32) (k0_hw4 : k0_chk4 d0 v272) (k0_t7 : Fin (k0_t7_loop d0 v272).trips), (Rect.unit (s := S8x192x512) (k0_off16 d0 v272 k0_t7) S1x16x512.size (k0_off16_inb d0 v272 k0_hw4 k0_t7)).WholeWords (EltTy.packing .bf16) := fun d0 v272 k0_hw4 k0_t7 => k0_hw4.2.2.2.1 k0_t7 (k0_off16_inb d0 v272 k0_hw4 k0_t7)
theorem k0_off15_wordsbf16 : ∀ (d0 : Dev nD) (v272 : BitVec 32) (k0_hw4 : k0_chk4 d0 v272) (k0_t7 : Fin (k0_t7_loop d0 v272).trips), (Rect.unit (s := S8x192x512) (k0_off15 d0 v272 k0_t7) S1x16x512.size (k0_off15_inb d0 v272 k0_hw4 k0_t7)).WholeWords (EltTy.packing .bf16) := fun d0 v272 k0_hw4 k0_t7 => k0_hw4.2.2.2.2.1 k0_t7 (k0_off15_inb d0 v272 k0_hw4 k0_t7)
theorem k0_t8_ok : ∀ (d0 : Dev nD) (v272 : BitVec 32) (k0_hw4 : k0_chk4 d0 v272), (k0_t8_loop d0 v272).OK := fun d0 v272 k0_hw4 => k0_hw4.2.2.2.2.2.1
theorem k0_off17_inb : ∀ (d0 : Dev nD) (v272 : BitVec 32) (k0_hw4 : k0_chk4 d0 v272) (k0_t8 : Fin (k0_t8_loop d0 v272).trips), ∀ a, (k0_off17 d0 v272 k0_t8) a + S1x16x512.size a ≤ S8x192x512.size a := fun d0 v272 k0_hw4 k0_t8 => k0_hw4.2.2.2.2.2.2.1 k0_t8
theorem k0_off18_inb : ∀ (d0 : Dev nD) (v272 : BitVec 32) (k0_hw4 : k0_chk4 d0 v272) (k0_t8 : Fin (k0_t8_loop d0 v272).trips), ∀ a, (k0_off18 d0 v272 k0_t8) a + S1x16x512.size a ≤ S8x192x512.size a := fun d0 v272 k0_hw4 k0_t8 => k0_hw4.2.2.2.2.2.2.2.1 k0_t8
theorem k0_off18_wordsbf16 : ∀ (d0 : Dev nD) (v272 : BitVec 32) (k0_hw4 : k0_chk4 d0 v272) (k0_t8 : Fin (k0_t8_loop d0 v272).trips), (Rect.unit (s := S8x192x512) (k0_off18 d0 v272 k0_t8) S1x16x512.size (k0_off18_inb d0 v272 k0_hw4 k0_t8)).WholeWords (EltTy.packing .bf16) := fun d0 v272 k0_hw4 k0_t8 => k0_hw4.2.2.2.2.2.2.2.2.1 k0_t8 (k0_off18_inb d0 v272 k0_hw4 k0_t8)
theorem k0_off17_wordsbf16 : ∀ (d0 : Dev nD) (v272 : BitVec 32) (k0_hw4 : k0_chk4 d0 v272) (k0_t8 : Fin (k0_t8_loop d0 v272).trips), (Rect.unit (s := S8x192x512) (k0_off17 d0 v272 k0_t8) S1x16x512.size (k0_off17_inb d0 v272 k0_hw4 k0_t8)).WholeWords (EltTy.packing .bf16) := fun d0 v272 k0_hw4 k0_t8 => k0_hw4.2.2.2.2.2.2.2.2.2 k0_t8 (k0_off17_inb d0 v272 k0_hw4 k0_t8)

def k0_dev22 : Nat :=
  let c0_i32_427 : BitVec 32 := 0#32
  let c3_i32_425 : BitVec 32 := 3#32
  let c1_i32_426 : BitVec 32 := 1#32
  let v654 : BitVec 32 := Scalar.muli c3_i32_425 c1_i32_426
  let v655 : BitVec 32 := Scalar.addi c0_i32_427 v654
  v655.toNat
@[reducible] def k0_t9_loop (d0 : Dev nD) (v284 : BitVec 32) : Scf.Loop 32 :=
  let c0_i32_180 : BitVec 32 := 0#32
  let c4_i32_177 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v289 : BitVec 32 := Scalar.subi v288 c0_i32_180
  let c1_i32_181 : BitVec 32 := 1#32
  let v291 : BitVec 32 := Scalar.divsi v289 c1_i32_181
  let v292 : BitVec 32 := Scalar.muli v291 c1_i32_181
  let v293 : BitVec 32 := Scalar.addi c0_i32_180 v292
  let c1_i32_182 : BitVec 32 := 1#32
  ⟨c0_i32_180, v293, c1_i32_182⟩

def k0_off19 (d0 : Dev nD) (v284 : BitVec 32) (k0_t9 : Fin (k0_t9_loop d0 v284).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_180 : BitVec 32 := 0#32
  let c1_i32_182 : BitVec 32 := 1#32
  let arg11 : BitVec 32 := Scf.iv c0_i32_180 c1_i32_182 k0_t9
  let c16_i32_423 : BitVec 32 := 16#32
  let v653 : BitVec 32 := Scalar.muli arg11 c16_i32_423
  let c0_i32_428 : BitVec 32 := 0#32
  ![v2.toNat, v653.toNat, 0]
def k0_off20 (d0 : Dev nD) (v284 : BitVec 32) (k0_t9 : Fin (k0_t9_loop d0 v284).trips) : Fin 3 → Nat :=
  let c4_i32_424 : BitVec 32 := 4#32
  let c0_i32_180 : BitVec 32 := 0#32
  let c1_i32_182 : BitVec 32 := 1#32
  let arg11 : BitVec 32 := Scf.iv c0_i32_180 c1_i32_182 k0_t9
  let c16_i32_422 : BitVec 32 := 16#32
  let v652 : BitVec 32 := Scalar.muli arg11 c16_i32_422
  let c0_i32_429 : BitVec 32 := 0#32
  ![4, v652.toNat, 0]
def k0_dev23 : Nat :=
  let c0_i32_427 : BitVec 32 := 0#32
  let c4_i32_425 : BitVec 32 := 4#32
  let c1_i32_426 : BitVec 32 := 1#32
  let v654 : BitVec 32 := Scalar.muli c4_i32_425 c1_i32_426
  let v655 : BitVec 32 := Scalar.addi c0_i32_427 v654
  v655.toNat
@[reducible] def k0_t10_loop (d0 : Dev nD) (v284 : BitVec 32) : Scf.Loop 32 :=
  let c0_i32_180 : BitVec 32 := 0#32
  let c4_i32_177 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v289 : BitVec 32 := Scalar.subi v288 c0_i32_180
  let c1_i32_181 : BitVec 32 := 1#32
  let v291 : BitVec 32 := Scalar.divsi v289 c1_i32_181
  let v292 : BitVec 32 := Scalar.muli v291 c1_i32_181
  let v293 : BitVec 32 := Scalar.addi c0_i32_180 v292
  let v290 : BitVec 32 := Scalar.addi c0_i32_180 v289
  let c1_i32_183 : BitVec 32 := 1#32
  ⟨v293, v290, c1_i32_183⟩
def k0_off21 (d0 : Dev nD) (v284 : BitVec 32) (k0_t10 : Fin (k0_t10_loop d0 v284).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_180 : BitVec 32 := 0#32
  let c4_i32_177 : BitVec 32 := 4#32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v289 : BitVec 32 := Scalar.subi v288 c0_i32_180
  let c1_i32_181 : BitVec 32 := 1#32
  let v291 : BitVec 32 := Scalar.divsi v289 c1_i32_181
  let v292 : BitVec 32 := Scalar.muli v291 c1_i32_181
  let v293 : BitVec 32 := Scalar.addi c0_i32_180 v292
  let c1_i32_183 : BitVec 32 := 1#32
  let arg11 : BitVec 32 := Scf.iv v293 c1_i32_183 k0_t10
  let c16_i32_423 : BitVec 32 := 16#32
  let v653 : BitVec 32 := Scalar.muli arg11 c16_i32_423
  let c0_i32_428 : BitVec 32 := 0#32
  ![v2.toNat, v653.toNat, 0]
def k0_off22 (d0 : Dev nD) (v284 : BitVec 32) (k0_t10 : Fin (k0_t10_loop d0 v284).trips) : Fin 3 → Nat :=
  let c4_i32_424 : BitVec 32 := 4#32
  let c0_i32_180 : BitVec 32 := 0#32
  let c4_i32_177 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v289 : BitVec 32 := Scalar.subi v288 c0_i32_180
  let c1_i32_181 : BitVec 32 := 1#32
  let v291 : BitVec 32 := Scalar.divsi v289 c1_i32_181
  let v292 : BitVec 32 := Scalar.muli v291 c1_i32_181
  let v293 : BitVec 32 := Scalar.addi c0_i32_180 v292
  let c1_i32_183 : BitVec 32 := 1#32
  let arg11 : BitVec 32 := Scf.iv v293 c1_i32_183 k0_t10
  let c16_i32_422 : BitVec 32 := 16#32
  let v652 : BitVec 32 := Scalar.muli arg11 c16_i32_422
  let c0_i32_429 : BitVec 32 := 0#32
  ![4, v652.toNat, 0]

def k0_chk5 (d0 : Dev nD) (v284 : BitVec 32) : Prop :=
  ((k0_t9_loop d0 v284).OK) ∧
  (∀ k0_t9 : Fin (k0_t9_loop d0 v284).trips, ∀ a, (k0_off19 d0 v284 k0_t9) a + S1x16x512.size a ≤ S8x192x512.size a) ∧
  (∀ k0_t9 : Fin (k0_t9_loop d0 v284).trips, ∀ a, (k0_off20 d0 v284 k0_t9) a + S1x16x512.size a ≤ S8x192x512.size a) ∧
  (∀ k0_t9 : Fin (k0_t9_loop d0 v284).trips, ∀ (hinb : ∀ a, (k0_off20 d0 v284 k0_t9) a + S1x16x512.size a ≤ S8x192x512.size a), (Rect.unit (s := S8x192x512) (k0_off20 d0 v284 k0_t9) S1x16x512.size hinb).WholeWords (EltTy.packing .bf16)) ∧
  (∀ k0_t9 : Fin (k0_t9_loop d0 v284).trips, ∀ (hinb : ∀ a, (k0_off19 d0 v284 k0_t9) a + S1x16x512.size a ≤ S8x192x512.size a), (Rect.unit (s := S8x192x512) (k0_off19 d0 v284 k0_t9) S1x16x512.size hinb).WholeWords (EltTy.packing .bf16)) ∧
  ((k0_t10_loop d0 v284).OK) ∧
  (∀ k0_t10 : Fin (k0_t10_loop d0 v284).trips, ∀ a, (k0_off21 d0 v284 k0_t10) a + S1x16x512.size a ≤ S8x192x512.size a) ∧
  (∀ k0_t10 : Fin (k0_t10_loop d0 v284).trips, ∀ a, (k0_off22 d0 v284 k0_t10) a + S1x16x512.size a ≤ S8x192x512.size a) ∧
  (∀ k0_t10 : Fin (k0_t10_loop d0 v284).trips, ∀ (hinb : ∀ a, (k0_off22 d0 v284 k0_t10) a + S1x16x512.size a ≤ S8x192x512.size a), (Rect.unit (s := S8x192x512) (k0_off22 d0 v284 k0_t10) S1x16x512.size hinb).WholeWords (EltTy.packing .bf16)) ∧
  (∀ k0_t10 : Fin (k0_t10_loop d0 v284).trips, ∀ (hinb : ∀ a, (k0_off21 d0 v284 k0_t10) a + S1x16x512.size a ≤ S8x192x512.size a), (Rect.unit (s := S8x192x512) (k0_off21 d0 v284 k0_t10) S1x16x512.size hinb).WholeWords (EltTy.packing .bf16))
theorem k0_t9_ok : ∀ (d0 : Dev nD) (v284 : BitVec 32) (k0_hw5 : k0_chk5 d0 v284), (k0_t9_loop d0 v284).OK := fun d0 v284 k0_hw5 => k0_hw5.1
theorem k0_off19_inb : ∀ (d0 : Dev nD) (v284 : BitVec 32) (k0_hw5 : k0_chk5 d0 v284) (k0_t9 : Fin (k0_t9_loop d0 v284).trips), ∀ a, (k0_off19 d0 v284 k0_t9) a + S1x16x512.size a ≤ S8x192x512.size a := fun d0 v284 k0_hw5 k0_t9 => k0_hw5.2.1 k0_t9
theorem k0_off20_inb : ∀ (d0 : Dev nD) (v284 : BitVec 32) (k0_hw5 : k0_chk5 d0 v284) (k0_t9 : Fin (k0_t9_loop d0 v284).trips), ∀ a, (k0_off20 d0 v284 k0_t9) a + S1x16x512.size a ≤ S8x192x512.size a := fun d0 v284 k0_hw5 k0_t9 => k0_hw5.2.2.1 k0_t9
theorem k0_off20_wordsbf16 : ∀ (d0 : Dev nD) (v284 : BitVec 32) (k0_hw5 : k0_chk5 d0 v284) (k0_t9 : Fin (k0_t9_loop d0 v284).trips), (Rect.unit (s := S8x192x512) (k0_off20 d0 v284 k0_t9) S1x16x512.size (k0_off20_inb d0 v284 k0_hw5 k0_t9)).WholeWords (EltTy.packing .bf16) := fun d0 v284 k0_hw5 k0_t9 => k0_hw5.2.2.2.1 k0_t9 (k0_off20_inb d0 v284 k0_hw5 k0_t9)
theorem k0_off19_wordsbf16 : ∀ (d0 : Dev nD) (v284 : BitVec 32) (k0_hw5 : k0_chk5 d0 v284) (k0_t9 : Fin (k0_t9_loop d0 v284).trips), (Rect.unit (s := S8x192x512) (k0_off19 d0 v284 k0_t9) S1x16x512.size (k0_off19_inb d0 v284 k0_hw5 k0_t9)).WholeWords (EltTy.packing .bf16) := fun d0 v284 k0_hw5 k0_t9 => k0_hw5.2.2.2.2.1 k0_t9 (k0_off19_inb d0 v284 k0_hw5 k0_t9)
theorem k0_t10_ok : ∀ (d0 : Dev nD) (v284 : BitVec 32) (k0_hw5 : k0_chk5 d0 v284), (k0_t10_loop d0 v284).OK := fun d0 v284 k0_hw5 => k0_hw5.2.2.2.2.2.1
theorem k0_off21_inb : ∀ (d0 : Dev nD) (v284 : BitVec 32) (k0_hw5 : k0_chk5 d0 v284) (k0_t10 : Fin (k0_t10_loop d0 v284).trips), ∀ a, (k0_off21 d0 v284 k0_t10) a + S1x16x512.size a ≤ S8x192x512.size a := fun d0 v284 k0_hw5 k0_t10 => k0_hw5.2.2.2.2.2.2.1 k0_t10
theorem k0_off22_inb : ∀ (d0 : Dev nD) (v284 : BitVec 32) (k0_hw5 : k0_chk5 d0 v284) (k0_t10 : Fin (k0_t10_loop d0 v284).trips), ∀ a, (k0_off22 d0 v284 k0_t10) a + S1x16x512.size a ≤ S8x192x512.size a := fun d0 v284 k0_hw5 k0_t10 => k0_hw5.2.2.2.2.2.2.2.1 k0_t10
theorem k0_off22_wordsbf16 : ∀ (d0 : Dev nD) (v284 : BitVec 32) (k0_hw5 : k0_chk5 d0 v284) (k0_t10 : Fin (k0_t10_loop d0 v284).trips), (Rect.unit (s := S8x192x512) (k0_off22 d0 v284 k0_t10) S1x16x512.size (k0_off22_inb d0 v284 k0_hw5 k0_t10)).WholeWords (EltTy.packing .bf16) := fun d0 v284 k0_hw5 k0_t10 => k0_hw5.2.2.2.2.2.2.2.2.1 k0_t10 (k0_off22_inb d0 v284 k0_hw5 k0_t10)
theorem k0_off21_wordsbf16 : ∀ (d0 : Dev nD) (v284 : BitVec 32) (k0_hw5 : k0_chk5 d0 v284) (k0_t10 : Fin (k0_t10_loop d0 v284).trips), (Rect.unit (s := S8x192x512) (k0_off21 d0 v284 k0_t10) S1x16x512.size (k0_off21_inb d0 v284 k0_hw5 k0_t10)).WholeWords (EltTy.packing .bf16) := fun d0 v284 k0_hw5 k0_t10 => k0_hw5.2.2.2.2.2.2.2.2.2 k0_t10 (k0_off21_inb d0 v284 k0_hw5 k0_t10)

def k0_dev24 : Nat :=
  let c0_i32_427 : BitVec 32 := 0#32
  let c4_i32_425 : BitVec 32 := 4#32
  let c1_i32_426 : BitVec 32 := 1#32
  let v654 : BitVec 32 := Scalar.muli c4_i32_425 c1_i32_426
  let v655 : BitVec 32 := Scalar.addi c0_i32_427 v654
  v655.toNat
@[reducible] def k0_t11_loop (d0 : Dev nD) (v296 : BitVec 32) : Scf.Loop 32 :=
  let c0_i32_192 : BitVec 32 := 0#32
  let c5_i32_189 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v301 : BitVec 32 := Scalar.subi v300 c0_i32_192
  let c1_i32_193 : BitVec 32 := 1#32
  let v303 : BitVec 32 := Scalar.divsi v301 c1_i32_193
  let v304 : BitVec 32 := Scalar.muli v303 c1_i32_193
  let v305 : BitVec 32 := Scalar.addi c0_i32_192 v304
  let c1_i32_194 : BitVec 32 := 1#32
  ⟨c0_i32_192, v305, c1_i32_194⟩

def k0_off23 (d0 : Dev nD) (v296 : BitVec 32) (k0_t11 : Fin (k0_t11_loop d0 v296).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_192 : BitVec 32 := 0#32
  let c1_i32_194 : BitVec 32 := 1#32
  let arg11 : BitVec 32 := Scf.iv c0_i32_192 c1_i32_194 k0_t11
  let c16_i32_423 : BitVec 32 := 16#32
  let v653 : BitVec 32 := Scalar.muli arg11 c16_i32_423
  let c0_i32_428 : BitVec 32 := 0#32
  ![v2.toNat, v653.toNat, 0]
def k0_off24 (d0 : Dev nD) (v296 : BitVec 32) (k0_t11 : Fin (k0_t11_loop d0 v296).trips) : Fin 3 → Nat :=
  let c5_i32_424 : BitVec 32 := 5#32
  let c0_i32_192 : BitVec 32 := 0#32
  let c1_i32_194 : BitVec 32 := 1#32
  let arg11 : BitVec 32 := Scf.iv c0_i32_192 c1_i32_194 k0_t11
  let c16_i32_422 : BitVec 32 := 16#32
  let v652 : BitVec 32 := Scalar.muli arg11 c16_i32_422
  let c0_i32_429 : BitVec 32 := 0#32
  ![5, v652.toNat, 0]
def k0_dev25 : Nat :=
  let c0_i32_427 : BitVec 32 := 0#32
  let c5_i32_425 : BitVec 32 := 5#32
  let c1_i32_426 : BitVec 32 := 1#32
  let v654 : BitVec 32 := Scalar.muli c5_i32_425 c1_i32_426
  let v655 : BitVec 32 := Scalar.addi c0_i32_427 v654
  v655.toNat
@[reducible] def k0_t12_loop (d0 : Dev nD) (v296 : BitVec 32) : Scf.Loop 32 :=
  let c0_i32_192 : BitVec 32 := 0#32
  let c5_i32_189 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v301 : BitVec 32 := Scalar.subi v300 c0_i32_192
  let c1_i32_193 : BitVec 32 := 1#32
  let v303 : BitVec 32 := Scalar.divsi v301 c1_i32_193
  let v304 : BitVec 32 := Scalar.muli v303 c1_i32_193
  let v305 : BitVec 32 := Scalar.addi c0_i32_192 v304
  let v302 : BitVec 32 := Scalar.addi c0_i32_192 v301
  let c1_i32_195 : BitVec 32 := 1#32
  ⟨v305, v302, c1_i32_195⟩
def k0_off25 (d0 : Dev nD) (v296 : BitVec 32) (k0_t12 : Fin (k0_t12_loop d0 v296).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_192 : BitVec 32 := 0#32
  let c5_i32_189 : BitVec 32 := 5#32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v301 : BitVec 32 := Scalar.subi v300 c0_i32_192
  let c1_i32_193 : BitVec 32 := 1#32
  let v303 : BitVec 32 := Scalar.divsi v301 c1_i32_193
  let v304 : BitVec 32 := Scalar.muli v303 c1_i32_193
  let v305 : BitVec 32 := Scalar.addi c0_i32_192 v304
  let c1_i32_195 : BitVec 32 := 1#32
  let arg11 : BitVec 32 := Scf.iv v305 c1_i32_195 k0_t12
  let c16_i32_423 : BitVec 32 := 16#32
  let v653 : BitVec 32 := Scalar.muli arg11 c16_i32_423
  let c0_i32_428 : BitVec 32 := 0#32
  ![v2.toNat, v653.toNat, 0]
def k0_off26 (d0 : Dev nD) (v296 : BitVec 32) (k0_t12 : Fin (k0_t12_loop d0 v296).trips) : Fin 3 → Nat :=
  let c5_i32_424 : BitVec 32 := 5#32
  let c0_i32_192 : BitVec 32 := 0#32
  let c5_i32_189 : BitVec 32 := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v301 : BitVec 32 := Scalar.subi v300 c0_i32_192
  let c1_i32_193 : BitVec 32 := 1#32
  let v303 : BitVec 32 := Scalar.divsi v301 c1_i32_193
  let v304 : BitVec 32 := Scalar.muli v303 c1_i32_193
  let v305 : BitVec 32 := Scalar.addi c0_i32_192 v304
  let c1_i32_195 : BitVec 32 := 1#32
  let arg11 : BitVec 32 := Scf.iv v305 c1_i32_195 k0_t12
  let c16_i32_422 : BitVec 32 := 16#32
  let v652 : BitVec 32 := Scalar.muli arg11 c16_i32_422
  let c0_i32_429 : BitVec 32 := 0#32
  ![5, v652.toNat, 0]

def k0_chk6 (d0 : Dev nD) (v296 : BitVec 32) : Prop :=
  ((k0_t11_loop d0 v296).OK) ∧
  (∀ k0_t11 : Fin (k0_t11_loop d0 v296).trips, ∀ a, (k0_off23 d0 v296 k0_t11) a + S1x16x512.size a ≤ S8x192x512.size a) ∧
  (∀ k0_t11 : Fin (k0_t11_loop d0 v296).trips, ∀ a, (k0_off24 d0 v296 k0_t11) a + S1x16x512.size a ≤ S8x192x512.size a) ∧
  (∀ k0_t11 : Fin (k0_t11_loop d0 v296).trips, ∀ (hinb : ∀ a, (k0_off24 d0 v296 k0_t11) a + S1x16x512.size a ≤ S8x192x512.size a), (Rect.unit (s := S8x192x512) (k0_off24 d0 v296 k0_t11) S1x16x512.size hinb).WholeWords (EltTy.packing .bf16)) ∧
  (∀ k0_t11 : Fin (k0_t11_loop d0 v296).trips, ∀ (hinb : ∀ a, (k0_off23 d0 v296 k0_t11) a + S1x16x512.size a ≤ S8x192x512.size a), (Rect.unit (s := S8x192x512) (k0_off23 d0 v296 k0_t11) S1x16x512.size hinb).WholeWords (EltTy.packing .bf16)) ∧
  ((k0_t12_loop d0 v296).OK) ∧
  (∀ k0_t12 : Fin (k0_t12_loop d0 v296).trips, ∀ a, (k0_off25 d0 v296 k0_t12) a + S1x16x512.size a ≤ S8x192x512.size a) ∧
  (∀ k0_t12 : Fin (k0_t12_loop d0 v296).trips, ∀ a, (k0_off26 d0 v296 k0_t12) a + S1x16x512.size a ≤ S8x192x512.size a) ∧
  (∀ k0_t12 : Fin (k0_t12_loop d0 v296).trips, ∀ (hinb : ∀ a, (k0_off26 d0 v296 k0_t12) a + S1x16x512.size a ≤ S8x192x512.size a), (Rect.unit (s := S8x192x512) (k0_off26 d0 v296 k0_t12) S1x16x512.size hinb).WholeWords (EltTy.packing .bf16)) ∧
  (∀ k0_t12 : Fin (k0_t12_loop d0 v296).trips, ∀ (hinb : ∀ a, (k0_off25 d0 v296 k0_t12) a + S1x16x512.size a ≤ S8x192x512.size a), (Rect.unit (s := S8x192x512) (k0_off25 d0 v296 k0_t12) S1x16x512.size hinb).WholeWords (EltTy.packing .bf16))
theorem k0_t11_ok : ∀ (d0 : Dev nD) (v296 : BitVec 32) (k0_hw6 : k0_chk6 d0 v296), (k0_t11_loop d0 v296).OK := fun d0 v296 k0_hw6 => k0_hw6.1
theorem k0_off23_inb : ∀ (d0 : Dev nD) (v296 : BitVec 32) (k0_hw6 : k0_chk6 d0 v296) (k0_t11 : Fin (k0_t11_loop d0 v296).trips), ∀ a, (k0_off23 d0 v296 k0_t11) a + S1x16x512.size a ≤ S8x192x512.size a := fun d0 v296 k0_hw6 k0_t11 => k0_hw6.2.1 k0_t11
theorem k0_off24_inb : ∀ (d0 : Dev nD) (v296 : BitVec 32) (k0_hw6 : k0_chk6 d0 v296) (k0_t11 : Fin (k0_t11_loop d0 v296).trips), ∀ a, (k0_off24 d0 v296 k0_t11) a + S1x16x512.size a ≤ S8x192x512.size a := fun d0 v296 k0_hw6 k0_t11 => k0_hw6.2.2.1 k0_t11
theorem k0_off24_wordsbf16 : ∀ (d0 : Dev nD) (v296 : BitVec 32) (k0_hw6 : k0_chk6 d0 v296) (k0_t11 : Fin (k0_t11_loop d0 v296).trips), (Rect.unit (s := S8x192x512) (k0_off24 d0 v296 k0_t11) S1x16x512.size (k0_off24_inb d0 v296 k0_hw6 k0_t11)).WholeWords (EltTy.packing .bf16) := fun d0 v296 k0_hw6 k0_t11 => k0_hw6.2.2.2.1 k0_t11 (k0_off24_inb d0 v296 k0_hw6 k0_t11)
theorem k0_off23_wordsbf16 : ∀ (d0 : Dev nD) (v296 : BitVec 32) (k0_hw6 : k0_chk6 d0 v296) (k0_t11 : Fin (k0_t11_loop d0 v296).trips), (Rect.unit (s := S8x192x512) (k0_off23 d0 v296 k0_t11) S1x16x512.size (k0_off23_inb d0 v296 k0_hw6 k0_t11)).WholeWords (EltTy.packing .bf16) := fun d0 v296 k0_hw6 k0_t11 => k0_hw6.2.2.2.2.1 k0_t11 (k0_off23_inb d0 v296 k0_hw6 k0_t11)
theorem k0_t12_ok : ∀ (d0 : Dev nD) (v296 : BitVec 32) (k0_hw6 : k0_chk6 d0 v296), (k0_t12_loop d0 v296).OK := fun d0 v296 k0_hw6 => k0_hw6.2.2.2.2.2.1
theorem k0_off25_inb : ∀ (d0 : Dev nD) (v296 : BitVec 32) (k0_hw6 : k0_chk6 d0 v296) (k0_t12 : Fin (k0_t12_loop d0 v296).trips), ∀ a, (k0_off25 d0 v296 k0_t12) a + S1x16x512.size a ≤ S8x192x512.size a := fun d0 v296 k0_hw6 k0_t12 => k0_hw6.2.2.2.2.2.2.1 k0_t12
theorem k0_off26_inb : ∀ (d0 : Dev nD) (v296 : BitVec 32) (k0_hw6 : k0_chk6 d0 v296) (k0_t12 : Fin (k0_t12_loop d0 v296).trips), ∀ a, (k0_off26 d0 v296 k0_t12) a + S1x16x512.size a ≤ S8x192x512.size a := fun d0 v296 k0_hw6 k0_t12 => k0_hw6.2.2.2.2.2.2.2.1 k0_t12
theorem k0_off26_wordsbf16 : ∀ (d0 : Dev nD) (v296 : BitVec 32) (k0_hw6 : k0_chk6 d0 v296) (k0_t12 : Fin (k0_t12_loop d0 v296).trips), (Rect.unit (s := S8x192x512) (k0_off26 d0 v296 k0_t12) S1x16x512.size (k0_off26_inb d0 v296 k0_hw6 k0_t12)).WholeWords (EltTy.packing .bf16) := fun d0 v296 k0_hw6 k0_t12 => k0_hw6.2.2.2.2.2.2.2.2.1 k0_t12 (k0_off26_inb d0 v296 k0_hw6 k0_t12)
theorem k0_off25_wordsbf16 : ∀ (d0 : Dev nD) (v296 : BitVec 32) (k0_hw6 : k0_chk6 d0 v296) (k0_t12 : Fin (k0_t12_loop d0 v296).trips), (Rect.unit (s := S8x192x512) (k0_off25 d0 v296 k0_t12) S1x16x512.size (k0_off25_inb d0 v296 k0_hw6 k0_t12)).WholeWords (EltTy.packing .bf16) := fun d0 v296 k0_hw6 k0_t12 => k0_hw6.2.2.2.2.2.2.2.2.2 k0_t12 (k0_off25_inb d0 v296 k0_hw6 k0_t12)

def k0_dev26 : Nat :=
  let c0_i32_427 : BitVec 32 := 0#32
  let c5_i32_425 : BitVec 32 := 5#32
  let c1_i32_426 : BitVec 32 := 1#32
  let v654 : BitVec 32 := Scalar.muli c5_i32_425 c1_i32_426
  let v655 : BitVec 32 := Scalar.addi c0_i32_427 v654
  v655.toNat
@[reducible] def k0_t13_loop (d0 : Dev nD) (v308 : BitVec 32) : Scf.Loop 32 :=
  let c0_i32_204 : BitVec 32 := 0#32
  let c6_i32_201 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v313 : BitVec 32 := Scalar.subi v312 c0_i32_204
  let c1_i32_205 : BitVec 32 := 1#32
  let v315 : BitVec 32 := Scalar.divsi v313 c1_i32_205
  let v316 : BitVec 32 := Scalar.muli v315 c1_i32_205
  let v317 : BitVec 32 := Scalar.addi c0_i32_204 v316
  let c1_i32_206 : BitVec 32 := 1#32
  ⟨c0_i32_204, v317, c1_i32_206⟩

def k0_off27 (d0 : Dev nD) (v308 : BitVec 32) (k0_t13 : Fin (k0_t13_loop d0 v308).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_204 : BitVec 32 := 0#32
  let c1_i32_206 : BitVec 32 := 1#32
  let arg11 : BitVec 32 := Scf.iv c0_i32_204 c1_i32_206 k0_t13
  let c16_i32_423 : BitVec 32 := 16#32
  let v653 : BitVec 32 := Scalar.muli arg11 c16_i32_423
  let c0_i32_428 : BitVec 32 := 0#32
  ![v2.toNat, v653.toNat, 0]
def k0_off28 (d0 : Dev nD) (v308 : BitVec 32) (k0_t13 : Fin (k0_t13_loop d0 v308).trips) : Fin 3 → Nat :=
  let c6_i32_424 : BitVec 32 := 6#32
  let c0_i32_204 : BitVec 32 := 0#32
  let c1_i32_206 : BitVec 32 := 1#32
  let arg11 : BitVec 32 := Scf.iv c0_i32_204 c1_i32_206 k0_t13
  let c16_i32_422 : BitVec 32 := 16#32
  let v652 : BitVec 32 := Scalar.muli arg11 c16_i32_422
  let c0_i32_429 : BitVec 32 := 0#32
  ![6, v652.toNat, 0]
def k0_dev27 : Nat :=
  let c0_i32_427 : BitVec 32 := 0#32
  let c6_i32_425 : BitVec 32 := 6#32
  let c1_i32_426 : BitVec 32 := 1#32
  let v654 : BitVec 32 := Scalar.muli c6_i32_425 c1_i32_426
  let v655 : BitVec 32 := Scalar.addi c0_i32_427 v654
  v655.toNat
@[reducible] def k0_t14_loop (d0 : Dev nD) (v308 : BitVec 32) : Scf.Loop 32 :=
  let c0_i32_204 : BitVec 32 := 0#32
  let c6_i32_201 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v313 : BitVec 32 := Scalar.subi v312 c0_i32_204
  let c1_i32_205 : BitVec 32 := 1#32
  let v315 : BitVec 32 := Scalar.divsi v313 c1_i32_205
  let v316 : BitVec 32 := Scalar.muli v315 c1_i32_205
  let v317 : BitVec 32 := Scalar.addi c0_i32_204 v316
  let v314 : BitVec 32 := Scalar.addi c0_i32_204 v313
  let c1_i32_207 : BitVec 32 := 1#32
  ⟨v317, v314, c1_i32_207⟩
def k0_off29 (d0 : Dev nD) (v308 : BitVec 32) (k0_t14 : Fin (k0_t14_loop d0 v308).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_204 : BitVec 32 := 0#32
  let c6_i32_201 : BitVec 32 := 6#32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v313 : BitVec 32 := Scalar.subi v312 c0_i32_204
  let c1_i32_205 : BitVec 32 := 1#32
  let v315 : BitVec 32 := Scalar.divsi v313 c1_i32_205
  let v316 : BitVec 32 := Scalar.muli v315 c1_i32_205
  let v317 : BitVec 32 := Scalar.addi c0_i32_204 v316
  let c1_i32_207 : BitVec 32 := 1#32
  let arg11 : BitVec 32 := Scf.iv v317 c1_i32_207 k0_t14
  let c16_i32_423 : BitVec 32 := 16#32
  let v653 : BitVec 32 := Scalar.muli arg11 c16_i32_423
  let c0_i32_428 : BitVec 32 := 0#32
  ![v2.toNat, v653.toNat, 0]
def k0_off30 (d0 : Dev nD) (v308 : BitVec 32) (k0_t14 : Fin (k0_t14_loop d0 v308).trips) : Fin 3 → Nat :=
  let c6_i32_424 : BitVec 32 := 6#32
  let c0_i32_204 : BitVec 32 := 0#32
  let c6_i32_201 : BitVec 32 := 6#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v313 : BitVec 32 := Scalar.subi v312 c0_i32_204
  let c1_i32_205 : BitVec 32 := 1#32
  let v315 : BitVec 32 := Scalar.divsi v313 c1_i32_205
  let v316 : BitVec 32 := Scalar.muli v315 c1_i32_205
  let v317 : BitVec 32 := Scalar.addi c0_i32_204 v316
  let c1_i32_207 : BitVec 32 := 1#32
  let arg11 : BitVec 32 := Scf.iv v317 c1_i32_207 k0_t14
  let c16_i32_422 : BitVec 32 := 16#32
  let v652 : BitVec 32 := Scalar.muli arg11 c16_i32_422
  let c0_i32_429 : BitVec 32 := 0#32
  ![6, v652.toNat, 0]

def k0_chk7 (d0 : Dev nD) (v308 : BitVec 32) : Prop :=
  ((k0_t13_loop d0 v308).OK) ∧
  (∀ k0_t13 : Fin (k0_t13_loop d0 v308).trips, ∀ a, (k0_off27 d0 v308 k0_t13) a + S1x16x512.size a ≤ S8x192x512.size a) ∧
  (∀ k0_t13 : Fin (k0_t13_loop d0 v308).trips, ∀ a, (k0_off28 d0 v308 k0_t13) a + S1x16x512.size a ≤ S8x192x512.size a) ∧
  (∀ k0_t13 : Fin (k0_t13_loop d0 v308).trips, ∀ (hinb : ∀ a, (k0_off28 d0 v308 k0_t13) a + S1x16x512.size a ≤ S8x192x512.size a), (Rect.unit (s := S8x192x512) (k0_off28 d0 v308 k0_t13) S1x16x512.size hinb).WholeWords (EltTy.packing .bf16)) ∧
  (∀ k0_t13 : Fin (k0_t13_loop d0 v308).trips, ∀ (hinb : ∀ a, (k0_off27 d0 v308 k0_t13) a + S1x16x512.size a ≤ S8x192x512.size a), (Rect.unit (s := S8x192x512) (k0_off27 d0 v308 k0_t13) S1x16x512.size hinb).WholeWords (EltTy.packing .bf16)) ∧
  ((k0_t14_loop d0 v308).OK) ∧
  (∀ k0_t14 : Fin (k0_t14_loop d0 v308).trips, ∀ a, (k0_off29 d0 v308 k0_t14) a + S1x16x512.size a ≤ S8x192x512.size a) ∧
  (∀ k0_t14 : Fin (k0_t14_loop d0 v308).trips, ∀ a, (k0_off30 d0 v308 k0_t14) a + S1x16x512.size a ≤ S8x192x512.size a) ∧
  (∀ k0_t14 : Fin (k0_t14_loop d0 v308).trips, ∀ (hinb : ∀ a, (k0_off30 d0 v308 k0_t14) a + S1x16x512.size a ≤ S8x192x512.size a), (Rect.unit (s := S8x192x512) (k0_off30 d0 v308 k0_t14) S1x16x512.size hinb).WholeWords (EltTy.packing .bf16)) ∧
  (∀ k0_t14 : Fin (k0_t14_loop d0 v308).trips, ∀ (hinb : ∀ a, (k0_off29 d0 v308 k0_t14) a + S1x16x512.size a ≤ S8x192x512.size a), (Rect.unit (s := S8x192x512) (k0_off29 d0 v308 k0_t14) S1x16x512.size hinb).WholeWords (EltTy.packing .bf16))
theorem k0_t13_ok : ∀ (d0 : Dev nD) (v308 : BitVec 32) (k0_hw7 : k0_chk7 d0 v308), (k0_t13_loop d0 v308).OK := fun d0 v308 k0_hw7 => k0_hw7.1
theorem k0_off27_inb : ∀ (d0 : Dev nD) (v308 : BitVec 32) (k0_hw7 : k0_chk7 d0 v308) (k0_t13 : Fin (k0_t13_loop d0 v308).trips), ∀ a, (k0_off27 d0 v308 k0_t13) a + S1x16x512.size a ≤ S8x192x512.size a := fun d0 v308 k0_hw7 k0_t13 => k0_hw7.2.1 k0_t13
theorem k0_off28_inb : ∀ (d0 : Dev nD) (v308 : BitVec 32) (k0_hw7 : k0_chk7 d0 v308) (k0_t13 : Fin (k0_t13_loop d0 v308).trips), ∀ a, (k0_off28 d0 v308 k0_t13) a + S1x16x512.size a ≤ S8x192x512.size a := fun d0 v308 k0_hw7 k0_t13 => k0_hw7.2.2.1 k0_t13
theorem k0_off28_wordsbf16 : ∀ (d0 : Dev nD) (v308 : BitVec 32) (k0_hw7 : k0_chk7 d0 v308) (k0_t13 : Fin (k0_t13_loop d0 v308).trips), (Rect.unit (s := S8x192x512) (k0_off28 d0 v308 k0_t13) S1x16x512.size (k0_off28_inb d0 v308 k0_hw7 k0_t13)).WholeWords (EltTy.packing .bf16) := fun d0 v308 k0_hw7 k0_t13 => k0_hw7.2.2.2.1 k0_t13 (k0_off28_inb d0 v308 k0_hw7 k0_t13)
theorem k0_off27_wordsbf16 : ∀ (d0 : Dev nD) (v308 : BitVec 32) (k0_hw7 : k0_chk7 d0 v308) (k0_t13 : Fin (k0_t13_loop d0 v308).trips), (Rect.unit (s := S8x192x512) (k0_off27 d0 v308 k0_t13) S1x16x512.size (k0_off27_inb d0 v308 k0_hw7 k0_t13)).WholeWords (EltTy.packing .bf16) := fun d0 v308 k0_hw7 k0_t13 => k0_hw7.2.2.2.2.1 k0_t13 (k0_off27_inb d0 v308 k0_hw7 k0_t13)
theorem k0_t14_ok : ∀ (d0 : Dev nD) (v308 : BitVec 32) (k0_hw7 : k0_chk7 d0 v308), (k0_t14_loop d0 v308).OK := fun d0 v308 k0_hw7 => k0_hw7.2.2.2.2.2.1
theorem k0_off29_inb : ∀ (d0 : Dev nD) (v308 : BitVec 32) (k0_hw7 : k0_chk7 d0 v308) (k0_t14 : Fin (k0_t14_loop d0 v308).trips), ∀ a, (k0_off29 d0 v308 k0_t14) a + S1x16x512.size a ≤ S8x192x512.size a := fun d0 v308 k0_hw7 k0_t14 => k0_hw7.2.2.2.2.2.2.1 k0_t14
theorem k0_off30_inb : ∀ (d0 : Dev nD) (v308 : BitVec 32) (k0_hw7 : k0_chk7 d0 v308) (k0_t14 : Fin (k0_t14_loop d0 v308).trips), ∀ a, (k0_off30 d0 v308 k0_t14) a + S1x16x512.size a ≤ S8x192x512.size a := fun d0 v308 k0_hw7 k0_t14 => k0_hw7.2.2.2.2.2.2.2.1 k0_t14
theorem k0_off30_wordsbf16 : ∀ (d0 : Dev nD) (v308 : BitVec 32) (k0_hw7 : k0_chk7 d0 v308) (k0_t14 : Fin (k0_t14_loop d0 v308).trips), (Rect.unit (s := S8x192x512) (k0_off30 d0 v308 k0_t14) S1x16x512.size (k0_off30_inb d0 v308 k0_hw7 k0_t14)).WholeWords (EltTy.packing .bf16) := fun d0 v308 k0_hw7 k0_t14 => k0_hw7.2.2.2.2.2.2.2.2.1 k0_t14 (k0_off30_inb d0 v308 k0_hw7 k0_t14)
theorem k0_off29_wordsbf16 : ∀ (d0 : Dev nD) (v308 : BitVec 32) (k0_hw7 : k0_chk7 d0 v308) (k0_t14 : Fin (k0_t14_loop d0 v308).trips), (Rect.unit (s := S8x192x512) (k0_off29 d0 v308 k0_t14) S1x16x512.size (k0_off29_inb d0 v308 k0_hw7 k0_t14)).WholeWords (EltTy.packing .bf16) := fun d0 v308 k0_hw7 k0_t14 => k0_hw7.2.2.2.2.2.2.2.2.2 k0_t14 (k0_off29_inb d0 v308 k0_hw7 k0_t14)

def k0_dev28 : Nat :=
  let c0_i32_427 : BitVec 32 := 0#32
  let c6_i32_425 : BitVec 32 := 6#32
  let c1_i32_426 : BitVec 32 := 1#32
  let v654 : BitVec 32 := Scalar.muli c6_i32_425 c1_i32_426
  let v655 : BitVec 32 := Scalar.addi c0_i32_427 v654
  v655.toNat
@[reducible] def k0_t15_loop (d0 : Dev nD) (v320 : BitVec 32) : Scf.Loop 32 :=
  let c0_i32_216 : BitVec 32 := 0#32
  let c7_i32_213 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v325 : BitVec 32 := Scalar.subi v324 c0_i32_216
  let c1_i32_217 : BitVec 32 := 1#32
  let v327 : BitVec 32 := Scalar.divsi v325 c1_i32_217
  let v328 : BitVec 32 := Scalar.muli v327 c1_i32_217
  let v329 : BitVec 32 := Scalar.addi c0_i32_216 v328
  let c1_i32_218 : BitVec 32 := 1#32
  ⟨c0_i32_216, v329, c1_i32_218⟩

def k0_off31 (d0 : Dev nD) (v320 : BitVec 32) (k0_t15 : Fin (k0_t15_loop d0 v320).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_216 : BitVec 32 := 0#32
  let c1_i32_218 : BitVec 32 := 1#32
  let arg11 : BitVec 32 := Scf.iv c0_i32_216 c1_i32_218 k0_t15
  let c16_i32_423 : BitVec 32 := 16#32
  let v653 : BitVec 32 := Scalar.muli arg11 c16_i32_423
  let c0_i32_428 : BitVec 32 := 0#32
  ![v2.toNat, v653.toNat, 0]
def k0_off32 (d0 : Dev nD) (v320 : BitVec 32) (k0_t15 : Fin (k0_t15_loop d0 v320).trips) : Fin 3 → Nat :=
  let c7_i32_424 : BitVec 32 := 7#32
  let c0_i32_216 : BitVec 32 := 0#32
  let c1_i32_218 : BitVec 32 := 1#32
  let arg11 : BitVec 32 := Scf.iv c0_i32_216 c1_i32_218 k0_t15
  let c16_i32_422 : BitVec 32 := 16#32
  let v652 : BitVec 32 := Scalar.muli arg11 c16_i32_422
  let c0_i32_429 : BitVec 32 := 0#32
  ![7, v652.toNat, 0]
def k0_dev29 : Nat :=
  let c0_i32_427 : BitVec 32 := 0#32
  let c7_i32_425 : BitVec 32 := 7#32
  let c1_i32_426 : BitVec 32 := 1#32
  let v654 : BitVec 32 := Scalar.muli c7_i32_425 c1_i32_426
  let v655 : BitVec 32 := Scalar.addi c0_i32_427 v654
  v655.toNat
@[reducible] def k0_t16_loop (d0 : Dev nD) (v320 : BitVec 32) : Scf.Loop 32 :=
  let c0_i32_216 : BitVec 32 := 0#32
  let c7_i32_213 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v325 : BitVec 32 := Scalar.subi v324 c0_i32_216
  let c1_i32_217 : BitVec 32 := 1#32
  let v327 : BitVec 32 := Scalar.divsi v325 c1_i32_217
  let v328 : BitVec 32 := Scalar.muli v327 c1_i32_217
  let v329 : BitVec 32 := Scalar.addi c0_i32_216 v328
  let v326 : BitVec 32 := Scalar.addi c0_i32_216 v325
  let c1_i32_219 : BitVec 32 := 1#32
  ⟨v329, v326, c1_i32_219⟩
def k0_off33 (d0 : Dev nD) (v320 : BitVec 32) (k0_t16 : Fin (k0_t16_loop d0 v320).trips) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_216 : BitVec 32 := 0#32
  let c7_i32_213 : BitVec 32 := 7#32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v325 : BitVec 32 := Scalar.subi v324 c0_i32_216
  let c1_i32_217 : BitVec 32 := 1#32
  let v327 : BitVec 32 := Scalar.divsi v325 c1_i32_217
  let v328 : BitVec 32 := Scalar.muli v327 c1_i32_217
  let v329 : BitVec 32 := Scalar.addi c0_i32_216 v328
  let c1_i32_219 : BitVec 32 := 1#32
  let arg11 : BitVec 32 := Scf.iv v329 c1_i32_219 k0_t16
  let c16_i32_423 : BitVec 32 := 16#32
  let v653 : BitVec 32 := Scalar.muli arg11 c16_i32_423
  let c0_i32_428 : BitVec 32 := 0#32
  ![v2.toNat, v653.toNat, 0]
def k0_off34 (d0 : Dev nD) (v320 : BitVec 32) (k0_t16 : Fin (k0_t16_loop d0 v320).trips) : Fin 3 → Nat :=
  let c7_i32_424 : BitVec 32 := 7#32
  let c0_i32_216 : BitVec 32 := 0#32
  let c7_i32_213 : BitVec 32 := 7#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v325 : BitVec 32 := Scalar.subi v324 c0_i32_216
  let c1_i32_217 : BitVec 32 := 1#32
  let v327 : BitVec 32 := Scalar.divsi v325 c1_i32_217
  let v328 : BitVec 32 := Scalar.muli v327 c1_i32_217
  let v329 : BitVec 32 := Scalar.addi c0_i32_216 v328
  let c1_i32_219 : BitVec 32 := 1#32
  let arg11 : BitVec 32 := Scf.iv v329 c1_i32_219 k0_t16
  let c16_i32_422 : BitVec 32 := 16#32
  let v652 : BitVec 32 := Scalar.muli arg11 c16_i32_422
  let c0_i32_429 : BitVec 32 := 0#32
  ![7, v652.toNat, 0]
def k0_dev30 : Nat :=
  let c0_i32_427 : BitVec 32 := 0#32
  let c7_i32_425 : BitVec 32 := 7#32
  let c1_i32_426 : BitVec 32 := 1#32
  let v654 : BitVec 32 := Scalar.muli c7_i32_425 c1_i32_426
  let v655 : BitVec 32 := Scalar.addi c0_i32_427 v654
  v655.toNat
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v331 : Index := Scalar.indexCast v2
  let c0_220 : Index := 0#32
  let c0_221 : Index := 0#32
  ![v331.toNat, 0, 0]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v338 : Index := Scalar.indexCast v2
  let c0_224 : Index := 0#32
  let c0_225 : Index := 0#32
  ![v338.toNat, 0, 0]
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_230 : BitVec 32 := 0#32
  let c0_i32_231 : BitVec 32 := 0#32
  ![v2.toNat, 0, 0]
def k0_off38 (d0 : Dev nD) (c1_i32_69 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v179 : BitVec 32 := Scalar.addi v2 c1_i32_69
  let c8_i32_70 : BitVec 32 := 8#32
  let v180 : BitVec 32 := Scalar.remsi v179 c8_i32_70
  let c0_i32_232 : BitVec 32 := 0#32
  let c0_i32_233 : BitVec 32 := 0#32
  ![v180.toNat, 0, 0]
@[reducible] def k0_t17_loop (d0 : Dev nD) (v391 : BitVec 32) (v406 : BitVec 32) (v421 : BitVec 32) (v436 : BitVec 32) (v451 : BitVec 32) (v466 : BitVec 32) (v481 : BitVec 32) (v496 : BitVec 32) : Scf.Loop 32 :=
  let c0_i32_335 : BitVec 32 := 0#32
  let c0_i32_279 : BitVec 32 := 0#32
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v394 : BitVec 1 := Scalar.cmpi .eq c0_i32_277 v2
  let c0_i32_278 : BitVec 32 := 0#32
  let c15_i32_275 : BitVec 32 := 15#32
  let v392 : BitVec 32 := Scalar.addi v391 c15_i32_275
  let c16_i32_276 : BitVec 32 := 16#32
  let v393 : BitVec 32 := Scalar.divsi v392 c16_i32_276
  let v395 : BitVec 32 := Scalar.select v394 c0_i32_278 v393
  let v396 : BitVec 32 := Scalar.addi c0_i32_279 v395
  let c1_i32_288 : BitVec 32 := 1#32
  let v409 : BitVec 1 := Scalar.cmpi .eq c1_i32_288 v2
  let c0_i32_289 : BitVec 32 := 0#32
  let c15_i32_286 : BitVec 32 := 15#32
  let v407 : BitVec 32 := Scalar.addi v406 c15_i32_286
  let c16_i32_287 : BitVec 32 := 16#32
  let v408 : BitVec 32 := Scalar.divsi v407 c16_i32_287
  let v410 : BitVec 32 := Scalar.select v409 c0_i32_289 v408
  let v411 : BitVec 32 := Scalar.addi v396 v410
  let c2_i32_295 : BitVec 32 := 2#32
  let v424 : BitVec 1 := Scalar.cmpi .eq c2_i32_295 v2
  let c0_i32_296 : BitVec 32 := 0#32
  let c15_i32_293 : BitVec 32 := 15#32
  let v422 : BitVec 32 := Scalar.addi v421 c15_i32_293
  let c16_i32_294 : BitVec 32 := 16#32
  let v423 : BitVec 32 := Scalar.divsi v422 c16_i32_294
  let v425 : BitVec 32 := Scalar.select v424 c0_i32_296 v423
  let v426 : BitVec 32 := Scalar.addi v411 v425
  let c3_i32_302 : BitVec 32 := 3#32
  let v439 : BitVec 1 := Scalar.cmpi .eq c3_i32_302 v2
  let c0_i32_303 : BitVec 32 := 0#32
  let c15_i32_300 : BitVec 32 := 15#32
  let v437 : BitVec 32 := Scalar.addi v436 c15_i32_300
  let c16_i32_301 : BitVec 32 := 16#32
  let v438 : BitVec 32 := Scalar.divsi v437 c16_i32_301
  let v440 : BitVec 32 := Scalar.select v439 c0_i32_303 v438
  let v441 : BitVec 32 := Scalar.addi v426 v440
  let c4_i32_309 : BitVec 32 := 4#32
  let v454 : BitVec 1 := Scalar.cmpi .eq c4_i32_309 v2
  let c0_i32_310 : BitVec 32 := 0#32
  let c15_i32_307 : BitVec 32 := 15#32
  let v452 : BitVec 32 := Scalar.addi v451 c15_i32_307
  let c16_i32_308 : BitVec 32 := 16#32
  let v453 : BitVec 32 := Scalar.divsi v452 c16_i32_308
  let v455 : BitVec 32 := Scalar.select v454 c0_i32_310 v453
  let v456 : BitVec 32 := Scalar.addi v441 v455
  let c5_i32_316 : BitVec 32 := 5#32
  let v469 : BitVec 1 := Scalar.cmpi .eq c5_i32_316 v2
  let c0_i32_317 : BitVec 32 := 0#32
  let c15_i32_314 : BitVec 32 := 15#32
  let v467 : BitVec 32 := Scalar.addi v466 c15_i32_314
  let c16_i32_315 : BitVec 32 := 16#32
  let v468 : BitVec 32 := Scalar.divsi v467 c16_i32_315
  let v470 : BitVec 32 := Scalar.select v469 c0_i32_317 v468
  let v471 : BitVec 32 := Scalar.addi v456 v470
  let c6_i32_323 : BitVec 32 := 6#32
  let v484 : BitVec 1 := Scalar.cmpi .eq c6_i32_323 v2
  let c0_i32_324 : BitVec 32 := 0#32
  let c15_i32_321 : BitVec 32 := 15#32
  let v482 : BitVec 32 := Scalar.addi v481 c15_i32_321
  let c16_i32_322 : BitVec 32 := 16#32
  let v483 : BitVec 32 := Scalar.divsi v482 c16_i32_322
  let v485 : BitVec 32 := Scalar.select v484 c0_i32_324 v483
  let v486 : BitVec 32 := Scalar.addi v471 v485
  let c7_i32_330 : BitVec 32 := 7#32
  let v499 : BitVec 1 := Scalar.cmpi .eq c7_i32_330 v2
  let c0_i32_331 : BitVec 32 := 0#32
  let c15_i32_328 : BitVec 32 := 15#32
  let v497 : BitVec 32 := Scalar.addi v496 c15_i32_328
  let c16_i32_329 : BitVec 32 := 16#32
  let v498 : BitVec 32 := Scalar.divsi v497 c16_i32_329
  let v500 : BitVec 32 := Scalar.select v499 c0_i32_331 v498
  let v501 : BitVec 32 := Scalar.addi v486 v500
  let v515 : BitVec 32 := Scalar.subi v501 c0_i32_335
  let c1_i32_336 : BitVec 32 := 1#32
  let v517 : BitVec 32 := Scalar.divsi v515 c1_i32_336
  let v518 : BitVec 32 := Scalar.muli v517 c1_i32_336
  let v519 : BitVec 32 := Scalar.addi c0_i32_335 v518
  let c1_i32_337 : BitVec 32 := 1#32
  ⟨c0_i32_335, v519, c1_i32_337⟩

@[reducible] def k0_t18_loop (d0 : Dev nD) (v391 : BitVec 32) (v406 : BitVec 32) (v421 : BitVec 32) (v436 : BitVec 32) (v451 : BitVec 32) (v466 : BitVec 32) (v481 : BitVec 32) (v496 : BitVec 32) : Scf.Loop 32 :=
  let c0_i32_335 : BitVec 32 := 0#32
  let c0_i32_279 : BitVec 32 := 0#32
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v394 : BitVec 1 := Scalar.cmpi .eq c0_i32_277 v2
  let c0_i32_278 : BitVec 32 := 0#32
  let c15_i32_275 : BitVec 32 := 15#32
  let v392 : BitVec 32 := Scalar.addi v391 c15_i32_275
  let c16_i32_276 : BitVec 32 := 16#32
  let v393 : BitVec 32 := Scalar.divsi v392 c16_i32_276
  let v395 : BitVec 32 := Scalar.select v394 c0_i32_278 v393
  let v396 : BitVec 32 := Scalar.addi c0_i32_279 v395
  let c1_i32_288 : BitVec 32 := 1#32
  let v409 : BitVec 1 := Scalar.cmpi .eq c1_i32_288 v2
  let c0_i32_289 : BitVec 32 := 0#32
  let c15_i32_286 : BitVec 32 := 15#32
  let v407 : BitVec 32 := Scalar.addi v406 c15_i32_286
  let c16_i32_287 : BitVec 32 := 16#32
  let v408 : BitVec 32 := Scalar.divsi v407 c16_i32_287
  let v410 : BitVec 32 := Scalar.select v409 c0_i32_289 v408
  let v411 : BitVec 32 := Scalar.addi v396 v410
  let c2_i32_295 : BitVec 32 := 2#32
  let v424 : BitVec 1 := Scalar.cmpi .eq c2_i32_295 v2
  let c0_i32_296 : BitVec 32 := 0#32
  let c15_i32_293 : BitVec 32 := 15#32
  let v422 : BitVec 32 := Scalar.addi v421 c15_i32_293
  let c16_i32_294 : BitVec 32 := 16#32
  let v423 : BitVec 32 := Scalar.divsi v422 c16_i32_294
  let v425 : BitVec 32 := Scalar.select v424 c0_i32_296 v423
  let v426 : BitVec 32 := Scalar.addi v411 v425
  let c3_i32_302 : BitVec 32 := 3#32
  let v439 : BitVec 1 := Scalar.cmpi .eq c3_i32_302 v2
  let c0_i32_303 : BitVec 32 := 0#32
  let c15_i32_300 : BitVec 32 := 15#32
  let v437 : BitVec 32 := Scalar.addi v436 c15_i32_300
  let c16_i32_301 : BitVec 32 := 16#32
  let v438 : BitVec 32 := Scalar.divsi v437 c16_i32_301
  let v440 : BitVec 32 := Scalar.select v439 c0_i32_303 v438
  let v441 : BitVec 32 := Scalar.addi v426 v440
  let c4_i32_309 : BitVec 32 := 4#32
  let v454 : BitVec 1 := Scalar.cmpi .eq c4_i32_309 v2
  let c0_i32_310 : BitVec 32 := 0#32
  let c15_i32_307 : BitVec 32 := 15#32
  let v452 : BitVec 32 := Scalar.addi v451 c15_i32_307
  let c16_i32_308 : BitVec 32 := 16#32
  let v453 : BitVec 32 := Scalar.divsi v452 c16_i32_308
  let v455 : BitVec 32 := Scalar.select v454 c0_i32_310 v453
  let v456 : BitVec 32 := Scalar.addi v441 v455
  let c5_i32_316 : BitVec 32 := 5#32
  let v469 : BitVec 1 := Scalar.cmpi .eq c5_i32_316 v2
  let c0_i32_317 : BitVec 32 := 0#32
  let c15_i32_314 : BitVec 32 := 15#32
  let v467 : BitVec 32 := Scalar.addi v466 c15_i32_314
  let c16_i32_315 : BitVec 32 := 16#32
  let v468 : BitVec 32 := Scalar.divsi v467 c16_i32_315
  let v470 : BitVec 32 := Scalar.select v469 c0_i32_317 v468
  let v471 : BitVec 32 := Scalar.addi v456 v470
  let c6_i32_323 : BitVec 32 := 6#32
  let v484 : BitVec 1 := Scalar.cmpi .eq c6_i32_323 v2
  let c0_i32_324 : BitVec 32 := 0#32
  let c15_i32_321 : BitVec 32 := 15#32
  let v482 : BitVec 32 := Scalar.addi v481 c15_i32_321
  let c16_i32_322 : BitVec 32 := 16#32
  let v483 : BitVec 32 := Scalar.divsi v482 c16_i32_322
  let v485 : BitVec 32 := Scalar.select v484 c0_i32_324 v483
  let v486 : BitVec 32 := Scalar.addi v471 v485
  let c7_i32_330 : BitVec 32 := 7#32
  let v499 : BitVec 1 := Scalar.cmpi .eq c7_i32_330 v2
  let c0_i32_331 : BitVec 32 := 0#32
  let c15_i32_328 : BitVec 32 := 15#32
  let v497 : BitVec 32 := Scalar.addi v496 c15_i32_328
  let c16_i32_329 : BitVec 32 := 16#32
  let v498 : BitVec 32 := Scalar.divsi v497 c16_i32_329
  let v500 : BitVec 32 := Scalar.select v499 c0_i32_331 v498
  let v501 : BitVec 32 := Scalar.addi v486 v500
  let v515 : BitVec 32 := Scalar.subi v501 c0_i32_335
  let c1_i32_336 : BitVec 32 := 1#32
  let v517 : BitVec 32 := Scalar.divsi v515 c1_i32_336
  let v518 : BitVec 32 := Scalar.muli v517 c1_i32_336
  let v519 : BitVec 32 := Scalar.addi c0_i32_335 v518
  let v516 : BitVec 32 := Scalar.addi c0_i32_335 v515
  let c1_i32_338 : BitVec 32 := 1#32
  ⟨v519, v516, c1_i32_338⟩

def k0_chk9 (d0 : Dev nD) (v391 : BitVec 32) (v406 : BitVec 32) (v421 : BitVec 32) (v436 : BitVec 32) (v451 : BitVec 32) (v466 : BitVec 32) (v481 : BitVec 32) (v496 : BitVec 32) : Prop :=
  ((k0_t17_loop d0 v391 v406 v421 v436 v451 v466 v481 v496).OK) ∧
  ((k0_t18_loop d0 v391 v406 v421 v436 v451 v466 v481 v496).OK)
theorem k0_t17_ok : ∀ (d0 : Dev nD) (v391 : BitVec 32) (v406 : BitVec 32) (v421 : BitVec 32) (v436 : BitVec 32) (v451 : BitVec 32) (v466 : BitVec 32) (v481 : BitVec 32) (v496 : BitVec 32) (k0_hw9 : k0_chk9 d0 v391 v406 v421 v436 v451 v466 v481 v496), (k0_t17_loop d0 v391 v406 v421 v436 v451 v466 v481 v496).OK := fun d0 v391 v406 v421 v436 v451 v466 v481 v496 k0_hw9 => k0_hw9.1
theorem k0_t18_ok : ∀ (d0 : Dev nD) (v391 : BitVec 32) (v406 : BitVec 32) (v421 : BitVec 32) (v436 : BitVec 32) (v451 : BitVec 32) (v466 : BitVec 32) (v481 : BitVec 32) (v496 : BitVec 32) (k0_hw9 : k0_chk9 d0 v391 v406 v421 v436 v451 v466 v481 v496), (k0_t18_loop d0 v391 v406 v421 v436 v451 v466 v481 v496).OK := fun d0 v391 v406 v421 v436 v451 v466 v481 v496 k0_hw9 => k0_hw9.2

def k0_off39 (d0 : Dev nD) (c1_i32_69 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v179 : BitVec 32 := Scalar.addi v2 c1_i32_69
  let c8_i32_70 : BitVec 32 := 8#32
  let v180 : BitVec 32 := Scalar.remsi v179 c8_i32_70
  let c0_i32_383 : BitVec 32 := 0#32
  let c0_i32_384 : BitVec 32 := 0#32
  ![v180.toNat, 0, 0]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_385 : BitVec 32 := 0#32
  let c0_i32_386 : BitVec 32 := 0#32
  ![v2.toNat, 0, 0]
@[reducible] def k0_t19_loop (d0 : Dev nD) (v236 : BitVec 32) (v248 : BitVec 32) (v260 : BitVec 32) (v272 : BitVec 32) (v284 : BitVec 32) (v296 : BitVec 32) (v308 : BitVec 32) (v320 : BitVec 32) : Scf.Loop 32 :=
  let c0_i32_418 : BitVec 32 := 0#32
  let c0_i32_135 : BitVec 32 := 0#32
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v246 : BitVec 32 := Scalar.addi c0_i32_135 v240
  let c1_i32_141 : BitVec 32 := 1#32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v258 : BitVec 32 := Scalar.addi v246 v252
  let c2_i32_153 : BitVec 32 := 2#32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v270 : BitVec 32 := Scalar.addi v258 v264
  let c3_i32_165 : BitVec 32 := 3#32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v282 : BitVec 32 := Scalar.addi v270 v276
  let c4_i32_177 : BitVec 32 := 4#32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v294 : BitVec 32 := Scalar.addi v282 v288
  let c5_i32_189 : BitVec 32 := 5#32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v306 : BitVec 32 := Scalar.addi v294 v300
  let c6_i32_201 : BitVec 32 := 6#32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v318 : BitVec 32 := Scalar.addi v306 v312
  let c7_i32_213 : BitVec 32 := 7#32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v330 : BitVec 32 := Scalar.addi v318 v324
  let v647 : BitVec 32 := Scalar.subi v330 c0_i32_418
  let c1_i32_419 : BitVec 32 := 1#32
  let v649 : BitVec 32 := Scalar.divsi v647 c1_i32_419
  let v650 : BitVec 32 := Scalar.muli v649 c1_i32_419
  let v651 : BitVec 32 := Scalar.addi c0_i32_418 v650
  let c1_i32_420 : BitVec 32 := 1#32
  ⟨c0_i32_418, v651, c1_i32_420⟩
@[reducible] def k0_t20_loop (d0 : Dev nD) (v236 : BitVec 32) (v248 : BitVec 32) (v260 : BitVec 32) (v272 : BitVec 32) (v284 : BitVec 32) (v296 : BitVec 32) (v308 : BitVec 32) (v320 : BitVec 32) : Scf.Loop 32 :=
  let c0_i32_418 : BitVec 32 := 0#32
  let c0_i32_135 : BitVec 32 := 0#32
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v239 : BitVec 1 := Scalar.cmpi .eq c0_i32_128 v2
  let c0_i32_129 : BitVec 32 := 0#32
  let c15_i32 : BitVec 32 := 15#32
  let v237 : BitVec 32 := Scalar.addi v236 c15_i32
  let c16_i32 : BitVec 32 := 16#32
  let v238 : BitVec 32 := Scalar.divsi v237 c16_i32
  let v240 : BitVec 32 := Scalar.select v239 c0_i32_129 v238
  let v246 : BitVec 32 := Scalar.addi c0_i32_135 v240
  let c1_i32_141 : BitVec 32 := 1#32
  let v251 : BitVec 1 := Scalar.cmpi .eq c1_i32_141 v2
  let c0_i32_142 : BitVec 32 := 0#32
  let c15_i32_139 : BitVec 32 := 15#32
  let v249 : BitVec 32 := Scalar.addi v248 c15_i32_139
  let c16_i32_140 : BitVec 32 := 16#32
  let v250 : BitVec 32 := Scalar.divsi v249 c16_i32_140
  let v252 : BitVec 32 := Scalar.select v251 c0_i32_142 v250
  let v258 : BitVec 32 := Scalar.addi v246 v252
  let c2_i32_153 : BitVec 32 := 2#32
  let v263 : BitVec 1 := Scalar.cmpi .eq c2_i32_153 v2
  let c0_i32_154 : BitVec 32 := 0#32
  let c15_i32_151 : BitVec 32 := 15#32
  let v261 : BitVec 32 := Scalar.addi v260 c15_i32_151
  let c16_i32_152 : BitVec 32 := 16#32
  let v262 : BitVec 32 := Scalar.divsi v261 c16_i32_152
  let v264 : BitVec 32 := Scalar.select v263 c0_i32_154 v262
  let v270 : BitVec 32 := Scalar.addi v258 v264
  let c3_i32_165 : BitVec 32 := 3#32
  let v275 : BitVec 1 := Scalar.cmpi .eq c3_i32_165 v2
  let c0_i32_166 : BitVec 32 := 0#32
  let c15_i32_163 : BitVec 32 := 15#32
  let v273 : BitVec 32 := Scalar.addi v272 c15_i32_163
  let c16_i32_164 : BitVec 32 := 16#32
  let v274 : BitVec 32 := Scalar.divsi v273 c16_i32_164
  let v276 : BitVec 32 := Scalar.select v275 c0_i32_166 v274
  let v282 : BitVec 32 := Scalar.addi v270 v276
  let c4_i32_177 : BitVec 32 := 4#32
  let v287 : BitVec 1 := Scalar.cmpi .eq c4_i32_177 v2
  let c0_i32_178 : BitVec 32 := 0#32
  let c15_i32_175 : BitVec 32 := 15#32
  let v285 : BitVec 32 := Scalar.addi v284 c15_i32_175
  let c16_i32_176 : BitVec 32 := 16#32
  let v286 : BitVec 32 := Scalar.divsi v285 c16_i32_176
  let v288 : BitVec 32 := Scalar.select v287 c0_i32_178 v286
  let v294 : BitVec 32 := Scalar.addi v282 v288
  let c5_i32_189 : BitVec 32 := 5#32
  let v299 : BitVec 1 := Scalar.cmpi .eq c5_i32_189 v2
  let c0_i32_190 : BitVec 32 := 0#32
  let c15_i32_187 : BitVec 32 := 15#32
  let v297 : BitVec 32 := Scalar.addi v296 c15_i32_187
  let c16_i32_188 : BitVec 32 := 16#32
  let v298 : BitVec 32 := Scalar.divsi v297 c16_i32_188
  let v300 : BitVec 32 := Scalar.select v299 c0_i32_190 v298
  let v306 : BitVec 32 := Scalar.addi v294 v300
  let c6_i32_201 : BitVec 32 := 6#32
  let v311 : BitVec 1 := Scalar.cmpi .eq c6_i32_201 v2
  let c0_i32_202 : BitVec 32 := 0#32
  let c15_i32_199 : BitVec 32 := 15#32
  let v309 : BitVec 32 := Scalar.addi v308 c15_i32_199
  let c16_i32_200 : BitVec 32 := 16#32
  let v310 : BitVec 32 := Scalar.divsi v309 c16_i32_200
  let v312 : BitVec 32 := Scalar.select v311 c0_i32_202 v310
  let v318 : BitVec 32 := Scalar.addi v306 v312
  let c7_i32_213 : BitVec 32 := 7#32
  let v323 : BitVec 1 := Scalar.cmpi .eq c7_i32_213 v2
  let c0_i32_214 : BitVec 32 := 0#32
  let c15_i32_211 : BitVec 32 := 15#32
  let v321 : BitVec 32 := Scalar.addi v320 c15_i32_211
  let c16_i32_212 : BitVec 32 := 16#32
  let v322 : BitVec 32 := Scalar.divsi v321 c16_i32_212
  let v324 : BitVec 32 := Scalar.select v323 c0_i32_214 v322
  let v330 : BitVec 32 := Scalar.addi v318 v324
  let v647 : BitVec 32 := Scalar.subi v330 c0_i32_418
  let c1_i32_419 : BitVec 32 := 1#32
  let v649 : BitVec 32 := Scalar.divsi v647 c1_i32_419
  let v650 : BitVec 32 := Scalar.muli v649 c1_i32_419
  let v651 : BitVec 32 := Scalar.addi c0_i32_418 v650
  let v648 : BitVec 32 := Scalar.addi c0_i32_418 v647
  let c1_i32_421 : BitVec 32 := 1#32
  ⟨v651, v648, c1_i32_421⟩

def k0_chk8 (d0 : Dev nD) (v236 : BitVec 32) (v248 : BitVec 32) (v260 : BitVec 32) (v272 : BitVec 32) (v284 : BitVec 32) (v296 : BitVec 32) (v308 : BitVec 32) (v320 : BitVec 32) : Prop :=
  ((k0_t15_loop d0 v320).OK) ∧
  (∀ k0_t15 : Fin (k0_t15_loop d0 v320).trips, ∀ a, (k0_off31 d0 v320 k0_t15) a + S1x16x512.size a ≤ S8x192x512.size a) ∧
  (∀ k0_t15 : Fin (k0_t15_loop d0 v320).trips, ∀ a, (k0_off32 d0 v320 k0_t15) a + S1x16x512.size a ≤ S8x192x512.size a) ∧
  (∀ k0_t15 : Fin (k0_t15_loop d0 v320).trips, ∀ (hinb : ∀ a, (k0_off32 d0 v320 k0_t15) a + S1x16x512.size a ≤ S8x192x512.size a), (Rect.unit (s := S8x192x512) (k0_off32 d0 v320 k0_t15) S1x16x512.size hinb).WholeWords (EltTy.packing .bf16)) ∧
  (∀ k0_t15 : Fin (k0_t15_loop d0 v320).trips, ∀ (hinb : ∀ a, (k0_off31 d0 v320 k0_t15) a + S1x16x512.size a ≤ S8x192x512.size a), (Rect.unit (s := S8x192x512) (k0_off31 d0 v320 k0_t15) S1x16x512.size hinb).WholeWords (EltTy.packing .bf16)) ∧
  ((k0_t16_loop d0 v320).OK) ∧
  (∀ k0_t16 : Fin (k0_t16_loop d0 v320).trips, ∀ a, (k0_off33 d0 v320 k0_t16) a + S1x16x512.size a ≤ S8x192x512.size a) ∧
  (∀ k0_t16 : Fin (k0_t16_loop d0 v320).trips, ∀ a, (k0_off34 d0 v320 k0_t16) a + S1x16x512.size a ≤ S8x192x512.size a) ∧
  (∀ k0_t16 : Fin (k0_t16_loop d0 v320).trips, ∀ (hinb : ∀ a, (k0_off34 d0 v320 k0_t16) a + S1x16x512.size a ≤ S8x192x512.size a), (Rect.unit (s := S8x192x512) (k0_off34 d0 v320 k0_t16) S1x16x512.size hinb).WholeWords (EltTy.packing .bf16)) ∧
  (∀ k0_t16 : Fin (k0_t16_loop d0 v320).trips, ∀ (hinb : ∀ a, (k0_off33 d0 v320 k0_t16) a + S1x16x512.size a ≤ S8x192x512.size a), (Rect.unit (s := S8x192x512) (k0_off33 d0 v320 k0_t16) S1x16x512.size hinb).WholeWords (EltTy.packing .bf16)) ∧
  ((k0_t19_loop d0 v236 v248 v260 v272 v284 v296 v308 v320).OK) ∧
  ((k0_t20_loop d0 v236 v248 v260 v272 v284 v296 v308 v320).OK)
theorem k0_t15_ok : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320), (k0_t15_loop d0 v320).OK := fun d0 v236 v248 v260 v272 v284 v296 v308 v320 k0_hw8 => k0_hw8.1
theorem k0_off31_inb : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t15 : Fin (k0_t15_loop d0 v320).trips), ∀ a, (k0_off31 d0 v320 k0_t15) a + S1x16x512.size a ≤ S8x192x512.size a := fun d0 v236 v248 v260 v272 v284 v296 v308 v320 k0_hw8 k0_t15 => k0_hw8.2.1 k0_t15
theorem k0_off32_inb : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t15 : Fin (k0_t15_loop d0 v320).trips), ∀ a, (k0_off32 d0 v320 k0_t15) a + S1x16x512.size a ≤ S8x192x512.size a := fun d0 v236 v248 v260 v272 v284 v296 v308 v320 k0_hw8 k0_t15 => k0_hw8.2.2.1 k0_t15
theorem k0_off32_wordsbf16 : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t15 : Fin (k0_t15_loop d0 v320).trips), (Rect.unit (s := S8x192x512) (k0_off32 d0 v320 k0_t15) S1x16x512.size (k0_off32_inb d0 v236 v248 v260 v272 v284 v296 v308 v320 k0_hw8 k0_t15)).WholeWords (EltTy.packing .bf16) := fun d0 v236 v248 v260 v272 v284 v296 v308 v320 k0_hw8 k0_t15 => k0_hw8.2.2.2.1 k0_t15 (k0_off32_inb d0 v236 v248 v260 v272 v284 v296 v308 v320 k0_hw8 k0_t15)
theorem k0_off31_wordsbf16 : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t15 : Fin (k0_t15_loop d0 v320).trips), (Rect.unit (s := S8x192x512) (k0_off31 d0 v320 k0_t15) S1x16x512.size (k0_off31_inb d0 v236 v248 v260 v272 v284 v296 v308 v320 k0_hw8 k0_t15)).WholeWords (EltTy.packing .bf16) := fun d0 v236 v248 v260 v272 v284 v296 v308 v320 k0_hw8 k0_t15 => k0_hw8.2.2.2.2.1 k0_t15 (k0_off31_inb d0 v236 v248 v260 v272 v284 v296 v308 v320 k0_hw8 k0_t15)
theorem k0_t16_ok : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320), (k0_t16_loop d0 v320).OK := fun d0 v236 v248 v260 v272 v284 v296 v308 v320 k0_hw8 => k0_hw8.2.2.2.2.2.1
theorem k0_off33_inb : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t16 : Fin (k0_t16_loop d0 v320).trips), ∀ a, (k0_off33 d0 v320 k0_t16) a + S1x16x512.size a ≤ S8x192x512.size a := fun d0 v236 v248 v260 v272 v284 v296 v308 v320 k0_hw8 k0_t16 => k0_hw8.2.2.2.2.2.2.1 k0_t16
theorem k0_off34_inb : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t16 : Fin (k0_t16_loop d0 v320).trips), ∀ a, (k0_off34 d0 v320 k0_t16) a + S1x16x512.size a ≤ S8x192x512.size a := fun d0 v236 v248 v260 v272 v284 v296 v308 v320 k0_hw8 k0_t16 => k0_hw8.2.2.2.2.2.2.2.1 k0_t16
theorem k0_off34_wordsbf16 : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t16 : Fin (k0_t16_loop d0 v320).trips), (Rect.unit (s := S8x192x512) (k0_off34 d0 v320 k0_t16) S1x16x512.size (k0_off34_inb d0 v236 v248 v260 v272 v284 v296 v308 v320 k0_hw8 k0_t16)).WholeWords (EltTy.packing .bf16) := fun d0 v236 v248 v260 v272 v284 v296 v308 v320 k0_hw8 k0_t16 => k0_hw8.2.2.2.2.2.2.2.2.1 k0_t16 (k0_off34_inb d0 v236 v248 v260 v272 v284 v296 v308 v320 k0_hw8 k0_t16)
theorem k0_off33_wordsbf16 : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320) (k0_t16 : Fin (k0_t16_loop d0 v320).trips), (Rect.unit (s := S8x192x512) (k0_off33 d0 v320 k0_t16) S1x16x512.size (k0_off33_inb d0 v236 v248 v260 v272 v284 v296 v308 v320 k0_hw8 k0_t16)).WholeWords (EltTy.packing .bf16) := fun d0 v236 v248 v260 v272 v284 v296 v308 v320 k0_hw8 k0_t16 => k0_hw8.2.2.2.2.2.2.2.2.2.1 k0_t16 (k0_off33_inb d0 v236 v248 v260 v272 v284 v296 v308 v320 k0_hw8 k0_t16)
theorem k0_t19_ok : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320), (k0_t19_loop d0 v236 v248 v260 v272 v284 v296 v308 v320).OK := fun d0 v236 v248 v260 v272 v284 v296 v308 v320 k0_hw8 => k0_hw8.2.2.2.2.2.2.2.2.2.2.1
theorem k0_t20_ok : ∀ (d0 : Dev nD) (v236 : BitVec 32) (v248 : BitVec 32) (v260 : BitVec 32) (v272 : BitVec 32) (v284 : BitVec 32) (v296 : BitVec 32) (v308 : BitVec 32) (v320 : BitVec 32) (k0_hw8 : k0_chk8 d0 v236 v248 v260 v272 v284 v296 v308 v320), (k0_t20_loop d0 v236 v248 v260 v272 v284 v296 v308 v320).OK := fun d0 v236 v248 v260 v272 v284 v296 v308 v320 k0_hw8 => k0_hw8.2.2.2.2.2.2.2.2.2.2.2

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8192x512 : Shape := ⟨2, ![8192, 512]⟩
abbrev S8192 : Shape := ⟨1, ![8192]⟩
abbrev S8 : Shape := ⟨1, ![8]⟩
abbrev S8x1 : Shape := ⟨2, ![8, 1]⟩
abbrev S1024 : Shape := ⟨1, ![1024]⟩
abbrev S1x1024 : Shape := ⟨2, ![1, 1024]⟩
abbrev S1x8192 : Shape := ⟨2, ![1, 8192]⟩
abbrev S8x8192 : Shape := ⟨2, ![8, 8192]⟩
abbrev S_ : Shape := ⟨0, ![]⟩
abbrev S8x1024 : Shape := ⟨2, ![8, 1024]⟩
abbrev S8x1024x1 : Shape := ⟨3, ![8, 1024, 1]⟩
abbrev S8x1024x512 : Shape := ⟨3, ![8, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S8192, .i32⟩
  | .hbm, ⟨5, _⟩ => ⟨S8, .i32⟩
  | .hbm, ⟨6, _⟩ => ⟨S8x1, .i32⟩
  | .hbm, ⟨7, _⟩ => ⟨S1024, .i32⟩
  | .hbm, ⟨8, _⟩ => ⟨S1x1024, .i32⟩
  | .hbm, ⟨9, _⟩ => ⟨S1x8192, .i32⟩
  | .hbm, ⟨10, _⟩ => ⟨S8x8192, .i32⟩
  | .hbm, ⟨11, _⟩ => ⟨S8x8192, .i32⟩
  | .hbm, ⟨12, _⟩ => ⟨S8x8192, .i1⟩
  | .hbm, ⟨13, _⟩ => ⟨S8x8192, .i32⟩
  | .hbm, ⟨14, _⟩ => ⟨S_, .i32⟩
  | .hbm, ⟨15, _⟩ => ⟨S8, .i32⟩
  | .hbm, ⟨16, _⟩ => ⟨S8x1, .i32⟩
  | .hbm, ⟨17, _⟩ => ⟨S1x8192, .i32⟩
  | .hbm, ⟨18, _⟩ => ⟨S8x8192, .i32⟩
  | .hbm, ⟨19, _⟩ => ⟨S8x8192, .i32⟩
  | .hbm, ⟨20, _⟩ => ⟨S8x8192, .i1⟩
  | .hbm, ⟨21, _⟩ => ⟨S8x8192, .i32⟩
  | .hbm, ⟨22, _⟩ => ⟨S_, .i32⟩
  | .hbm, ⟨23, _⟩ => ⟨S8, .i32⟩
  | .hbm, ⟨24, _⟩ => ⟨S8x1, .i32⟩
  | .hbm, ⟨25, _⟩ => ⟨S8x1024, .i32⟩
  | .hbm, ⟨26, _⟩ => ⟨S8x1024, .i32⟩
  | .hbm, ⟨27, _⟩ => ⟨S8x1024, .i1⟩
  | .hbm, ⟨28, _⟩ => ⟨S8x1024, .i32⟩
  | .hbm, ⟨29, _⟩ => ⟨S8x1024, .i32⟩
  | .hbm, ⟨30, _⟩ => ⟨S8x1024, .i32⟩
  | .hbm, ⟨31, _⟩ => ⟨S_, .i32⟩
  | .hbm, ⟨32, _⟩ => ⟨S_, .i32⟩
  | .hbm, ⟨33, _⟩ => ⟨S8x1024, .i32⟩
  | .hbm, ⟨34, _⟩ => ⟨S8x1024, .i32⟩
  | .hbm, ⟨35, _⟩ => ⟨S8x1024, .i32⟩
  | .hbm, ⟨36, _⟩ => ⟨S8x1024, .i32⟩
  | .hbm, ⟨37, _⟩ => ⟨S8x1024, .i1⟩
  | .hbm, ⟨38, _⟩ => ⟨S8x1024x1, .i1⟩
  | .hbm, ⟨39, _⟩ => ⟨S_, .i32⟩
  | .hbm, ⟨40, _⟩ => ⟨S8x1024, .i32⟩
  | .hbm, ⟨41, _⟩ => ⟨S8x1024, .i1⟩
  | .hbm, ⟨42, _⟩ => ⟨S_, .i32⟩
  | .hbm, ⟨43, _⟩ => ⟨S8x1024, .i32⟩
  | .hbm, ⟨44, _⟩ => ⟨S8x1024, .i32⟩
  | .hbm, ⟨45, _⟩ => ⟨S8x1024, .i32⟩
  | .hbm, ⟨46, _⟩ => ⟨S8x1024x1, .i32⟩
  | .hbm, ⟨47, _⟩ => ⟨S8x1024, .i32⟩
  | .hbm, ⟨48, _⟩ => ⟨S_, .i32⟩
  | .hbm, ⟨49, _⟩ => ⟨S8x1024, .i32⟩
  | .hbm, ⟨50, _⟩ => ⟨S8x1024, .i1⟩
  | .hbm, ⟨51, _⟩ => ⟨S_, .i32⟩
  | .hbm, ⟨52, _⟩ => ⟨S8x1024, .i32⟩
  | .hbm, ⟨53, _⟩ => ⟨S8x1024, .i32⟩
  | .hbm, ⟨54, _⟩ => ⟨S8x1024, .i32⟩
  | .hbm, ⟨55, _⟩ => ⟨S8x1024x1, .i32⟩
  | .hbm, ⟨56, _⟩ => ⟨S8x1024x512, .bf16⟩
  | .hbm, ⟨57, _⟩ => ⟨S_, .bf16⟩
  | .hbm, ⟨58, _⟩ => ⟨S8x1024x512, .i1⟩
  | .hbm, ⟨59, _⟩ => ⟨S8x1024x512, .bf16⟩
  | .hbm, ⟨60, _⟩ => ⟨S8x1024x512, .bf16⟩
  | .hbm, ⟨61, _⟩ => ⟨S8192x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_call1_v0 : Ref sig .tc := ⟨.hbm, 32, rfl⟩
abbrev main_call1_v1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_2 : Ref sig .tc := ⟨.hbm, 39, rfl⟩
abbrev main_v30 : Ref sig .tc := ⟨.hbm, 40, rfl⟩
abbrev main_v31 : Ref sig .tc := ⟨.hbm, 41, rfl⟩
abbrev main_c_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Proof.Protocol.lean ====
/-
# The protocol of the variable all-to-all

Eight devices exchange rows.  Device `c` keeps, for every destination `j`, the rows it sends to `j`, packed at the head
of slab `j` of its slot buffer, and a table of counts.  It tells every peer, over the barrier semaphore, that its
landing buffers are ready; then it copies the count of `j` to `j`, and as many chunks of sixteen rows of slab `j` to `j` as
the count needs.  All copies of one kind are counted by one semaphore.

Every semaphore cell has one round.  A contribution is named by a pair: the peer and the number of the chunk.

* barrier of `c`: every peer `i` contributes one unit and hands over the band of `i`'s landing buffer that `c` fills, and
  row `c` of `i`'s received counts;
* counts sent by `c`: every peer `j` gives back the share lent of row `j` of the counts;
* counts received by `c`: every peer `i` hands over row `i` of the received counts, filled;
* chunks sent by `c`: chunk `n` of slab `j` gives back the share lent of it;
* chunks received by `c`: chunk `n` from `i` hands over its rows of the landing buffer, filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A contribution to a cell: the peer, and the number of the chunk. -/
abbrev Du : Type := Σ _ : Dev nD, ℕ

abbrev UB : Type := URounds (GSem nD τ sig) Du
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- The memory at launch: any contents, every counter zero, any generator registers. -/
def s₀ (ρ : Dev nD → PrngReg) : MemSt nD τ sig (Elt F) := ⟨m, fun _ => 0, ρ⟩

/-! ## Buffers and cells -/

abbrev xM : Memref sig .tc .vmem S1024x512 .bf16 := Memref.whole cc0_stg0_0
abbrev dM : Memref sig .tc .vmem S1024 .i32 := Memref.whole cc0_stg1_0
abbrev oM : Memref sig .tc .vmem S1024x512 .bf16 := Memref.whole cc0_stg2_0
abbrev slM : Memref sig .tc .vmem S8x192x512 .bf16 := Memref.whole cc0_scratch0
abbrev stM : Memref sig .tc .vmem S8x192x512 .bf16 := Memref.whole cc0_scratch1
abbrev ctM : Memref sig .tc .vmem S8x1x128 .i32 := Memref.whole cc0_scratch2
abbrev coM : Memref sig .tc .vmem S8x1x128 .i32 := Memref.whole cc0_scratch3

abbrev barS : Sem sig := (SemArray.scalar (sig.barrier 0 rfl) : Sems sig S_).sem

/-- The five semaphores: barrier, counts sent, counts received, chunks sent, chunks received. -/
abbrev csem : Fin 5 → SemLoc sig := fun
  | 0 => .reg barS | 1 => .dma cc0_scratch4.sem | 2 => .dma cc0_scratch5.sem
  | 3 => .dma cc0_scratch6.sem | 4 => .dma cc0_scratch7.sem
abbrev cell (c : Dev nD) (k : Fin 5) : GSem nD τ sig := ((c : Thread nD τ), csem k)

theorem csem_injective : Function.Injective csem := by decide

/-- Which of the five a semaphore is. -/
def kindOf (s : SemLoc sig) : Option (Fin 5) :=
  if s = csem 0 then some 0 else if s = csem 1 then some 1 else if s = csem 2 then some 2
  else if s = csem 3 then some 3 else if s = csem 4 then some 4 else none

theorem kindOf_csem (k : Fin 5) : kindOf (csem k) = some k := by revert k; decide

/-- Units of one copy of counts, and of one chunk. -/
abbrev Nc : ℕ := ((coM.slice (Rect.unit (s := S8x1x128) ![0, 0, 0] S1x1x128.size (by decide)) (fun _ => rfl)).squeeze S1x128 squeezes_S1x1x128_S1x128).view.dmaCredit
abbrev Nd : ℕ := ((stM.slice (Rect.unit (s := S8x192x512) ![0, 0, 0] S1x16x512.size inb_S8x192x512_S1x16x512_0_0_0) (fun _ => rfl)).squeeze S16x512 squeezes_S1x16x512_S16x512).view.dmaCredit

theorem Nc_pos : 0 < Nc := View.dmaCredit_pos _ (by decide)
theorem Nd_pos : 0 < Nd := View.dmaCredit_pos _ (by decide)

/-- Units of one contribution to a cell of kind `k`. -/
def unit : Fin 5 → ℕ | 0 => 1 | 1 => Nc | 2 => Nc | 3 => Nd | 4 => Nd
theorem unit_pos (k : Fin 5) : 0 < unit k := by
  fin_cases k
  · exact Nat.one_pos
  · exact Nc_pos
  · exact Nc_pos
  · exact Nd_pos
  · exact Nd_pos

/-! ## Contents -/

/-- Device `c`'s rows, and their destinations. -/
def xs (c : Dev nD) : (cc0_stg0_0 : Ref sig .tc).ty.Contents (Elt F) :=
  (win0_0.blk (0 : Fin 1)).view.read (Elt F) (m ((c : Thread nD τ).loc main_arg0))
def ds (c : Dev nD) : (cc0_stg1_0 : Ref sig .tc).ty.Contents (Elt F) :=
  (win0_1.blk (0 : Fin 1)).view.read (Elt F) (m ((c : Thread nD τ).loc main_arg1))

/-- The table of counts device `c` computes. -/
def CT (c : Dev nD) : S8x1x128.Idx → BitVec 32 :=
  k0_pay6 (k0_pay4 (F := F) (ds m c)) (iota .tc S8x128 32 [1] iota_S8x128_d1_w32) 0#32

/-- The position word of every row among those of the same destination. -/
def posW (c : Dev nD) : IVec S1x1024 32 := k0_pay5 (F := F) (ds m c)

/-- Slab `j` of device `c`'s slot buffer, as stored. -/
def slab (c : Dev nD) : Fin 8 → S1x192x512.Idx → F .bf16
  | 0 => k0_pay8 (posW m c) (xs m c)
  | 1 => k0_pay9 (posW m c) (xs m c)
  | 2 => k0_pay11 (posW m c) (k0_pay7 (xs m c)) (k0_pay10)
  | 3 => k0_pay12 (posW m c) (k0_pay7 (xs m c))
  | 4 => k0_pay13 (posW m c) (k0_pay7 (xs m c))
  | 5 => k0_pay15 (k0_pay7 (xs m c)) (k0_pay14 (posW m c))
  | 6 => k0_pay16 (posW m c) (k0_pay7 (xs m c))
  | 7 => k0_pay17 (posW m c) (k0_pay7 (xs m c))

/-- Index `(a, b, e)` of a buffer of eight slabs; of one slab; of the table of counts. -/
def ix (a : Fin 8) (b : Fin 192) (e : Fin 512) : S8x192x512.Idx := fun | 0 => a | 1 => b | 2 => e
def ix1 (b : Fin 192) (e : Fin 512) : S1x192x512.Idx := fun | 0 => (0 : Fin 1) | 1 => b | 2 => e
def ixc (a : Fin 8) (e : Fin 128) : S8x1x128.Idx := fun | 0 => a | 1 => (0 : Fin 1) | 2 => e

/-- The slab an index is in, and the row of the slab; the row of a table of counts. -/
def sb (x : S8x192x512.Idx) : Dev nD := x 0
def rn (x : S8x192x512.Idx) : ℕ := (x 1).val
def cr (x : S8x1x128.Idx) : Dev nD := x 0

/-- The slot buffer of device `c`, all slabs stored. -/
def SL (c : Dev nD) : S8x192x512.Idx → F .bf16 := fun i => slab m c (sb i) (ix1 (i 1) (i 2))

/-- How many rows device `c` sends to `j`, as the word the kernel reads back; -/
def cntW (c j : Dev nD) : BitVec 32 := CT m c (ixc j 0)
/-- and how many chunks. -/
def nch (c j : Dev nD) : ℕ := if j = c then 0 else ((cntW m c j).toNat + 15) / 16

/-- The counts are within a slab.  This is what the precondition gives. -/
def Fit : Prop := ∀ c j, (cntW m c j).toNat ≤ 192

/-- The landing buffer of device `c` after every copy: what it stored itself in slab `c`, the chunks that arrived, and
    zero elsewhere. -/
def ST (c : Dev nD) : S8x192x512.Idx → F .bf16 := fun i =>
  if sb i = c ∨ rn i < 16 * nch m (sb i) c then SL m (sb i) (ix c (i 1) (i 2)) else k0_pay1 (F := F) i

/-- The received counts of device `c`. -/
def CO (c : Dev nD) : S8x1x128.Idx → BitVec 32 := fun i => CT m (cr i) (ixc c (i 2))

/-! ## Regions -/

/-- Chunks `a` to `b` (exclusive) of slab `i`. -/
def band (i : Dev nD) (a b : ℕ) : Finset S8x192x512.Idx :=
  Finset.univ.filter fun x => sb x = i ∧ 16 * a ≤ rn x ∧ rn x < 16 * b
/-- Row `i` of a table of counts. -/
def row (i : Dev nD) : Finset S8x1x128.Idx := Finset.univ.filter fun x => cr x = i

theorem mem_band {i : Dev nD} {a b : ℕ} {x : S8x192x512.Idx} : x ∈ band i a b ↔ sb x = i ∧ 16 * a ≤ rn x ∧ rn x < 16 * b := by
  simp only [band, Finset.mem_filter, Finset.mem_univ, true_and]
theorem mem_row {i : Dev nD} {x : S8x1x128.Idx} : x ∈ row i ↔ cr x = i := by
  simp only [row, Finset.mem_filter, Finset.mem_univ, true_and]

/-- A region of a device's buffer, at a share, holding (on that region) the contents given. -/
abbrev slP (c : Dev nD) (S : Finset S8x192x512.Idx) (q : PosShare TreeShare) (f : S8x192x512.Idx → F .bf16) : sProp 𝕄 :=
  pointsTo ((c : Thread nD τ).loc cc0_scratch0) S q f
abbrev stP (c : Dev nD) (S : Finset S8x192x512.Idx) (f : S8x192x512.Idx → F .bf16) : sProp 𝕄 :=
  pointsTo ((c : Thread nD τ).loc cc0_scratch1) S fullShare f
abbrev ctP (c : Dev nD) (S : Finset S8x1x128.Idx) (q : PosShare TreeShare) (f : S8x1x128.Idx → BitVec 32) : sProp 𝕄 :=
  pointsTo ((c : Thread nD τ).loc cc0_scratch2) S q f
abbrev coP (c : Dev nD) (S : Finset S8x1x128.Idx) (f : S8x1x128.Idx → BitVec 32) : sProp 𝕄 :=
  pointsTo ((c : Thread nD τ).loc cc0_scratch3) S fullShare f

/-! ## The schedule -/

/-- How many contributions peer `i` makes to device `c`'s cell of kind `k`. -/
def wt (k : Fin 5) (c i : Dev nD) : ℕ := match k with
  | 0 => if i = c then 0 else 1
  | 1 => if i = c then 0 else 1
  | 2 => if i = c then 0 else 1
  | 3 => nch m c i
  | 4 => nch m i c

/-- The contributions of peers to a cell, by how many each makes. -/
def pairs (w : Dev nD → ℕ) : Finset Du := Finset.univ.sigma fun i => Finset.range (w i)

theorem mem_pairs {w : Dev nD → ℕ} {d : Du} : d ∈ pairs w ↔ d.2 < w d.1 := by
  simp only [pairs, Finset.mem_sigma, Finset.mem_univ, Finset.mem_range, true_and]

/-- All contributions to a cell. -/
def tot (k : Fin 5) (c : Dev nD) : ℕ := ∑ i, wt m k c i

theorem card_pairs (k : Fin 5) (c : Dev nD) : (pairs (wt m k c)).card = tot m k c := by
  simp only [pairs, Finset.card_sigma, Finset.card_range, tot]

/-- What a contribution hands over. -/
def pay (k : Fin 5) (c : Dev nD) (d : Du) : sProp 𝕄 := match k with
  | 0 => iprop((∃ f, stP d.1 (band c 0 (nch m c d.1)) f) ∗ (∃ f, coP d.1 (row c) f))
  | 1 => ctP c (row d.1) fullShare.right (CT m c)
  | 2 => coP c (row d.1) (CO m c)
  | 3 => slP c (band d.1 d.2 (d.2 + 1)) fullShare.right (SL m c)
  | 4 => stP c (band d.1 d.2 (d.2 + 1)) (ST m c)

instance pay_storable (k : Fin 5) (c : Dev nD) (d : Du) : BI.Storable (upEmb : UEmb _ 𝕄) (pay m k c d) := by
  fin_cases k <;> (unfold pay; dsimp only; infer_instance)

def rd : Rounds.Schedule (GSem nD τ sig) Du 𝕄 where
  duties g r := if r = 0 ∧ g.1.2 = .tc then
      match kindOf g.2 with | some k => pairs (wt m k g.1.1) | none => ∅
    else ∅
  unitless _ := False
  amount g _ _ := match kindOf g.2 with | some k => unit k | none => 1
  payload g _ d := match kindOf g.2 with | some k => pay m k g.1.1 d | none => iprop(emp)
  amount_pos g _ _ _ := by
    cases kindOf g.2 with
    | some k => exact unit_pos k
    | none => exact Nat.one_pos

instance rd_payload_storable (g : GSem nD τ sig) (r : ℕ) (d : Du) :
    BI.Storable (upEmb : UEmb _ 𝕄) ((rd (F := F) m).payload g r d) := by
  show BI.Storable upEmb (match kindOf g.2 with | some k => pay m k g.1.1 d | none => iprop(emp))
  cases kindOf g.2 <;> (dsimp only; infer_instance)

theorem duties_cell (c : Dev nD) (k : Fin 5) : (rd (F := F) m).duties (cell c k) 0 = pairs (wt m k c) := by
  dsimp only [rd]; rw [if_pos ⟨rfl, rfl⟩, kindOf_csem]
theorem duties_later (g : GSem nD τ sig) : ∀ r, 1 ≤ r → (rd (F := F) m).duties g r = ∅ :=
  fun r hr => by dsimp only [rd]; rw [if_neg fun h => by omega]
theorem amount_cell (c : Dev nD) (k : Fin 5) (d : Du) : (rd (F := F) m).amount (cell c k) 0 d = unit k := by
  dsimp only [rd]; rw [kindOf_csem]
theorem payload_cell (c : Dev nD) (k : Fin 5) (d : Du) : (rd (F := F) m).payload (cell c k) 0 d = pay m k c d := by
  dsimp only [rd]; rw [kindOf_csem]
theorem expect_cell (c : Dev nD) (k : Fin 5) : (rd (F := F) m).expect (cell c k) 0 = tot m k c * unit k := by
  unfold Schedule.expect Schedule.amountOf
  rw [duties_cell, Finset.sum_congr rfl fun d _ => amount_cell m c k d, Finset.sum_const, card_pairs, smul_eq_mul]

/-! ## What a device owes at launch; levels -/

/-- What a device owes the peers `B` by signals, the peers `C` by counts, and by the chunks `P`. -/
def owe (B C : Finset (Dev nD)) (P : Finset Du) : CellTallies nD τ sig Unit :=
  (∑ j ∈ B, tallyAt (cell j 0) () 1) + (∑ j ∈ C, tallyAt (cell j 2) () Nc) + ∑ d ∈ P, tallyAt (cell d.1 4) () Nd

def peers (c : Dev nD) : Finset (Dev nD) := Finset.univ.erase c

/-- What device `c` owes at launch. -/
def O₀ (c : Dev nD) : CellTallies nD τ sig Unit := owe (peers c) (peers c) (pairs (nch m c))

def L (g : GSem nD τ sig) : Finset Unit := if g.1.2 = .tc then {()} else ∅
/-- Barrier cells at 1, the receiving cells at 2, everything else at 0. -/
def lv (g : GSem nD τ sig) (_ : Unit) : ℕ :=
  if g.2 = csem 0 then 1 else if g.2 = csem 2 ∨ g.2 = csem 4 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_0 (c : Dev nD) (u : Unit) : lv (cell c 0) u = 1 := if_pos rfl
theorem lv_2 (c : Dev nD) (u : Unit) : lv (cell c 2) u = 2 := by
  unfold lv; rw [if_neg (show ¬csem 2 = csem 0 by decide), if_pos (Or.inl rfl)]
theorem lv_4 (c : Dev nD) (u : Unit) : lv (cell c 4) u = 2 := by
  unfold lv; rw [if_neg (show ¬csem 4 = csem 0 by decide), if_pos (Or.inr rfl)]

end Cert.Exchange

end
-- ==== Proof.Views.lean ====
/-
# What the kernel's slices address, and what its copies and stores leave

A chunk is sixteen rows of a slab; a row is one row of a table of counts.  Each slice the kernel takes is one of these
regions, and a copy from a chunk (row) to a chunk (row) moves the elements at the matching places.
-/
module

public import proofs.«01_k».proof.Proof.Protocol

@[expose] public section

noncomputable section

namespace Cert.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

/-- The sixteen rows at an offset, and the row of a table at an offset, as the kernel names them. -/
abbrev chunkM (b : Memref sig .tc .vmem S8x192x512 .bf16) (off : Fin 3 → ℕ)
    (h : ∀ a, off a + S1x16x512.size a ≤ S8x192x512.size a) : Memref sig .tc .vmem S16x512 .bf16 :=
  (b.slice (Rect.unit (s := S8x192x512) off S1x16x512.size h) (fun _ => rfl)).squeeze S16x512 squeezes_S1x16x512_S16x512
abbrev rowM (b : Memref sig .tc .vmem S8x1x128 .i32) (off : Fin 3 → ℕ)
    (h : ∀ a, off a + S1x1x128.size a ≤ S8x1x128.size a) : Memref sig .tc .vmem S1x128 .i32 :=
  (b.slice (Rect.unit (s := S8x1x128) off S1x1x128.size h) (fun _ => rfl)).squeeze S1x128 squeezes_S1x1x128_S1x128

/-! ## Rectangles as regions -/

theorem rect_band {off : Fin 3 → ℕ} {h : ∀ a, off a + S1x16x512.size a ≤ S8x192x512.size a} {i : Dev nD} {n : ℕ}
    (ho : off = ![i.val, 16 * n, 0]) : (Rect.unit (s := S8x192x512) off S1x16x512.size h).set = band i n (n + 1) := by
  subst ho
  ext x
  rw [Rect.mem_set_unit, mem_band]
  constructor
  · intro H
    have h0 := H 0; have h1 := H 1
    refine ⟨Fin.ext ?_, ?_, ?_⟩
    · change i.val ≤ (x 0).val ∧ (x 0).val < i.val + 1 at h0
      change (x 0).val = i.val; omega
    · exact h1.1
    · change 16 * n ≤ (x 1).val ∧ (x 1).val < 16 * n + 16 at h1
      change (x 1).val < _; omega
  · rintro ⟨h0, h1, h2⟩ a
    have e0 : (x 0).val = i.val := congrArg Fin.val h0
    change 16 * n ≤ (x 1).val at h1
    change (x 1).val < _ at h2
    fin_cases a
    · change i.val ≤ (x 0).val ∧ (x 0).val < i.val + 1; omega
    · change 16 * n ≤ (x 1).val ∧ (x 1).val < 16 * n + 16; omega
    · change 0 ≤ (x 2).val ∧ (x 2).val < 0 + 512
      exact ⟨Nat.zero_le _, by have := (x 2).isLt; change (x 2).val < 512 at this; omega⟩

theorem rect_slab {off : Fin 3 → ℕ} {h : ∀ a, off a + S1x192x512.size a ≤ S8x192x512.size a} {i : Dev nD}
    (ho : off = ![i.val, 0, 0]) : (Rect.unit (s := S8x192x512) off S1x192x512.size h).set = band i 0 12 := by
  subst ho
  ext x
  rw [Rect.mem_set_unit, mem_band]
  have hb : (x 1).val < 192 := (x 1).isLt
  have he : (x 2).val < 512 := (x 2).isLt
  constructor
  · intro H
    have h0 := H 0
    change i.val ≤ (x 0).val ∧ (x 0).val < i.val + 1 at h0
    exact ⟨Fin.ext (by change (x 0).val = i.val; omega), by omega, hb⟩
  · rintro ⟨h0, h1, h2⟩ a
    have e0 : (x 0).val = i.val := congrArg Fin.val h0
    fin_cases a
    · change i.val ≤ (x 0).val ∧ (x 0).val < i.val + 1; omega
    · change 0 ≤ (x 1).val ∧ (x 1).val < 0 + 192; omega
    · change 0 ≤ (x 2).val ∧ (x 2).val < 0 + 512; omega

theorem rect_row {off : Fin 3 → ℕ} {h : ∀ a, off a + S1x1x128.size a ≤ S8x1x128.size a} {i : Dev nD}
    (ho : off = ![i.val, 0, 0]) : (Rect.unit (s := S8x1x128) off S1x1x128.size h).set = row i := by
  subst ho
  ext x
  rw [Rect.mem_set_unit, mem_row]
  have hb : (x 1).val < 1 := (x 1).isLt
  have he : (x 2).val < 128 := (x 2).isLt
  constructor
  · intro H
    have h0 := H 0
    change i.val ≤ (x 0).val ∧ (x 0).val < i.val + 1 at h0
    exact Fin.ext (by change (x 0).val = i.val; omega)
  · intro h0 a
    have e0 : (x 0).val = i.val := congrArg Fin.val h0
    fin_cases a
    · change i.val ≤ (x 0).val ∧ (x 0).val < i.val + 1; omega
    · change 0 ≤ (x 1).val ∧ (x 1).val < 0 + 1; omega
    · change 0 ≤ (x 2).val ∧ (x 2).val < 0 + 128; omega

theorem chunk_set_st {off : Fin 3 → ℕ} {h} {i : Dev nD} {n : ℕ} (ho : off = ![i.val, 16 * n, 0]) :
    (chunkM stM off h).view.set = band i n (n + 1) := by
  refine (View.set_reshape _ _).trans ((View.set_slice_whole cc0_scratch1 _).trans ?_)
  exact rect_band ho
theorem chunk_set_sl {off : Fin 3 → ℕ} {h} {i : Dev nD} {n : ℕ} (ho : off = ![i.val, 16 * n, 0]) :
    (chunkM slM off h).view.set = band i n (n + 1) := by
  refine (View.set_reshape _ _).trans ((View.set_slice_whole cc0_scratch0 _).trans ?_)
  exact rect_band ho
theorem row_set_ct {off : Fin 3 → ℕ} {h} {i : Dev nD} (ho : off = ![i.val, 0, 0]) :
    (rowM ctM off h).view.set = row i := by
  refine (View.set_reshape _ _).trans ((View.set_slice_whole cc0_scratch2 _).trans ?_)
  exact rect_row ho
theorem row_set_co {off : Fin 3 → ℕ} {h} {i : Dev nD} (ho : off = ![i.val, 0, 0]) :
    (rowM coM off h).view.set = row i := by
  refine (View.set_reshape _ _).trans ((View.set_slice_whole cc0_scratch3 _).trans ?_)
  exact rect_row ho

/-! ## Copies -/

/-- A chunk copied to the same rows of another slab. -/
theorem chunk_copy {offd offs : Fin 3 → ℕ} {hd hs} {i j : Dev nD} {n : ℕ} (hod : offd = ![i.val, 16 * n, 0])
    (hos : offs = ![j.val, 16 * n, 0]) (fd fs : S8x192x512.Idx → F .bf16) :
    ∀ x ∈ band i n (n + 1), (chunkM stM offd hd).view.write (Elt F) fd ((chunkM slM offs hs).view.read (Elt F) fs) Finset.univ x
      = fs (ix j (x 1) (x 2)) := by
  intro x hx
  rw [← chunk_set_st (h := hd) hod] at hx
  obtain ⟨y, _, rfl⟩ := Finset.mem_map.mp hx
  rw [View.write_emb_of_mem _ _ (Finset.mem_univ y)]
  subst hod hos
  change fs _ = fs _
  congr 1
  funext a
  have hz : ∀ z : S1x16x512.Idx, (z 0).val = 0 := fun z => by have : (z 0).val < 1 := (z 0).isLt; omega
  fin_cases a
  · refine Fin.ext ?_
    exact (congrArg (fun t => j.val + 1 * t) (hz _)).trans (show j.val + 1 * 0 = j.val by omega)
  · exact Fin.ext rfl
  · exact Fin.ext rfl

/-- A row of counts copied to a row. -/
theorem row_copy {offd offs : Fin 3 → ℕ} {hd hs} {i j : Dev nD} (hod : offd = ![i.val, 0, 0])
    (hos : offs = ![j.val, 0, 0]) (fd fs : S8x1x128.Idx → BitVec 32) :
    ∀ x ∈ row i, (rowM coM offd hd).view.write (Elt F) fd ((rowM ctM offs hs).view.read (Elt F) fs) Finset.univ x
      = fs (ixc j (x 2)) := by
  intro x hx
  rw [← row_set_co (h := hd) hod] at hx
  obtain ⟨y, _, rfl⟩ := Finset.mem_map.mp hx
  rw [View.write_emb_of_mem _ _ (Finset.mem_univ y)]
  subst hod hos
  change fs _ = fs _
  congr 1
  funext a
  have hz : ∀ z : S1x1x128.Idx, (z 0).val = 0 := fun z => by have : (z 0).val < 1 := (z 0).isLt; omega
  fin_cases a
  · refine Fin.ext ?_
    exact (congrArg (fun t => j.val + 1 * t) (hz _)).trans (show j.val + 1 * 0 = j.val by omega)
  · exact Subsingleton.elim (α := Fin 1) _ _
  · exact Fin.ext rfl

/-- Chunk `n` from `c` lands at `j` as the final contents say. -/
theorem chunk_lands {offd offs : Fin 3 → ℕ} {hd hs} {c j : Dev nD} {n : ℕ} (hod : offd = ![c.val, 16 * n, 0])
    (hos : offs = ![j.val, 16 * n, 0]) (hn : n < nch m c j) (fd : S8x192x512.Idx → F .bf16) :
    ∀ x ∈ band c n (n + 1), (chunkM stM offd hd).view.write (Elt F) fd ((chunkM slM offs hs).view.read (Elt F) (SL m c)) Finset.univ x
      = ST m j x := by
  intro x hx
  rw [chunk_copy hod hos fd (SL m c) x hx]
  obtain ⟨h0, h1, h2⟩ := mem_band.mp hx
  unfold ST
  rw [if_pos (Or.inr (by rw [h0]; omega)), h0]

theorem row_lands {offd offs : Fin 3 → ℕ} {hd hs} {c j : Dev nD} (hod : offd = ![c.val, 0, 0])
    (hos : offs = ![j.val, 0, 0]) (fd : S8x1x128.Idx → BitVec 32) :
    ∀ x ∈ row c, (rowM coM offd hd).view.write (Elt F) fd ((rowM ctM offs hs).view.read (Elt F) (CT m c)) Finset.univ x
      = CO m j x := by
  intro x hx
  rw [row_copy hod hos fd (CT m c) x hx]
  unfold CO
  rw [mem_row.mp hx]

/-! ## Amounts -/

theorem chunk_amount (b : Memref sig .tc .vmem S8x192x512 .bf16) (hb : b = slM ∨ b = stM) (off h) (s : DmaSem sig) :
    (chunkM b off h).view.amount (.dma s) = Nd := by rcases hb with rfl | rfl <;> rfl
theorem row_amount (b : Memref sig .tc .vmem S8x1x128 .i32) (hb : b = ctM ∨ b = coM) (off h) (s : DmaSem sig) :
    (rowM b off h).view.amount (.dma s) = Nc := by rcases hb with rfl | rfl <;> rfl

end Cert.Exchange

end
-- ==== Proof.Words.lean ====
/-
# The words of the kernel's loops

The kernel computes the bounds of its loops and the offsets of its copies on 32-bit words.  For counts of at most 192 no
word wraps: a sending loop makes as many trips as there are chunks, and trip `t` copies chunk `t`.
-/
module

public import proofs.«01_k».proof.Proof.Views
public import Idealize.ShloMosaic.Lib.LoopRemainder

@[expose] public section

noncomputable section

namespace Cert.Exchange

open Cert.KernelIdeal Cert.KernelIdeal.Gen
open Idealize.ShloMosaic Idealize.ShloMosaic.TcCoe

/-- The device's own number, and the number of chunks for `j` when the count is `w`, as the kernel's words. -/
def meW (c : Dev nD) : BitVec 32 := Scalar.remsi (Scalar.divsi (Dev.word c) 1#32) 8#32
def chW (j c : Dev nD) (w : BitVec 32) : BitVec 32 :=
  Scalar.select (Scalar.cmpi .eq (BitVec.ofNat 32 j.val) (meW c)) 0#32 (Scalar.divsi (Scalar.addi w 15#32) 16#32)
/-- That number. -/
def nchW (j c : Dev nD) (w : BitVec 32) : ℕ := if j = c then 0 else (w.toNat + 15) / 16

theorem meW_toNat (c : Dev nD) : (meW c).toNat = c.val := by revert c; decide +kernel

theorem eq_meW (j c : Dev nD) : Scalar.cmpi .eq (BitVec.ofNat 32 j.val) (meW c) = if j = c then 1#1 else 0#1 := by
  revert j c; decide +kernel

theorem ceil16 {w : BitVec 32} (hw : w.toNat ≤ 192) : (Scalar.divsi (Scalar.addi w 15#32) 16#32).toNat = (w.toNat + 15) / 16 := by
  have h : ∀ n : Fin 193, (Scalar.divsi (Scalar.addi (BitVec.ofNat 32 n.val) 15#32) 16#32).toNat = (n.val + 15) / 16 := by
    decide +kernel
  have := h ⟨w.toNat, by omega⟩
  rwa [BitVec.ofNat_toNat, BitVec.setWidth_eq] at this

theorem chW_toNat {j c : Dev nD} {w : BitVec 32} (hw : w.toNat ≤ 192) : (chW j c w).toNat = nchW j c w := by
  unfold chW nchW
  rw [eq_meW]
  by_cases h : j = c
  · rw [if_pos h, if_pos h]; rfl
  · rw [if_neg h, if_neg h]; exact ceil16 hw

theorem nchW_le {j c : Dev nD} {w : BitVec 32} (hw : w.toNat ≤ 192) : nchW j c w ≤ 12 := by
  unfold nchW; split <;> omega

/-- The upper bound a counted loop is given: its count, through a division and a product by one. -/
abbrev ubW (x : BitVec 32) : BitVec 32 := Scalar.addi 0#32 (Scalar.muli (Scalar.divsi (Scalar.subi x 0#32) 1#32) 1#32)

theorem ubW_eq (x : BitVec 32) : ubW x = x := by
  unfold ubW
  rw [Scalar.muli_divsi_one]
  simp only [Scalar.addi, Scalar.subi, IntOp.addi, IntOp.subi, BitVec.zero_add, BitVec.sub_zero]

theorem trips_ub {x : BitVec 32} (hx : x.toNat ≤ 1000) : Scf.trips 0#32 (ubW x) 1#32 = x.toNat := by
  rw [ubW_eq]
  unfold Scf.trips
  rw [BitVec.toInt_eq_toNat_of_lt (x := x) (by omega), show (0#32 : BitVec 32).toInt = 0 by decide, show (1#32 : BitVec 32).toInt = 1 by decide]
  omega
theorem ok_ub {x : BitVec 32} (hx : x.toNat ≤ 1000) : Scf.OK 0#32 (ubW x) 1#32 := by
  refine ⟨by decide, ?_⟩
  rw [trips_ub hx, show (0#32 : BitVec 32).toInt = 0 by decide, show (1#32 : BitVec 32).toInt = 1 by decide]
  omega

theorem trips_ch {j c : Dev nD} {w : BitVec 32} (hw : w.toNat ≤ 192) : Scf.trips 0#32 (ubW (chW j c w)) 1#32 = nchW j c w := by
  have h := chW_toNat (j := j) (c := c) hw
  have h' := nchW_le (j := j) (c := c) hw
  rw [trips_ub (by omega), h]
theorem ok_ch {j c : Dev nD} {w : BitVec 32} (hw : w.toNat ≤ 192) : Scf.OK 0#32 (ubW (chW j c w)) 1#32 :=
  ok_ub (by rw [chW_toNat hw]; have := nchW_le (j := j) (c := c) hw; omega)
theorem trip_lt {j c : Dev nD} {w : BitVec 32} (hw : w.toNat ≤ 192) (t : Fin (Scf.trips 0#32 (ubW (chW j c w)) 1#32)) : t.val < 12 := by
  have h := t.isLt
  have e := trips_ch (j := j) (c := c) hw
  have := nchW_le (j := j) (c := c) hw
  omega

theorem ivW {t : ℕ} (ht : t < 12) : (Scalar.muli (Scf.iv 0#32 1#32 t) 16#32).toNat = 16 * t := by
  have h : ∀ t : Fin 12, (Scalar.muli (Scf.iv 0#32 1#32 t.val) 16#32).toNat = 16 * t.val := by decide +kernel
  exact h ⟨t, ht⟩

theorem chunk_inb {off : Fin 3 → ℕ} {i : Dev nD} {n : ℕ} (ho : off = ![i.val, 16 * n, 0]) (hn : n < 12) (a : Fin 3) :
    off a + S1x16x512.size a ≤ S8x192x512.size a := by
  subst ho
  have hi : i.val < 8 := i.isLt
  fin_cases a
  · change i.val + 1 ≤ 8; omega
  · change 16 * n + 16 ≤ 192; omega
  · change 0 + 512 ≤ 512; omega

theorem chunk_words {off : Fin 3 → ℕ} {i : Dev nD} {n : ℕ} (ho : off = ![i.val, 16 * n, 0])
    (h : ∀ a, off a + S1x16x512.size a ≤ S8x192x512.size a) :
    (Rect.unit (s := S8x192x512) off S1x16x512.size h).WholeWords (EltTy.packing .bf16) := by
  subst ho
  refine Or.inl (Or.inr ⟨by decide, rfl, Or.inl ⟨?_, ?_⟩⟩)
  · change 2 ∣ 16 * n; omega
  · change 2 ∣ 16; omega

theorem add_toNat {a b : BitVec 32} {x y : ℕ} (ha : a.toNat = x) (hb : b.toNat = y) (h : x + y < 1000) : (Scalar.addi a b).toNat = x + y := by
  change (a + b).toNat = _
  rw [BitVec.toNat_add, ha, hb]; omega

/-- The sum of eight counts of chunks, as the kernel adds them. -/
def sumW (c : Dev nD) (w : Dev nD → BitVec 32) : BitVec 32 :=
  Scalar.addi (Scalar.addi (Scalar.addi (Scalar.addi (Scalar.addi (Scalar.addi (Scalar.addi (Scalar.addi 0#32
    (chW 0 c (w 0))) (chW 1 c (w 1))) (chW 2 c (w 2))) (chW 3 c (w 3))) (chW 4 c (w 4))) (chW 5 c (w 5))) (chW 6 c (w 6))) (chW 7 c (w 7))

theorem sumW_toNat (c : Dev nD) {w : Dev nD → BitVec 32} (hw : ∀ j, (w j).toNat ≤ 192) :
    (sumW c w).toNat = ∑ j, nchW j c (w j) := by
  have e := fun j => chW_toNat (j := j) (c := c) (hw j)
  have b := fun j => nchW_le (j := j) (c := c) (hw j)
  have b0 := b 0; have b1 := b 1; have b2 := b 2; have b3 := b 3; have b4 := b 4; have b5 := b 5; have b6 := b 6; have b7 := b 7
  have s0 := add_toNat (a := 0#32) (x := 0) rfl (e 0) (by omega)
  have s1 := add_toNat s0 (e 1) (by omega)
  have s2 := add_toNat s1 (e 2) (by omega)
  have s3 := add_toNat s2 (e 3) (by omega)
  have s4 := add_toNat s3 (e 4) (by omega)
  have s5 := add_toNat s4 (e 5) (by omega)
  have s6 := add_toNat s5 (e 6) (by omega)
  have s7 := add_toNat s6 (e 7) (by omega)
  unfold sumW
  rw [s7]
  exact (show ∀ f : Fin 8 → ℕ, 0 + f 0 + f 1 + f 2 + f 3 + f 4 + f 5 + f 6 + f 7 = ∑ j, f j from
    fun f => by rw [Fin.sum_univ_eight]; omega) fun j => nchW j c (w j)

theorem sumW_le (c : Dev nD) {w : Dev nD → BitVec 32} (hw : ∀ j, (w j).toNat ≤ 192) : (sumW c w).toNat ≤ 1000 := by
  rw [sumW_toNat c hw]
  refine (Finset.sum_le_sum fun j _ => nchW_le (hw j)).trans ?_
  rw [Finset.sum_const, Finset.card_univ, smul_eq_mul]
  exact (show Fintype.card (Fin 8) * 12 ≤ 1000 by decide)

/-! ## The sending loops and their checks, one by one -/

theorem trips_t1 (c : Dev nD) {w : BitVec 32} (hw : w.toNat ≤ 192) : (k0_t1_loop c w).trips = nchW 0 c w := trips_ch (j := 0) hw
theorem dst_t1 (c : Dev nD) {w : BitVec 32} (hw : w.toNat ≤ 192) (t : Fin (k0_t1_loop c w).trips) : k0_off3 c w t = ![c.val, 16 * t.val, 0] := by
  have ht : t.val < 12 := trip_lt (j := 0) hw t
  change ![(meW c).toNat, (Scalar.muli (Scf.iv 0#32 1#32 t.val) 16#32).toNat, 0] = _
  rw [meW_toNat, ivW ht]
theorem src_t1 (c : Dev nD) {w : BitVec 32} (hw : w.toNat ≤ 192) (t : Fin (k0_t1_loop c w).trips) : k0_off4 c w t = ![(0 : Dev nD).val, 16 * t.val, 0] := by
  have ht : t.val < 12 := trip_lt (j := 0) hw t
  change ![0, (Scalar.muli (Scf.iv 0#32 1#32 t.val) 16#32).toNat, 0] = _
  rw [ivW ht]; rfl
theorem empty_t2 (c : Dev nD) (w : BitVec 32) : (k0_t2_loop c w).trips = 0 := Scf.rem_trips _ _
theorem dev_t1 : (⟨k0_dev15, k0_dev15_lt⟩ : Dev nD) = 0 := by decide
theorem chk1 (c : Dev nD) {w : BitVec 32} (hw : w.toNat ≤ 192) : k0_chk1 c w := by
  have hl : ∀ t : Fin (k0_t1_loop c w).trips, t.val < 12 := fun t => trip_lt (j := 0) hw t
  have he : ∀ t : Fin (k0_t2_loop c w).trips, False := fun t => by have h := t.isLt; have := empty_t2 c w; omega
  exact ⟨ok_ch (j := 0) hw, fun t => chunk_inb (dst_t1 c hw t) (hl t), fun t => chunk_inb (src_t1 c hw t) (hl t),
    fun t h => chunk_words (src_t1 c hw t) h, fun t h => chunk_words (dst_t1 c hw t) h,
    Scf.rem_ok _ _, fun t => (he t).elim, fun t => (he t).elim, fun t => (he t).elim, fun t => (he t).elim⟩

theorem trips_t3 (c : Dev nD) {w : BitVec 32} (hw : w.toNat ≤ 192) : (k0_t3_loop c w).trips = nchW 1 c w := trips_ch (j := 1) hw
theorem dst_t3 (c : Dev nD) {w : BitVec 32} (hw : w.toNat ≤ 192) (t : Fin (k0_t3_loop c w).trips) : k0_off7 c w t = ![c.val, 16 * t.val, 0] := by
  have ht : t.val < 12 := trip_lt (j := 1) hw t
  change ![(meW c).toNat, (Scalar.muli (Scf.iv 0#32 1#32 t.val) 16#32).toNat, 0] = _
  rw [meW_toNat, ivW ht]
theorem src_t3 (c : Dev nD) {w : BitVec 32} (hw : w.toNat ≤ 192) (t : Fin (k0_t3_loop c w).trips) : k0_off8 c w t = ![(1 : Dev nD).val, 16 * t.val, 0] := by
  have ht : t.val < 12 := trip_lt (j := 1) hw t
  change ![1, (Scalar.muli (Scf.iv 0#32 1#32 t.val) 16#32).toNat, 0] = _
  rw [ivW ht]; rfl
theorem empty_t4 (c : Dev nD) (w : BitVec 32) : (k0_t4_loop c w).trips = 0 := Scf.rem_trips _ _
theorem dev_t3 : (⟨k0_dev17, k0_dev17_lt⟩ : Dev nD) = 1 := by decide
theorem chk2 (c : Dev nD) {w : BitVec 32} (hw : w.toNat ≤ 192) : k0_chk2 c w := by
  have hl : ∀ t : Fin (k0_t3_loop c w).trips, t.val < 12 := fun t => trip_lt (j := 1) hw t
  have he : ∀ t : Fin (k0_t4_loop c w).trips, False := fun t => by have h := t.isLt; have := empty_t4 c w; omega
  exact ⟨ok_ch (j := 1) hw, fun t => chunk_inb (dst_t3 c hw t) (hl t), fun t => chunk_inb (src_t3 c hw t) (hl t),
    fun t h => chunk_words (src_t3 c hw t) h, fun t h => chunk_words (dst_t3 c hw t) h,
    Scf.rem_ok _ _, fun t => (he t).elim, fun t => (he t).elim, fun t => (he t).elim, fun t => (he t).elim⟩

theorem trips_t5 (c : Dev nD) {w : BitVec 32} (hw : w.toNat ≤ 192) : (k0_t5_loop c w).trips = nchW 2 c w := trips_ch (j := 2) hw
theorem dst_t5 (c : Dev nD) {w : BitVec 32} (hw : w.toNat ≤ 192) (t : Fin (k0_t5_loop c w).trips) : k0_off11 c w t = ![c.val, 16 * t.val, 0] := by
  have ht : t.val < 12 := trip_lt (j := 2) hw t
  change ![(meW c).toNat, (Scalar.muli (Scf.iv 0#32 1#32 t.val) 16#32).toNat, 0] = _
  rw [meW_toNat, ivW ht]
theorem src_t5 (c : Dev nD) {w : BitVec 32} (hw : w.toNat ≤ 192) (t : Fin (k0_t5_loop c w).trips) : k0_off12 c w t = ![(2 : Dev nD).val, 16 * t.val, 0] := by
  have ht : t.val < 12 := trip_lt (j := 2) hw t
  change ![2, (Scalar.muli (Scf.iv 0#32 1#32 t.val) 16#32).toNat, 0] = _
  rw [ivW ht]; rfl
theorem empty_t6 (c : Dev nD) (w : BitVec 32) : (k0_t6_loop c w).trips = 0 := Scf.rem_trips _ _
theorem dev_t5 : (⟨k0_dev19, k0_dev19_lt⟩ : Dev nD) = 2 := by decide
theorem chk3 (c : Dev nD) {w : BitVec 32} (hw : w.toNat ≤ 192) : k0_chk3 c w := by
  have hl : ∀ t : Fin (k0_t5_loop c w).trips, t.val < 12 := fun t => trip_lt (j := 2) hw t
  have he : ∀ t : Fin (k0_t6_loop c w).trips, False := fun t => by have h := t.isLt; have := empty_t6 c w; omega
  exact ⟨ok_ch (j := 2) hw, fun t => chunk_inb (dst_t5 c hw t) (hl t), fun t => chunk_inb (src_t5 c hw t) (hl t),
    fun t h => chunk_words (src_t5 c hw t) h, fun t h => chunk_words (dst_t5 c hw t) h,
    Scf.rem_ok _ _, fun t => (he t).elim, fun t => (he t).elim, fun t => (he t).elim, fun t => (he t).elim⟩

theorem trips_t7 (c : Dev nD) {w : BitVec 32} (hw : w.toNat ≤ 192) : (k0_t7_loop c w).trips = nchW 3 c w := trips_ch (j := 3) hw
theorem dst_t7 (c : Dev nD) {w : BitVec 32} (hw : w.toNat ≤ 192) (t : Fin (k0_t7_loop c w).trips) : k0_off15 c w t = ![c.val, 16 * t.val, 0] := by
  have ht : t.val < 12 := trip_lt (j := 3) hw t
  change ![(meW c).toNat, (Scalar.muli (Scf.iv 0#32 1#32 t.val) 16#32).toNat, 0] = _
  rw [meW_toNat, ivW ht]
theorem src_t7 (c : Dev nD) {w : BitVec 32} (hw : w.toNat ≤ 192) (t : Fin (k0_t7_loop c w).trips) : k0_off16 c w t = ![(3 : Dev nD).val, 16 * t.val, 0] := by
  have ht : t.val < 12 := trip_lt (j := 3) hw t
  change ![3, (Scalar.muli (Scf.iv 0#32 1#32 t.val) 16#32).toNat, 0] = _
  rw [ivW ht]; rfl
theorem empty_t8 (c : Dev nD) (w : BitVec 32) : (k0_t8_loop c w).trips = 0 := Scf.rem_trips _ _
theorem dev_t7 : (⟨k0_dev21, k0_dev21_lt⟩ : Dev nD) = 3 := by decide
theorem chk4 (c : Dev nD) {w : BitVec 32} (hw : w.toNat ≤ 192) : k0_chk4 c w := by
  have hl : ∀ t : Fin (k0_t7_loop c w).trips, t.val < 12 := fun t => trip_lt (j := 3) hw t
  have he : ∀ t : Fin (k0_t8_loop c w).trips, False := fun t => by have h := t.isLt; have := empty_t8 c w; omega
  exact ⟨ok_ch (j := 3) hw, fun t => chunk_inb (dst_t7 c hw t) (hl t), fun t => chunk_inb (src_t7 c hw t) (hl t),
    fun t h => chunk_words (src_t7 c hw t) h, fun t h => chunk_words (dst_t7 c hw t) h,
    Scf.rem_ok _ _, fun t => (he t).elim, fun t => (he t).elim, fun t => (he t).elim, fun t => (he t).elim⟩

theorem trips_t9 (c : Dev nD) {w : BitVec 32} (hw : w.toNat ≤ 192) : (k0_t9_loop c w).trips = nchW 4 c w := trips_ch (j := 4) hw
theorem dst_t9 (c : Dev nD) {w : BitVec 32} (hw : w.toNat ≤ 192) (t : Fin (k0_t9_loop c w).trips) : k0_off19 c w t = ![c.val, 16 * t.val, 0] := by
  have ht : t.val < 12 := trip_lt (j := 4) hw t
  change ![(meW c).toNat, (Scalar.muli (Scf.iv 0#32 1#32 t.val) 16#32).toNat, 0] = _
  rw [meW_toNat, ivW ht]
theorem src_t9 (c : Dev nD) {w : BitVec 32} (hw : w.toNat ≤ 192) (t : Fin (k0_t9_loop c w).trips) : k0_off20 c w t = ![(4 : Dev nD).val, 16 * t.val, 0] := by
  have ht : t.val < 12 := trip_lt (j := 4) hw t
  change ![4, (Scalar.muli (Scf.iv 0#32 1#32 t.val) 16#32).toNat, 0] = _
  rw [ivW ht]; rfl
theorem empty_t10 (c : Dev nD) (w : BitVec 32) : (k0_t10_loop c w).trips = 0 := Scf.rem_trips _ _
theorem dev_t9 : (⟨k0_dev23, k0_dev23_lt⟩ : Dev nD) = 4 := by decide
theorem chk5 (c : Dev nD) {w : BitVec 32} (hw : w.toNat ≤ 192) : k0_chk5 c w := by
  have hl : ∀ t : Fin (k0_t9_loop c w).trips, t.val < 12 := fun t => trip_lt (j := 4) hw t
  have he : ∀ t : Fin (k0_t10_loop c w).trips, False := fun t => by have h := t.isLt; have := empty_t10 c w; omega
  exact ⟨ok_ch (j := 4) hw, fun t => chunk_inb (dst_t9 c hw t) (hl t), fun t => chunk_inb (src_t9 c hw t) (hl t),
    fun t h => chunk_words (src_t9 c hw t) h, fun t h => chunk_words (dst_t9 c hw t) h,
    Scf.rem_ok _ _, fun t => (he t).elim, fun t => (he t).elim, fun t => (he t).elim, fun t => (he t).elim⟩

theorem trips_t11 (c : Dev nD) {w : BitVec 32} (hw : w.toNat ≤ 192) : (k0_t11_loop c w).trips = nchW 5 c w := trips_ch (j := 5) hw
theorem dst_t11 (c : Dev nD) {w : BitVec 32} (hw : w.toNat ≤ 192) (t : Fin (k0_t11_loop c w).trips) : k0_off23 c w t = ![c.val, 16 * t.val, 0] := by
  have ht : t.val < 12 := trip_lt (j := 5) hw t
  change ![(meW c).toNat, (Scalar.muli (Scf.iv 0#32 1#32 t.val) 16#32).toNat, 0] = _
  rw [meW_toNat, ivW ht]
theorem src_t11 (c : Dev nD) {w : BitVec 32} (hw : w.toNat ≤ 192) (t : Fin (k0_t11_loop c w).trips) : k0_off24 c w t = ![(5 : Dev nD).val, 16 * t.val, 0] := by
  have ht : t.val < 12 := trip_lt (j := 5) hw t
  change ![5, (Scalar.muli (Scf.iv 0#32 1#32 t.val) 16#32).toNat, 0] = _
  rw [ivW ht]; rfl
theorem empty_t12 (c : Dev nD) (w : BitVec 32) : (k0_t12_loop c w).trips = 0 := Scf.rem_trips _ _
theorem dev_t11 : (⟨k0_dev25, k0_dev25_lt⟩ : Dev nD) = 5 := by decide
theorem chk6 (c : Dev nD) {w : BitVec 32} (hw : w.toNat ≤ 192) : k0_chk6 c w := by
  have hl : ∀ t : Fin (k0_t11_loop c w).trips, t.val < 12 := fun t => trip_lt (j := 5) hw t
  have he : ∀ t : Fin (k0_t12_loop c w).trips, False := fun t => by have h := t.isLt; have := empty_t12 c w; omega
  exact ⟨ok_ch (j := 5) hw, fun t => chunk_inb (dst_t11 c hw t) (hl t), fun t => chunk_inb (src_t11 c hw t) (hl t),
    fun t h => chunk_words (src_t11 c hw t) h, fun t h => chunk_words (dst_t11 c hw t) h,
    Scf.rem_ok _ _, fun t => (he t).elim, fun t => (he t).elim, fun t => (he t).elim, fun t => (he t).elim⟩

theorem trips_t13 (c : Dev nD) {w : BitVec 32} (hw : w.toNat ≤ 192) : (k0_t13_loop c w).trips = nchW 6 c w := trips_ch (j := 6) hw
theorem dst_t13 (c : Dev nD) {w : BitVec 32} (hw : w.toNat ≤ 192) (t : Fin (k0_t13_loop c w).trips) : k0_off27 c w t = ![c.val, 16 * t.val, 0] := by
  have ht : t.val < 12 := trip_lt (j := 6) hw t
  change ![(meW c).toNat, (Scalar.muli (Scf.iv 0#32 1#32 t.val) 16#32).toNat, 0] = _
  rw [meW_toNat, ivW ht]
theorem src_t13 (c : Dev nD) {w : BitVec 32} (hw : w.toNat ≤ 192) (t : Fin (k0_t13_loop c w).trips) : k0_off28 c w t = ![(6 : Dev nD).val, 16 * t.val, 0] := by
  have ht : t.val < 12 := trip_lt (j := 6) hw t
  change ![6, (Scalar.muli (Scf.iv 0#32 1#32 t.val) 16#32).toNat, 0] = _
  rw [ivW ht]; rfl
theorem empty_t14 (c : Dev nD) (w : BitVec 32) : (k0_t14_loop c w).trips = 0 := Scf.rem_trips _ _
theorem dev_t13 : (⟨k0_dev27, k0_dev27_lt⟩ : Dev nD) = 6 := by decide
theorem chk7 (c : Dev nD) {w : BitVec 32} (hw : w.toNat ≤ 192) : k0_chk7 c w := by
  have hl : ∀ t : Fin (k0_t13_loop c w).trips, t.val < 12 := fun t => trip_lt (j := 6) hw t
  have he : ∀ t : Fin (k0_t14_loop c w).trips, False := fun t => by have h := t.isLt; have := empty_t14 c w; omega
  exact ⟨ok_ch (j := 6) hw, fun t => chunk_inb (dst_t13 c hw t) (hl t), fun t => chunk_inb (src_t13 c hw t) (hl t),
    fun t h => chunk_words (src_t13 c hw t) h, fun t h => chunk_words (dst_t13 c hw t) h,
    Scf.rem_ok _ _, fun t => (he t).elim, fun t => (he t).elim, fun t => (he t).elim, fun t => (he t).elim⟩

theorem trips_t15 (c : Dev nD) {w : BitVec 32} (hw : w.toNat ≤ 192) : (k0_t15_loop c w).trips = nchW 7 c w := trips_ch (j := 7) hw
theorem dst_t15 (c : Dev nD) {w : BitVec 32} (hw : w.toNat ≤ 192) (t : Fin (k0_t15_loop c w).trips) : k0_off31 c w t = ![c.val, 16 * t.val, 0] := by
  have ht : t.val < 12 := trip_lt (j := 7) hw t
  change ![(meW c).toNat, (Scalar.muli (Scf.iv 0#32 1#32 t.val) 16#32).toNat, 0] = _
  rw [meW_toNat, ivW ht]
theorem src_t15 (c : Dev nD) {w : BitVec 32} (hw : w.toNat ≤ 192) (t : Fin (k0_t15_loop c w).trips) : k0_off32 c w t = ![(7 : Dev nD).val, 16 * t.val, 0] := by
  have ht : t.val < 12 := trip_lt (j := 7) hw t
  change ![7, (Scalar.muli (Scf.iv 0#32 1#32 t.val) 16#32).toNat, 0] = _
  rw [ivW ht]; rfl
theorem empty_t16 (c : Dev nD) (w : BitVec 32) : (k0_t16_loop c w).trips = 0 := Scf.rem_trips _ _
theorem dev_t15 : (⟨k0_dev29, k0_dev29_lt⟩ : Dev nD) = 7 := by decide

theorem trips_t19 (c : Dev nD) {w : Dev nD → BitVec 32} (hw : ∀ j, (w j).toNat ≤ 192) :
    (k0_t19_loop c (w 0) (w 1) (w 2) (w 3) (w 4) (w 5) (w 6) (w 7)).trips = ∑ j, nchW j c (w j) :=
  (trips_ub (x := sumW c w) (sumW_le c hw)).trans (sumW_toNat c hw)
theorem empty_t20 (c : Dev nD) (w : Dev nD → BitVec 32) :
    (k0_t20_loop c (w 0) (w 1) (w 2) (w 3) (w 4) (w 5) (w 6) (w 7)).trips = 0 := Scf.rem_trips _ _
theorem trips_t17 (c : Dev nD) {w : Dev nD → BitVec 32} (hw : ∀ j, (w j).toNat ≤ 192) :
    (k0_t17_loop c (w 0) (w 1) (w 2) (w 3) (w 4) (w 5) (w 6) (w 7)).trips = ∑ j, nchW j c (w j) :=
  (trips_ub (x := sumW c w) (sumW_le c hw)).trans (sumW_toNat c hw)
theorem empty_t18 (c : Dev nD) (w : Dev nD → BitVec 32) :
    (k0_t18_loop c (w 0) (w 1) (w 2) (w 3) (w 4) (w 5) (w 6) (w 7)).trips = 0 := Scf.rem_trips _ _

theorem chk8 (c : Dev nD) {w : Dev nD → BitVec 32} (h : ∀ j, (w j).toNat ≤ 192) :
    k0_chk8 c (w 0) (w 1) (w 2) (w 3) (w 4) (w 5) (w 6) (w 7) := by
  have hw := h 7
  have hl : ∀ t : Fin (k0_t15_loop c (w 7)).trips, t.val < 12 := fun t => trip_lt (j := 7) hw t
  have he : ∀ t : Fin (k0_t16_loop c (w 7)).trips, False := fun t => by have h := t.isLt; have := empty_t16 c (w 7); omega
  exact ⟨ok_ch (j := 7) hw, fun t => chunk_inb (dst_t15 c hw t) (hl t), fun t => chunk_inb (src_t15 c hw t) (hl t),
    fun t h => chunk_words (src_t15 c hw t) h, fun t h => chunk_words (dst_t15 c hw t) h,
    Scf.rem_ok _ _, fun t => (he t).elim, fun t => (he t).elim, fun t => (he t).elim, fun t => (he t).elim,
    ok_ub (x := sumW c w) (sumW_le c h), Scf.rem_ok _ _⟩
theorem chk9 (c : Dev nD) {w : Dev nD → BitVec 32} (h : ∀ j, (w j).toNat ≤ 192) :
    k0_chk9 c (w 0) (w 1) (w 2) (w 3) (w 4) (w 5) (w 6) (w 7) :=
  ⟨ok_ub (x := sumW c w) (sumW_le c h), Scf.rem_ok _ _⟩

/-! ## Devices addressed by the signals and the counts -/

/-- The device `k` places after `c`. -/
def nxt (c : Dev nD) (k : ℕ) : Dev nD := ⟨(c.val + k) % 8, Nat.mod_lt _ (by decide)⟩
theorem sig_dev1 (c : Dev nD) : (⟨k0_dev1 c, k0_dev1_lt c⟩ : Dev nD) = nxt c 1 := by revert c; decide +kernel
theorem cnt_dev1 (c : Dev nD) : (⟨k0_dev8 c, k0_dev8_lt c⟩ : Dev nD) = nxt c 1 := by revert c; decide +kernel
theorem cnt_src1 (c : Dev nD) : k0_off2 c 1#32 = ![(nxt c 1).val, 0, 0] := by
  have h : ∀ c : Dev nD, ∀ a : Fin 3, k0_off2 c 1#32 a = (![(nxt c 1).val, 0, 0] : Fin 3 → ℕ) a := by decide +kernel
  exact funext (h c)
theorem sig_dev2 (c : Dev nD) : (⟨k0_dev2 c, k0_dev2_lt c⟩ : Dev nD) = nxt c 2 := by revert c; decide +kernel
theorem cnt_dev2 (c : Dev nD) : (⟨k0_dev9 c, k0_dev9_lt c⟩ : Dev nD) = nxt c 2 := by revert c; decide +kernel
theorem cnt_src2 (c : Dev nD) : k0_off2 c 2#32 = ![(nxt c 2).val, 0, 0] := by
  have h : ∀ c : Dev nD, ∀ a : Fin 3, k0_off2 c 2#32 a = (![(nxt c 2).val, 0, 0] : Fin 3 → ℕ) a := by decide +kernel
  exact funext (h c)
theorem sig_dev3 (c : Dev nD) : (⟨k0_dev3 c, k0_dev3_lt c⟩ : Dev nD) = nxt c 3 := by revert c; decide +kernel
theorem cnt_dev3 (c : Dev nD) : (⟨k0_dev10 c, k0_dev10_lt c⟩ : Dev nD) = nxt c 3 := by revert c; decide +kernel
theorem cnt_src3 (c : Dev nD) : k0_off2 c 3#32 = ![(nxt c 3).val, 0, 0] := by
  have h : ∀ c : Dev nD, ∀ a : Fin 3, k0_off2 c 3#32 a = (![(nxt c 3).val, 0, 0] : Fin 3 → ℕ) a := by decide +kernel
  exact funext (h c)
theorem sig_dev4 (c : Dev nD) : (⟨k0_dev4 c, k0_dev4_lt c⟩ : Dev nD) = nxt c 4 := by revert c; decide +kernel
theorem cnt_dev4 (c : Dev nD) : (⟨k0_dev11 c, k0_dev11_lt c⟩ : Dev nD) = nxt c 4 := by revert c; decide +kernel
theorem cnt_src4 (c : Dev nD) : k0_off2 c 4#32 = ![(nxt c 4).val, 0, 0] := by
  have h : ∀ c : Dev nD, ∀ a : Fin 3, k0_off2 c 4#32 a = (![(nxt c 4).val, 0, 0] : Fin 3 → ℕ) a := by decide +kernel
  exact funext (h c)
theorem sig_dev5 (c : Dev nD) : (⟨k0_dev5 c, k0_dev5_lt c⟩ : Dev nD) = nxt c 5 := by revert c; decide +kernel
theorem cnt_dev5 (c : Dev nD) : (⟨k0_dev12 c, k0_dev12_lt c⟩ : Dev nD) = nxt c 5 := by revert c; decide +kernel
theorem cnt_src5 (c : Dev nD) : k0_off2 c 5#32 = ![(nxt c 5).val, 0, 0] := by
  have h : ∀ c : Dev nD, ∀ a : Fin 3, k0_off2 c 5#32 a = (![(nxt c 5).val, 0, 0] : Fin 3 → ℕ) a := by decide +kernel
  exact funext (h c)
theorem sig_dev6 (c : Dev nD) : (⟨k0_dev6 c, k0_dev6_lt c⟩ : Dev nD) = nxt c 6 := by revert c; decide +kernel
theorem cnt_dev6 (c : Dev nD) : (⟨k0_dev13 c, k0_dev13_lt c⟩ : Dev nD) = nxt c 6 := by revert c; decide +kernel
theorem cnt_src6 (c : Dev nD) : k0_off2 c 6#32 = ![(nxt c 6).val, 0, 0] := by
  have h : ∀ c : Dev nD, ∀ a : Fin 3, k0_off2 c 6#32 a = (![(nxt c 6).val, 0, 0] : Fin 3 → ℕ) a := by decide +kernel
  exact funext (h c)
theorem sig_dev7 (c : Dev nD) : (⟨k0_dev7 c, k0_dev7_lt c⟩ : Dev nD) = nxt c 7 := by revert c; decide +kernel
theorem cnt_dev7 (c : Dev nD) : (⟨k0_dev14 c, k0_dev14_lt c⟩ : Dev nD) = nxt c 7 := by revert c; decide +kernel
theorem cnt_src7 (c : Dev nD) : k0_off2 c 7#32 = ![(nxt c 7).val, 0, 0] := by
  have h : ∀ c : Dev nD, ∀ a : Fin 3, k0_off2 c 7#32 a = (![(nxt c 7).val, 0, 0] : Fin 3 → ℕ) a := by decide +kernel
  exact funext (h c)
theorem cnt_dst (c : Dev nD) : k0_off1 c = ![c.val, 0, 0] := by
  have h : ∀ c : Dev nD, ∀ a : Fin 3, k0_off1 c a = (![c.val, 0, 0] : Fin 3 → ℕ) a := by decide +kernel
  exact funext (h c)
theorem own_slab (c : Dev nD) : k0_off35 c = ![c.val, 0, 0] := by
  have h : ∀ c : Dev nD, ∀ a : Fin 3, k0_off35 c a = (![c.val, 0, 0] : Fin 3 → ℕ) a := by decide +kernel
  exact funext (h c)
theorem own_row (c : Dev nD) : k0_off36 c = ![c.val, 0, 0] := by
  have h : ∀ c : Dev nD, ∀ a : Fin 3, k0_off36 c a = (![c.val, 0, 0] : Fin 3 → ℕ) a := by decide +kernel
  exact funext (h c)

end Cert.Exchange

end
-- ==== Proof.Big.lean ====
/-
# Separating conjunctions over sets, rewritten

The equations used here, with the connectives as the proof mode spells them.
-/
module

public import proofs.«01_k».proof.Proof.Protocol
public import Idealize.SL.ProofMode.BigOp
public import Idealize.ShloMosaic.Lib.Pipeline.Launch

@[expose] public section

noncomputable section

namespace Cert.Exchange

open Idealize.SL Idealize.SL.RA Idealize.SL.BI
open scoped Idealize.SL.BI
open Idealize.SL.BI.BIBase Idealize.SL.BI.Laws Idealize.SL.ProofMode

variable {M : Type} [URA M] {I J : Type} [DecidableEq I] [DecidableEq J]

theorem bs_empty (Φ : I → sProp M) : bigSep ∅ Φ = iprop(emp) := bigSep_empty
theorem bs_erase {s : Finset I} {i : I} (h : i ∈ s) (Φ : I → sProp M) : bigSep s Φ = iprop(Φ i ∗ bigSep (s.erase i) Φ) := bigSep_erase h
theorem bs_union {s t : Finset I} (h : Disjoint s t) (Φ : I → sProp M) : bigSep (s ∪ t) Φ = iprop(bigSep s Φ ∗ bigSep t Φ) := bigSep_union h
theorem bs_sdiff {s t : Finset I} (h : t ⊆ s) (Φ : I → sProp M) : bigSep s Φ = iprop(bigSep t Φ ∗ bigSep (s \ t) Φ) := bigSep_sdiff_split h
theorem bs_elim {s : Finset I} {i : I} (h : i ∈ s) (Φ : I → sProp M) : (bigSep s Φ : sProp M) ⊢ Φ i := bigSep_elim h
theorem bs_map {s : Finset I} (e : I ↪ J) (Φ : J → sProp M) : bigSep (s.map e) Φ = bigSep s fun i => Φ (e i) := bigSep_map e
theorem bs_sep (s : Finset I) (Φ Ψ : I → sProp M) : bigSep s (fun i => iprop(Φ i ∗ Ψ i)) = iprop(bigSep s Φ ∗ bigSep s Ψ) := bigSep_sep s Φ Ψ
theorem bs_mono {s : Finset I} {Φ Ψ : I → sProp M} (h : ∀ i ∈ s, Φ i ⊢ Ψ i) : (bigSep s Φ : sProp M) ⊢ bigSep s Ψ := bigSep_mono h
theorem bs_congr {s : Finset I} {Φ Ψ : I → sProp M} (h : ∀ i ∈ s, Φ i = Ψ i) : (bigSep s Φ : sProp M) = bigSep s Ψ := bigSep_congr h
theorem bs_univ [Fintype I] (i : I) (Φ : I → sProp M) : bigSep Finset.univ Φ = iprop(Φ i ∗ bigSep (Finset.univ.erase i) Φ) := bs_erase (Finset.mem_univ i) Φ

end Cert.Exchange

end
-- ==== Proof.Steps.lean ====
/-
# The steps of the protocol

One lemma for each kind of effect the kernel has on its semaphores: a signal, a copy of a count, a copy of a chunk, a wait
for one contribution.  Each takes the state of the protocol to the next, whatever has been done already.
-/
module

public import proofs.«01_k».proof.Proof.Words
public import proofs.«01_k».proof.Proof.Big
public import Mathlib.Tactic.Abel

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

abbrev 𝒱₀ : Variants := Variants.none

/-- The weakest precondition of a program of device `c`. -/
abbrev WPc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Every cell's invariant, and that its round has begun. -/
def recs (K : Dev nD × Fin 5 → ℕ) : sProp 𝕄 :=
  bigSep Finset.univ fun p : Dev nD × Fin 5 => iprop(cellInv ER (rd m) (K p) (cell p.1 p.2) ∗ reached ER (cell p.1 p.2) 0)

instance recs_persistent (K : Dev nD × Fin 5 → ℕ) : BI.Persistent (recs m K) := by unfold recs; infer_instance

theorem recs_at (K : Dev nD × Fin 5 → ℕ) (c : Dev nD) (k : Fin 5) :
    recs m K ⊢ iprop(cellInv ER (rd m) (K (c, k)) (cell c k) ∗ reached ER (cell c k) 0) :=
  bigSep_elim (Φ := fun p : Dev nD × Fin 5 => iprop(cellInv ER (rd m) (K p) (cell p.1 p.2) ∗ reached ER (cell p.1 p.2) 0)) (Finset.mem_univ (c, k))

/-- What a device owes, whatever it has waited for. -/
def Ow (c : Dev nD) (O : CellTallies nD τ sig Unit) : sProp 𝕄 := iprop(∃ W, owes (c : Thread nD τ) O W)

/-- What device `c` has for the signals to `B`; for the counts to `C`; for the chunks `P`. -/
def sigItem (c j : Dev nD) : sProp 𝕄 := iprop(dutyTok ER (cell j 0) 0 ⟨c, 0⟩ ∗ pay m 0 j ⟨c, 0⟩)
def cntItem (c j : Dev nD) : sProp 𝕄 :=
  iprop(dutyTok ER (cell c 1) 0 ⟨j, 0⟩ ∗ dutyTok ER (cell j 2) 0 ⟨c, 0⟩ ∗ ctP c (row j) fullShare.right (CT m c) ∗ ∃ f, coP j (row c) f)
def chItem (c : Dev nD) (d : Du) : sProp 𝕄 :=
  iprop(dutyTok ER (cell c 3) 0 d ∗ dutyTok ER (cell d.1 4) 0 ⟨c, d.2⟩
    ∗ slP c (band d.1 d.2 (d.2 + 1)) fullShare.right (SL m c) ∗ ∃ f, stP d.1 (band c d.2 (d.2 + 1)) f)

theorem tc_ne {c j : Dev nD} (h : j ≠ c) : (if c = j then 0 else 1) = 1 := if_neg fun e => h e.symm

theorem owe_sig {B C : Finset (Dev nD)} {P : Finset Du} {j : Dev nD} (hj : j ∈ B) :
    owe B C P = owe (B.erase j) C P + tallyAt (cell j 0) () 1 := by
  unfold owe; rw [← Finset.sum_erase_add B _ hj]; abel
theorem owe_cnt {B C : Finset (Dev nD)} {P : Finset Du} {j : Dev nD} (hj : j ∈ C) :
    owe B C P = owe B (C.erase j) P + tallyAt (cell j 2) () Nc := by
  unfold owe; rw [← Finset.sum_erase_add C _ hj]; abel
theorem owe_ch {B C : Finset (Dev nD)} {P : Finset Du} {d : Du} (hd : d ∈ P) :
    owe B C P = owe B C (P.erase d) + tallyAt (cell d.1 4) () Nd := by
  unfold owe; rw [← Finset.sum_erase_add P _ hd]; abel
theorem owe_none : owe ∅ ∅ ∅ = 0 := by
  unfold owe; simp only [Finset.sum_empty, add_zero]

theorem mem_bar {c j : Dev nD} (h : j ≠ c) : (⟨c, 0⟩ : Du) ∈ (rd m).duties (cell j 0) 0 := by
  rw [duties_cell, mem_pairs]; change 0 < if c = j then 0 else 1; rw [tc_ne h]; exact Nat.one_pos
theorem mem_cs {c j : Dev nD} (h : j ≠ c) : (⟨j, 0⟩ : Du) ∈ (rd m).duties (cell c 1) 0 := by
  rw [duties_cell, mem_pairs]; change 0 < if j = c then 0 else 1; rw [if_neg h]; exact Nat.one_pos
theorem mem_cr {c j : Dev nD} (h : j ≠ c) : (⟨c, 0⟩ : Du) ∈ (rd m).duties (cell j 2) 0 := by
  rw [duties_cell, mem_pairs]; change 0 < if c = j then 0 else 1; rw [tc_ne h]; exact Nat.one_pos
theorem mem_ds {c : Dev nD} {d : Du} (h : d.2 < nch m c d.1) : d ∈ (rd m).duties (cell c 3) 0 := by
  rw [duties_cell, mem_pairs]; exact h
theorem mem_dr {c : Dev nD} {d : Du} (h : d.2 < nch m c d.1) : (⟨c, d.2⟩ : Du) ∈ (rd m).duties (cell d.1 4) 0 := by
  rw [duties_cell, mem_pairs]; exact h

theorem cred_join (g : GSem nD τ sig) (a b : ℕ) :
    iprop(cred (tallyAt g () a) ∗ cred (tallyAt g () b)) ⊢ (cred (tallyAt g () (a + b)) : sProp 𝕄) := by
  rw [← tallyAt_add]; exact (cred_add _ _).2
theorem cred_split (g : GSem nD τ sig) (a b : ℕ) :
    (cred (tallyAt g () (a + b)) : sProp 𝕄) ⊢ iprop(cred (tallyAt g () a) ∗ cred (tallyAt g () b)) := by
  rw [← tallyAt_add]; exact (cred_add _ _).1

theorem step_signal (K : Dev nD × Fin 5 → ℕ) (c n j : Dev nD) (hn : n = j) (hne : j ≠ c) {B C : Finset (Dev nD)} {P : Finset Du} (hj : j ∈ B)
    {z : Int} (hz : z = ((1 : ℕ) : Int)) {α : Type} {Q : α → sProp 𝕄} {k : PUnit → Prog (TpuEff nD τ sig (Elt F) Λ₀ .tc) α} :
    iprop(recs m K ∗ Ow c (owe B C P) ∗ bigSep B (sigItem m c))
      ⊢ iprop(((Ow c (owe (B.erase j) C P) ∗ bigSep (B.erase j) (sigItem m c)) -∗ WPc c (k ⟨⟩) Q)
          -∗ WPc c (.op (.semSignal (Dev.tc n : Thread nD τ) barS z) k) Q) := by
  subst hn hz
  rw [bs_erase hj]
  unfold Ow sigItem
  iintro ⟨#HR, ⟨%W, HO⟩, ⟨Ht, Hp⟩, HB⟩ Hk
  ihave Hi := (recs_at m K n 0) $$ HR
  icases Hi with ⟨#HI, #Hr⟩
  have hw := Rounds.wp_signal (Q := Q) (k := k) 𝒱₀ ER (rd m) (c : Thread nD τ) none (dst := (n : Thread nD τ)) (sem := barS) (κ := K (n, 0)) (r := 0)
      (d := ⟨c, 0⟩) (mem_bar m hne) (amount_cell m n 0 ⟨c, 0⟩) () (owe (B.erase n) C P) (owe_sig hj) (W := W) (Es := Set.univ) (defs := defs₀ (F := F)) (Γ := .empty)
  rw [show (rd m).payload ((n : Thread nD τ), SemLoc.reg barS) 0 ⟨c, 0⟩ = pay m 0 n ⟨c, 0⟩ from payload_cell m n 0 _] at hw
  iapply hw $$ [HO Ht Hp]
  · isplitr; · iexact HI
    isplitl [HO]; · iexact HO
    isplitl [Ht]; · iexact Ht
    isplitl [Hp]; · iexact Hp
    iexact Hr
  iintro HO
  iapply Hk
  isplitl [HO]
  · iexists W; iexact HO
  iexact HB

theorem step_count (K : Dev nD × Fin 5 → ℕ) (c n j : Dev nD) (hn : n = j) (hne : j ≠ c) {B C : Finset (Dev nD)} {P : Finset Du} (hj : j ∈ C) (z : ℕ)
    {offd offs : Fin 3 → ℕ} {hd : ∀ a, offd a + S1x1x128.size a ≤ S8x1x128.size a} {hs : ∀ a, offs a + S1x1x128.size a ≤ S8x1x128.size a}
    (hod : offd = ![c.val, 0, 0]) (hos : offs = ![j.val, 0, 0])
    {hsc : (rowM coM offd hd).view.ref.isScScratch = false} {hsrc : (rowM ctM offs hs).view.WordExact} {hdst : (rowM coM offd hd).view.WordExact}
    {hsem : DmaTarget.Typed .vmem (csem 2) (.remote (Dev.tc n : Thread nD τ) (rowM coM offd hd) (csem 1) hsc)}
    {α : Type} {Q : α → sProp 𝕄} {k : PUnit → Prog (TpuEff nD τ sig (Elt F) Λ₀ .tc) α} :
    iprop(recs m K ∗ Ow c (owe B C P) ∗ bigSep C (cntItem m c) ∗ cred (tallyAt (cell c 1) () z))
      ⊢ iprop(((Ow c (owe B (C.erase j) P) ∗ bigSep (C.erase j) (cntItem m c) ∗ cred (tallyAt (cell c 1) () (z + Nc))) -∗ WPc c (k ⟨⟩) Q)
          -∗ WPc c (.op (.enqueueDma (rowM ctM offs hs) (.remote (Dev.tc n : Thread nD τ) (rowM coM offd hd) (csem 1) hsc) (csem 2) hsrc hdst hsem) k) Q) := by
  subst hn
  rw [bs_erase hj]
  unfold Ow cntItem
  iintro ⟨#HR, ⟨%W, HO⟩, ⟨⟨Ht1, Ht2, Hs, %f, Hd⟩, HC⟩, Hz⟩ Hk
  ihave Hi := (recs_at m K c 1) $$ HR
  icases Hi with ⟨#HI1, #Hr1⟩
  ihave Hi := (recs_at m K n 2) $$ HR
  icases Hi with ⟨#HI2, #Hr2⟩
  have hw := Rounds.wp_send_pointsTo (Q := Q) (k := k) 𝒱₀ ER (rd m) (c : Thread nD τ) none (c' := (n : Thread nD τ)) (κ₁ := K (c, 1)) (κ₂ := K (n, 2))
      (src := rowM ctM offs hs) (dst := rowM coM offd hd) (hsc := hsc) (sS := csem 1) (sem := csem 2) (hsrc := hsrc) (hdst := hdst) (hsem := hsem)
      (r₁ := 0) (r₂ := 0) (d₁ := ⟨n, 0⟩) (d₂ := ⟨c, 0⟩) (q := fullShare.right) (fs := CT m c) (fd := f) (defs := defs₀ (F := F)) (Γ := .empty)
      (mem_cs m hne) (mem_cr m hne) () () Nc (row_amount coM (Or.inr rfl) offd hd _) (amount_cell m c 1 _) (amount_cell m n 2 _)
      (owe B (C.erase n) P) (owe_cnt hj) (W := W) (Es := Set.univ)
      (Entails.of_eq (by rw [show (rd m).payload ((c : Thread nD τ), csem 1) 0 ⟨n, 0⟩ = pay m 1 c ⟨n, 0⟩ from payload_cell m c 1 _, row_set_ct hos]; rfl))
      (Entails.of_eq (by
        rw [show (rd m).payload ((n : Thread nD τ), csem 2) 0 ⟨c, 0⟩ = pay m 2 n ⟨c, 0⟩ from payload_cell m n 2 _, row_set_co hod]
        exact pointsTo_congr (row_lands m hod hos f)))
  rw [row_set_ct hos, row_set_co hod] at hw
  iapply hw $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  isplitl [HC]; · iexact HC
  iapply (cred_join (cell c 1) z Nc)
  isplitl [Hz] <;> iassumption

theorem step_chunk (K : Dev nD × Fin 5 → ℕ) (c n : Dev nD) (d : Du) (hn : n = d.1) {B C : Finset (Dev nD)} {P : Finset Du} (hj : d ∈ P) (hlt : d.2 < nch m c d.1) (z : ℕ)
    {offd offs : Fin 3 → ℕ} {hd : ∀ a, offd a + S1x16x512.size a ≤ S8x192x512.size a} {hs : ∀ a, offs a + S1x16x512.size a ≤ S8x192x512.size a}
    (hod : offd = ![c.val, 16 * d.2, 0]) (hos : offs = ![d.1.val, 16 * d.2, 0])
    {hsc : (chunkM stM offd hd).view.ref.isScScratch = false} {hsrc : (chunkM slM offs hs).view.WordExact} {hdst : (chunkM stM offd hd).view.WordExact}
    {hsem : DmaTarget.Typed .vmem (csem 4) (.remote (Dev.tc n : Thread nD τ) (chunkM stM offd hd) (csem 3) hsc)}
    {α : Type} {Q : α → sProp 𝕄} {k : PUnit → Prog (TpuEff nD τ sig (Elt F) Λ₀ .tc) α} :
    iprop(recs m K ∗ Ow c (owe B C P) ∗ bigSep P (chItem m c) ∗ cred (tallyAt (cell c 3) () z))
      ⊢ iprop(((Ow c (owe B C (P.erase d)) ∗ bigSep (P.erase d) (chItem m c) ∗ cred (tallyAt (cell c 3) () (z + Nd))) -∗ WPc c (k ⟨⟩) Q)
          -∗ WPc c (.op (.enqueueDma (chunkM slM offs hs) (.remote (Dev.tc n : Thread nD τ) (chunkM stM offd hd) (csem 3) hsc) (csem 4) hsrc hdst hsem) k) Q) := by
  obtain ⟨j, t⟩ := d
  subst hn
  rw [bs_erase hj]
  unfold Ow chItem
  dsimp only at hlt hod hos ⊢
  iintro ⟨#HR, ⟨%W, HO⟩, ⟨⟨Ht1, Ht2, Hs, %f, Hd⟩, HC⟩, Hz⟩ Hk
  ihave Hi := (recs_at m K c 3) $$ HR
  icases Hi with ⟨#HI1, #Hr1⟩
  ihave Hi := (recs_at m K n 4) $$ HR
  icases Hi with ⟨#HI2, #Hr2⟩
  have hw := Rounds.wp_send_pointsTo (Q := Q) (k := k) 𝒱₀ ER (rd m) (c : Thread nD τ) none (c' := (n : Thread nD τ)) (κ₁ := K (c, 3)) (κ₂ := K (n, 4))
      (src := chunkM slM offs hs) (dst := chunkM stM offd hd) (hsc := hsc) (sS := csem 3) (sem := csem 4) (hsrc := hsrc) (hdst := hdst) (hsem := hsem)
      (r₁ := 0) (r₂ := 0) (d₁ := ⟨n, t⟩) (d₂ := ⟨c, t⟩) (q := fullShare.right) (fs := SL m c) (fd := f) (defs := defs₀ (F := F)) (Γ := .empty)
      (mem_ds m (d := ⟨n, t⟩) hlt) (mem_dr m (d := ⟨n, t⟩) hlt) () () Nd (chunk_amount stM (Or.inr rfl) offd hd _) (amount_cell m c 3 _) (amount_cell m n 4 _)
      (owe B C (P.erase ⟨n, t⟩)) (owe_ch hj) (W := W) (Es := Set.univ)
      (Entails.of_eq (by rw [show (rd m).payload ((c : Thread nD τ), csem 3) 0 ⟨n, t⟩ = pay m 3 c ⟨n, t⟩ from payload_cell m c 3 _, chunk_set_sl hos]; rfl))
      (Entails.of_eq (by
        rw [show (rd m).payload ((n : Thread nD τ), csem 4) 0 ⟨c, t⟩ = pay m 4 n ⟨c, t⟩ from payload_cell m n 4 _, chunk_set_st hod]
        exact pointsTo_congr (chunk_lands m hod hos hlt f)))
  rw [chunk_set_sl hos, chunk_set_st hod] at hw
  iapply hw $$ [HO Ht1 Ht2 Hs Hd]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]
  · iexists W; iexact HO
  isplitl [HC]; · iexact HC
  iapply (cred_join (cell c 3) z Nd)
  isplitl [Hz] <;> iassumption

/-! ## Waits -/

/-- All contributions to a cell taken. -/
def Done (c : Dev nD) (k : Fin 5) : sProp 𝕄 :=
  iprop(∃ R, ⌜∀ r, R ≤ r → (rd m).duties (cell c k) r = ∅⌝ ∗ atPos ER (cell c k) R ∅ 0 ∗ bigSep (pairs (wt m k c)) (pay m k c))

/-- `t` contributions waited for at a cell, `tot - t` to come: those that landed so far have been taken. -/
def Wst (c : Dev nD) (k : Fin 5) (t : ℕ) : sProp 𝕄 :=
  if t < tot m k c then
    iprop(∃ S, ⌜S ⊆ pairs (wt m k c)⌝ ∗ atPos ER (cell c k) 0 S (t * unit k) ∗ bigSep S (pay m k c)
      ∗ cred (tallyAt (cell c k) () ((tot m k c - t) * unit k)))
  else Done m c k

theorem Wst_done (c : Dev nD) (k : Fin 5) : Wst m c k (tot m k c) = Done m c k := if_neg (lt_irrefl _)

theorem step_wait (K : Dev nD × Fin 5 → ℕ) (c : Dev nD) (k : Fin 5) {t : ℕ} (ht : t < tot m k c) {w : TpuEff nD τ sig (Elt F) Λ₀ .tc PUnit}
    (hw : ∀ X : PUnit → sProp 𝕄, wpE (defs₀ (F := F)) 𝒱₀ (c : Thread nD τ) none Set.univ w X = waitSpec (c : Thread nD τ) Set.univ (csem k) (unit k) X)
    {α : Type} {Q : α → sProp 𝕄} {kk : PUnit → Prog (TpuEff nD τ sig (Elt F) Λ₀ .tc) α} :
    iprop(recs m K ∗ Ow c 0 ∗ Wst m c k t)
      ⊢ iprop(((Ow c 0 ∗ Wst m c k (t + 1)) -∗ WPc c (kk ⟨⟩) Q) -∗ WPc c (.op w kk) Q) := by
  unfold Ow
  rw [show Wst m c k t = _ from if_pos ht]
  iintro ⟨#HR, ⟨%W, HO⟩, ⟨%S, %hS, Hat, Hp, Hc⟩⟩ Hk
  ihave Hi := (recs_at m K c k) $$ HR
  icases Hi with ⟨#HI, #Hr⟩
  by_cases hl : t + 1 = tot m k c
  · have hw' := Rounds.wp_wait_rest_token (Q := Q) (k := kk) 𝒱₀ ER (rd m) (c : Thread nD τ) none (κ := K (c, k)) (defs := defs₀ (F := F)) (Γ := .empty) hw (Set.mem_univ _) ()
      (O := 0) (W := W) (R := 0) (m := t * unit k) (T := S)
      (show t * unit k + unit k = (rd m).expect (cell c k) 0 by rw [expect_cell, ← hl, Nat.add_mul, Nat.one_mul])
    rw [show (rd m).duties ((c : Thread nD τ), csem k) 0 = _ from duties_cell m c k, bs_congr (fun d _ => payload_cell m c k d)] at hw'
    iapply hw' $$ [HO Hat Hc]
    · isplitr; · iexact HI
      isplitl [Hc]
      · rw [show (tot m k c - t) * unit k = unit k by rw [← hl, Nat.add_sub_cancel_left, Nat.one_mul]]; iexact Hc
      isplitl [HO]; · iexact HO
      isplitr; · rw [MayWait_zero]; iempintro
      iexact Hat
    iintro ⟨HO, Hat, -, Hp'⟩
    iapply Hk
    isplitl [HO]; · iexists _; iexact HO
    rw [hl, Wst_done]
    unfold Done
    iexists 1
    isplitr; · ipureintro; exact duties_later m _
    isplitl [Hat]; · iexact Hat
    rw [bs_sdiff hS]
    isplitl [Hp] <;> iassumption
  · have hw' := Rounds.wp_wait (Q := Q) (k := kk) 𝒱₀ ER (rd m) (c : Thread nD τ) none (κ := K (c, k)) (defs := defs₀ (F := F)) (Γ := .empty) hw (Set.mem_univ _)
      (cr := Finsupp.single () (unit k)) (O := 0) (W := W) {(csem k, ())} (R := 0) (m := t * unit k) (T := S)
      (by rw [Util.total_single]) (image_single_subset _ () (unit k))
    ihave Hcs := (Entails.of_eq (congrArg (fun n => (cred (tallyAt (cell c k) () n) : sProp 𝕄))
        (show (tot m k c - t) * unit k = unit k + (tot m k c - (t + 1)) * unit k by
          rw [show tot m k c - t = (tot m k c - (t + 1)) + 1 by omega, Nat.add_mul, Nat.one_mul, Nat.add_comm]))) $$ Hc
    ihave Hcs := (cred_split (cell c k) (unit k) _) $$ Hcs
    icases Hcs with ⟨Hc, Hc'⟩
    iapply hw' $$ [HO Hat Hc]
    · isplitr; · iexact HI
      isplitl [Hc]; · iexact Hc
      isplitl [HO]; · iexact HO
      isplitr; · rw [show MayOwe (c : Thread nD τ) {(csem k, ())} 0 = (MayWait (c : Thread nD τ) (csem k) () 0 : sProp 𝕄) from rfl, MayWait_zero]; iempintro
      iexact Hat
    iintro %S' ⟨%hS', HO, Hat, Hp'⟩
    iapply Hk
    isplitl [HO]; · iexists _; iexact HO
    rw [show Wst m c k (t + 1) = _ from if_pos (by omega)]
    iexists S'
    isplitr; · ipureintro; rw [← duties_cell]; exact hS'.2.1
    isplitl [Hat]; · rw [Nat.add_mul, Nat.one_mul]; iexact Hat
    isplitl [Hp Hp']
    · rw [bs_sdiff hS'.1 (pay m k c), show bigSep (S' \ S) (pay m k c) = _ from bs_congr (fun d _ => (payload_cell m c k d).symm)]
      isplitl [Hp] <;> iassumption
    iexact Hc'

theorem owe_pos {C : Finset (Dev nD)} {P : Finset Du} {g : GSem nD τ sig} {u : Unit} (h : 0 < owe ∅ C P g u) :
    (∃ j, g = cell j 2) ∨ ∃ j, g = cell j 4 := by
  unfold owe at h
  rw [Finset.sum_empty, zero_add, Pi.add_apply, Finsupp.add_apply, Finset.sum_apply, Finset.sum_apply, Finsupp.finset_sum_apply, Finsupp.finset_sum_apply] at h
  by_contra hn
  rw [not_or, not_exists, not_exists] at hn
  rw [Finset.sum_eq_zero fun j _ => by rw [tallyAt_apply, if_neg (fun e => hn.1 j e.1)],
    Finset.sum_eq_zero fun d _ => by rw [tallyAt_apply, if_neg (fun e => hn.2 d.1 e.1)]] at h
  exact Nat.lt_irrefl 0 h

/-- At the barrier a device owes landings only, which lie above it. -/
theorem mayWait_bar (c : Dev nD) (C : Finset (Dev nD)) (P : Finset Du) :
    (levAts L lv : sProp 𝕄) ⊢ MayWait (c : Thread nD τ) (csem 0) () (owe ∅ C P) :=
  MayOwe.of_cut (L := L) (lev := lv) 1 (fun p hp => by rw [Finset.mem_singleton.mp hp, L_tc]; exact Finset.mem_singleton_self _)
    (fun g u hg => by rcases owe_pos hg with ⟨j, rfl⟩ | ⟨j, rfl⟩ <;> exact Finset.mem_singleton_self _)
    (fun p hp => by rw [Finset.mem_singleton.mp hp]; exact (lv_0 c ()).le)
    (fun g u hg => by
      rcases owe_pos hg with ⟨j, rfl⟩ | ⟨j, rfl⟩
      · rw [lv_2]; decide
      · rw [lv_4]; decide)

theorem tot_bar (c : Dev nD) : tot m 0 c = 7 := by
  show (∑ i : Dev nD, if i = c then 0 else 1) = 7
  revert c; decide
theorem tot_cs (c : Dev nD) : tot m 1 c = 7 := tot_bar m c
theorem tot_cr (c : Dev nD) : tot m 2 c = 7 := tot_bar m c

theorem step_barrier (K : Dev nD × Fin 5 → ℕ) (c : Dev nD) {C : Finset (Dev nD)} {P : Finset Du} {z : ℕ} (hz : z = 7)
    {α : Type} {Q : α → sProp 𝕄} {kk : PUnit → Prog (TpuEff nD τ sig (Elt F) Λ₀ .tc) α} :
    iprop(recs m K ∗ levAts L lv ∗ Ow c (owe ∅ C P) ∗ atPos ER (cell c 0) 0 ∅ 0 ∗ cred (tallyAt (cell c 0) () 7))
      ⊢ iprop(((Ow c (owe ∅ C P) ∗ Done m c 0) -∗ WPc c (kk ⟨⟩) Q) -∗ WPc c (.op (.semWait barS z) kk) Q) := by
  subst hz
  unfold Ow
  iintro ⟨#HR, #Hlev, ⟨%W, HO⟩, Hat, Hc⟩ Hk
  ihave Hi := (recs_at m K c 0) $$ HR
  icases Hi with ⟨#HI, #Hr⟩
  have hw' := Rounds.wp_wait_rest_token (Q := Q) (k := kk) 𝒱₀ ER (rd m) (c : Thread nD τ) none (κ := K (c, 0)) (defs := defs₀ (F := F)) (Γ := .empty)
    (wpE_semWait_eq 𝒱₀ (c : Thread nD τ) none Set.univ (sem := barS)) (Set.mem_univ _) ()
    (O := owe ∅ C P) (W := W) (R := 0) (m := 0) (T := ∅)
    (show 0 + 7 = (rd m).expect (cell c 0) 0 by rw [expect_cell, tot_bar]; rfl)
  rw [show (rd m).duties ((c : Thread nD τ), .reg barS) 0 = _ from duties_cell m c 0, bs_congr (fun d _ => payload_cell m c 0 d), Finset.sdiff_empty] at hw'
  iapply hw' $$ [HO Hat Hc]
  · isplitr; · iexact HI
    isplitl [Hc]; · iexact Hc
    isplitl [HO]; · iexact HO
    isplitr; · iapply (mayWait_bar c C P); iexact Hlev
    iexact Hat
  iintro ⟨HO, Hat, -, Hp'⟩
  iapply Hk
  isplitl [HO]; · iexists _; iexact HO
  unfold Done
  iexists 1
  isplitr; · ipureintro; exact duties_later m _
  isplitl [Hat] <;> iassumption

/-- A cell whose contributions have all been taken closes, its counter at zero. -/
theorem close_done (K : Dev nD × Fin 5 → ℕ) (c : Dev nD) (k : Fin 5) :
    iprop(recs m K ∗ Done m c k) ⊢ iprop(|={Set.univ}=> (semVal (cell c k) 0 ∗ bigSep (pairs (wt m k c)) (pay m k c)) : sProp 𝕄) := by
  unfold Done
  iintro ⟨#HR, %R, %hR, Hat, Hp⟩
  ihave Hi := (recs_at m K c k) $$ HR
  icases Hi with ⟨#HI, #Hr⟩
  imod (Rounds.cell_close ER (rd m) (Set.mem_univ (K (c, k))) (fun h => h) (R := R) hR) $$ [Hat] with Hz
  · isplitr; · iexact HI
    iexact Hat
  imodintro
  isplitl [Hz] <;> iassumption

end Cert.Exchange

end
-- ==== Proof.Memory.lean ====
/-
# Loads and stores of slabs and rows
-/
module

public import proofs.«01_k».proof.Proof.Steps
public import Idealize.ShloMosaic.Lib.Pipeline.Value

@[expose] public section

noncomputable section

namespace Cert.Exchange

open Cert.KernelIdeal Cert.KernelIdeal.Gen
open Idealize.ShloMosaic Idealize.ShloMosaic.TcCoe

variable {F : FTy → Type} [FloatOps F]
variable (m : (ℓ : Loc nD τ sig) → Buf (Elt F) ℓ)

abbrev slabR (off : Fin 3 → ℕ) (h : ∀ a, off a + S1x192x512.size a ≤ S8x192x512.size a) : Rect S8x192x512 :=
  Rect.unit (s := S8x192x512) off S1x192x512.size h
abbrev rowR (off : Fin 3 → ℕ) (h : ∀ a, off a + S1x1x128.size a ≤ S8x1x128.size a) : Rect S8x1x128 :=
  Rect.unit (s := S8x1x128) off S1x1x128.size h
abbrev wordR (off : Fin 3 → ℕ) (h : ∀ a, off a + S1x1x1.size a ≤ S8x1x128.size a) : Rect S8x1x128 :=
  Rect.unit (s := S8x1x128) off S1x1x1.size h

/-! ## A slab -/

theorem slab_emb {off : Fin 3 → ℕ} {h} {j : Dev nD} (ho : off = ![j.val, 0, 0]) (y : S1x192x512.Idx) :
    (slabR off h).emb y = ix j (y 1) (y 2) := by
  subst ho
  funext a
  fin_cases a
  · refine Fin.ext ?_
    change j.val + 1 * (y 0).val = j.val
    have : (y 0).val < 1 := (y 0).isLt
    omega
  · refine Fin.ext ?_
    change 0 + 1 * (y 1).val = (y 1).val
    omega
  · refine Fin.ext ?_
    change 0 + 1 * (y 2).val = (y 2).val
    omega

theorem slab_read_sl {off : Fin 3 → ℕ} {h} {j : Dev nD} (ho : off = ![j.val, 0, 0]) (f : S8x192x512.Idx → F .bf16) :
    (slM : Memref sig .tc .vmem S8x192x512 .bf16).view.readAt (Elt F) (slabR off h).toLoadRect f = fun y => f (ix j (y 1) (y 2)) := by
  rw [View.readAt_rect]; funext y; exact congrArg f (slab_emb ho y)
theorem slab_read_st {off : Fin 3 → ℕ} {h} {j : Dev nD} (ho : off = ![j.val, 0, 0]) (f : S8x192x512.Idx → F .bf16) :
    (stM : Memref sig .tc .vmem S8x192x512 .bf16).view.readAt (Elt F) (slabR off h).toLoadRect f = fun y => f (ix j (y 1) (y 2)) := by
  rw [View.readAt_rect]; funext y; exact congrArg f (slab_emb ho y)

theorem slab_acc_sl {off : Fin 3 → ℕ} {h} {j : Dev nD} (ho : off = ![j.val, 0, 0]) :
    ((slM : Memref sig .tc .vmem S8x192x512 .bf16).access (slabR off h)).setOn Finset.univ = band j 0 12 :=
  (View.set_slice_whole cc0_scratch0 _).trans (rect_slab ho)
theorem slab_acc_st {off : Fin 3 → ℕ} {h} {j : Dev nD} (ho : off = ![j.val, 0, 0]) :
    ((stM : Memref sig .tc .vmem S8x192x512 .bf16).access (slabR off h)).setOn Finset.univ = band j 0 12 :=
  (View.set_slice_whole cc0_scratch1 _).trans (rect_slab ho)

theorem slab_write_sl {off : Fin 3 → ℕ} {h} {j : Dev nD} (ho : off = ![j.val, 0, 0]) (f : S8x192x512.Idx → F .bf16) (w : S1x192x512.Idx → F .bf16) :
    ((slM : Memref sig .tc .vmem S8x192x512 .bf16).access (slabR off h)).write (Elt F) f w Finset.univ
      = fun x => if sb x = j then w (ix1 (x 1) (x 2)) else f x := by
  funext x
  by_cases hx : sb x = j
  · rw [if_pos hx]
    have e : x = ((slM : Memref sig .tc .vmem S8x192x512 .bf16).access (slabR off h)).emb (ix1 (x 1) (x 2)) := by
      refine Eq.trans ?_ (slab_emb (h := h) ho (ix1 (x 1) (x 2))).symm
      funext a; fin_cases a
      · exact hx
      · rfl
      · rfl
    conv_lhs => rw [e]
    exact View.write_emb_of_mem _ _ (Finset.mem_univ _)
  · rw [if_neg hx]
    refine View.write_of_not_mem _ _ _ ?_
    rw [slab_acc_sl ho, mem_band]
    exact fun H => hx H.1
theorem slab_write_st {off : Fin 3 → ℕ} {h} {j : Dev nD} (ho : off = ![j.val, 0, 0]) (f : S8x192x512.Idx → F .bf16) (w : S1x192x512.Idx → F .bf16) :
    ((stM : Memref sig .tc .vmem S8x192x512 .bf16).access (slabR off h)).write (Elt F) f w Finset.univ
      = fun x => if sb x = j then w (ix1 (x 1) (x 2)) else f x := by
  funext x
  by_cases hx : sb x = j
  · rw [if_pos hx]
    have e : x = ((stM : Memref sig .tc .vmem S8x192x512 .bf16).access (slabR off h)).emb (ix1 (x 1) (x 2)) := by
      refine Eq.trans ?_ (slab_emb (h := h) ho (ix1 (x 1) (x 2))).symm
      funext a; fin_cases a
      · exact hx
      · rfl
      · rfl
    conv_lhs => rw [e]
    exact View.write_emb_of_mem _ _ (Finset.mem_univ _)
  · rw [if_neg hx]
    refine View.write_of_not_mem _ _ _ ?_
    rw [slab_acc_st ho, mem_band]
    exact fun H => hx H.1

/-- Eight slabs stored one after another. -/
theorem slabs_stored (c : Dev nD) (f : S8x192x512.Idx → F .bf16) :
    (fun x => if sb x = 7 then slab m c 7 (ix1 (x 1) (x 2)) else
      (fun x => if sb x = 6 then slab m c 6 (ix1 (x 1) (x 2)) else
      (fun x => if sb x = 5 then slab m c 5 (ix1 (x 1) (x 2)) else
      (fun x => if sb x = 4 then slab m c 4 (ix1 (x 1) (x 2)) else
      (fun x => if sb x = 3 then slab m c 3 (ix1 (x 1) (x 2)) else
      (fun x => if sb x = 2 then slab m c 2 (ix1 (x 1) (x 2)) else
      (fun x => if sb x = 1 then slab m c 1 (ix1 (x 1) (x 2)) else
      (fun x => if sb x = 0 then slab m c 0 (ix1 (x 1) (x 2)) else f x) x) x) x) x) x) x) x) = SL m c := by
  funext x
  unfold SL
  dsimp only
  have h : ∀ j : Dev nD, j = 0 ∨ j = 1 ∨ j = 2 ∨ j = 3 ∨ j = 4 ∨ j = 5 ∨ j = 6 ∨ j = 7 := by decide
  rcases h (sb x) with e | e | e | e | e | e | e | e <;> rw [e] <;> rfl

/-! ## A row of a table of counts -/

/-- An index of one row. -/
def ix1c (e : Fin 128) : S1x1x128.Idx := fun | 0 => (0 : Fin 1) | 1 => (0 : Fin 1) | 2 => e

theorem row_emb {off : Fin 3 → ℕ} {h} {j : Dev nD} (ho : off = ![j.val, 0, 0]) (y : S1x1x128.Idx) :
    (rowR off h).emb y = ixc j (y 2) := by
  subst ho
  funext a
  fin_cases a
  · refine Fin.ext ?_
    change j.val + 1 * (y 0).val = j.val
    have : (y 0).val < 1 := (y 0).isLt
    omega
  · refine Fin.ext ?_
    change 0 + 1 * (y 1).val = 0
    have : (y 1).val < 1 := (y 1).isLt
    omega
  · refine Fin.ext ?_
    change 0 + 1 * (y 2).val = (y 2).val
    omega

theorem word_emb {off : Fin 3 → ℕ} {h} {j : Dev nD} (ho : off = ![j.val, 0, 0]) (y : S1x1x1.Idx) :
    (wordR off h).emb y = ixc j 0 := by
  subst ho
  funext a
  fin_cases a
  · refine Fin.ext ?_
    change j.val + 1 * (y 0).val = j.val
    have : (y 0).val < 1 := (y 0).isLt
    omega
  · refine Fin.ext ?_
    change 0 + 1 * (y 1).val = 0
    have : (y 1).val < 1 := (y 1).isLt
    omega
  · refine Fin.ext ?_
    change 0 + 1 * (y 2).val = 0
    have : (y 2).val < 1 := (y 2).isLt
    omega

theorem row_read_ct {off : Fin 3 → ℕ} {h} {j : Dev nD} (ho : off = ![j.val, 0, 0]) (f : S8x1x128.Idx → BitVec 32) :
    (ctM : Memref sig .tc .vmem S8x1x128 .i32).view.readAt (Elt F) (rowR off h).toLoadRect f = fun y => f (ixc j (y 2)) := by
  rw [View.readAt_rect]; funext y; exact congrArg f (row_emb ho y)
/-- A word of a table of counts, as it is loaded. -/
theorem word_read_ct {off : Fin 3 → ℕ} {h} {j : Dev nD} (ho : off = ![j.val, 0, 0]) (f : S8x1x128.Idx → BitVec 32) :
    (ctM : Memref sig .tc .vmem S8x1x128 .i32).view.readAt (Elt F) (wordR off h).toLoadRect f = fun _ => f (ixc j 0) := by
  rw [View.readAt_rect]; funext y; exact congrArg f (word_emb ho y)
theorem word_read_co {off : Fin 3 → ℕ} {h} {j : Dev nD} (ho : off = ![j.val, 0, 0]) (f : S8x1x128.Idx → BitVec 32) :
    (coM : Memref sig .tc .vmem S8x1x128 .i32).view.readAt (Elt F) (wordR off h).toLoadRect f = fun _ => f (ixc j 0) := by
  rw [View.readAt_rect]; funext y; exact congrArg f (word_emb ho y)

theorem row_acc_co {off : Fin 3 → ℕ} {h} {j : Dev nD} (ho : off = ![j.val, 0, 0]) :
    ((coM : Memref sig .tc .vmem S8x1x128 .i32).access (rowR off h)).setOn Finset.univ = row j :=
  (View.set_slice_whole cc0_scratch3 _).trans (rect_row ho)

theorem row_write_co {off : Fin 3 → ℕ} {h} {j : Dev nD} (ho : off = ![j.val, 0, 0]) (f : S8x1x128.Idx → BitVec 32) (w : S1x1x128.Idx → BitVec 32) :
    ∀ x ∈ row j, ((coM : Memref sig .tc .vmem S8x1x128 .i32).access (rowR off h)).write (Elt F) f w Finset.univ x
      = w (ix1c (x 2)) := by
  intro x hx
  have e : x = ((coM : Memref sig .tc .vmem S8x1x128 .i32).access (rowR off h)).emb (ix1c (x 2)) := by
    refine Eq.trans ?_ (row_emb (h := h) ho _).symm
    funext a; fin_cases a
    · exact mem_row.mp hx
    · refine Fin.ext ?_
      have : (x 1).val < 1 := (x 1).isLt
      change (x 1).val = 0; omega
    · rfl
  conv_lhs => rw [e]
  exact View.write_emb_of_mem _ _ (Finset.mem_univ _)

/-! ## What a device keeps for itself -/

theorem pay18_eq (v : S1x192x512.Idx → F .bf16) : k0_pay18 v = v := shapeCast_shapeCast v _ _
theorem pay19_eq (v : S1x1x128.Idx → BitVec 32) : k0_pay19 (F := F) v = v := shapeCast_shapeCast v _ _

/-- Storing its own slab, a device's landing buffer holds what it should outside the bands of its peers. -/
theorem own_slab_stored (c : Dev nD) {x : S8x192x512.Idx} (hx : sb x = c ∨ 16 * nch m (sb x) c ≤ rn x) :
    (if sb x = c then (fun y : S1x192x512.Idx => SL m c (ix c (y 1) (y 2))) (ix1 (x 1) (x 2)) else k0_pay1 (F := F) x) = ST m c x := by
  unfold ST
  by_cases h : sb x = c
  · rw [if_pos h, if_pos (Or.inl h), h]; rfl
  · rw [if_neg h, if_neg (by rintro (e | e); exacts [h e, absurd e (by rcases hx with e' | e' <;> [exact absurd e' h; omega])])]

theorem CO_own (c : Dev nD) {x : S8x1x128.Idx} (hx : x ∈ row c) : CT m c (ixc c (x 2)) = CO m c x := by
  unfold CO; rw [mem_row.mp hx]

/-- The word a device receives from `j` is the count `j` computed for it. -/
theorem CO_word (c j : Dev nD) : CO m c (ixc j 0) = cntW m j c := rfl

theorem hz3 : (![0, 0, 0] : Fin 3 → ℕ) = fun _ => 0 := funext fun a => by fin_cases a <;> rfl
theorem hz2 : (![0, 0] : Fin 2 → ℕ) = fun _ => 0 := funext fun a => by fin_cases a <;> rfl
theorem hz1 : (![0] : Fin 1 → ℕ) = fun _ => 0 := funext fun a => by fin_cases a; rfl

end Cert.Exchange

end
-- ==== Proof.Split.lean ====
/-
# Cutting buffers into what is lent and what is kept

Each buffer is cut along the contributions of the protocol: the bands of chunks of a buffer of slabs, the rows of a table of
counts.  What remains of a buffer of slabs when the bands are taken out is never lent.
-/
module

public import proofs.«01_k».proof.Proof.Memory

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem bi_eq {P Q : sProp 𝕄} (h : P ⊣⊢ Q) : P = Q := h.1.antisymm h.2

/-! ## Sets -/

/-- What remains of a buffer of slabs when the first `w i` chunks of every slab `i` are taken out. -/
def rest (w : Dev nD → ℕ) : Finset S8x192x512.Idx := Finset.univ.filter fun x => 16 * w (sb x) ≤ rn x

theorem mem_rest {w : Dev nD → ℕ} {x : S8x192x512.Idx} : x ∈ rest w ↔ 16 * w (sb x) ≤ rn x := by
  simp only [rest, Finset.mem_filter, Finset.mem_univ, true_and]

theorem band_disjoint {i i' : Dev nD} {t t' : ℕ} (h : i ≠ i' ∨ t ≠ t') : Disjoint (band i t (t + 1)) (band i' t' (t' + 1)) := by
  refine Finset.disjoint_left.mpr fun x hx hx' => ?_
  obtain ⟨a, b, e⟩ := mem_band.mp hx
  obtain ⟨a', b', e'⟩ := mem_band.mp hx'
  rcases h with h | h
  · exact h (a.symm.trans a')
  · omega

theorem cut_pairs (w : Dev nD → ℕ) :
    (Finset.univ : Finset S8x192x512.Idx) = rest w ∪ (pairs w).biUnion fun d => band d.1 d.2 (d.2 + 1) := by
  ext x
  simp only [Finset.mem_univ, Finset.mem_union, mem_rest, Finset.mem_biUnion, mem_pairs, mem_band, true_iff]
  by_cases h : 16 * w (sb x) ≤ rn x
  · exact Or.inl h
  · exact Or.inr ⟨⟨sb x, rn x / 16⟩, by dsimp only; omega, rfl, by dsimp only; omega, by dsimp only; omega⟩

theorem cut_pairs_disjoint (w : Dev nD → ℕ) : Disjoint (rest w) ((pairs w).biUnion fun d => band d.1 d.2 (d.2 + 1)) := by
  refine Finset.disjoint_left.mpr fun x hx hx' => ?_
  obtain ⟨d, hd, hb⟩ := Finset.mem_biUnion.mp hx'
  obtain ⟨a, b, e⟩ := mem_band.mp hb
  have h1 := mem_rest.mp hx
  have h2 := mem_pairs.mp hd
  rw [a] at h1
  omega

theorem pair_disjoint (w : Dev nD → ℕ) : ∀ d ∈ pairs w, ∀ d' ∈ pairs w, d ≠ d' → Disjoint (band d.1 d.2 (d.2 + 1)) (band d'.1 d'.2 (d'.2 + 1)) := by
  rintro ⟨i, t⟩ - ⟨i', t'⟩ - h
  refine band_disjoint ?_
  by_contra hn
  rw [not_or, not_not, not_not] at hn
  obtain ⟨rfl, rfl⟩ := hn
  exact h rfl

theorem band_chunks (i : Dev nD) (n : ℕ) : band i 0 n = (Finset.range n).biUnion fun t => band i t (t + 1) := by
  ext x
  simp only [Finset.mem_biUnion, mem_band, Finset.mem_range]
  constructor
  · rintro ⟨a, b, e⟩
    exact ⟨rn x / 16, by omega, a, by omega, by omega⟩
  · rintro ⟨t, ht, a, b, e⟩
    exact ⟨a, by omega, by omega⟩

theorem rows_univ : (Finset.univ : Finset S8x1x128.Idx) = (Finset.univ : Finset (Dev nD)).biUnion row := by
  ext x
  simp only [Finset.mem_univ, Finset.mem_biUnion, mem_row, true_and, exists_eq']

theorem row_disjoint {i j : Dev nD} (h : i ≠ j) : Disjoint (row i) (row j) :=
  Finset.disjoint_left.mpr fun x hx hx' => h ((mem_row.mp hx).symm.trans (mem_row.mp hx'))

/-! ## Buffers -/

theorem cut_st (c : Dev nD) (w : Dev nD → ℕ) (f : S8x192x512.Idx → F .bf16) :
    (stP c Finset.univ f : sProp 𝕄) = iprop(stP c (rest w) f ∗ bigSep (pairs w) fun d => stP c (band d.1 d.2 (d.2 + 1)) f) :=
  ((congrArg (fun S => (stP c S f : sProp 𝕄)) (cut_pairs w)).trans
    (bi_eq (pointsTo_union (ℓ := (c : Thread nD τ).loc cc0_scratch1) (cut_pairs_disjoint w)))).trans
  (congrArg (fun X : sProp 𝕄 => iprop(stP c (rest w) f ∗ X))
    (pointsTo_biUnion (ℓ := (c : Thread nD τ).loc cc0_scratch1) (pairs w) (fun d : Du => band d.1 d.2 (d.2 + 1)) (pair_disjoint w)))

theorem cut_sl (c : Dev nD) (q : PosShare TreeShare) (w : Dev nD → ℕ) (f : S8x192x512.Idx → F .bf16) :
    (slP c Finset.univ q f : sProp 𝕄) = iprop(slP c (rest w) q f ∗ bigSep (pairs w) fun d => slP c (band d.1 d.2 (d.2 + 1)) q f) :=
  ((congrArg (fun S => (slP c S q f : sProp 𝕄)) (cut_pairs w)).trans
    (bi_eq (pointsTo_union (ℓ := (c : Thread nD τ).loc cc0_scratch0) (cut_pairs_disjoint w)))).trans
  (congrArg (fun X : sProp 𝕄 => iprop(slP c (rest w) q f ∗ X))
    (pointsTo_biUnion (ℓ := (c : Thread nD τ).loc cc0_scratch0) (pairs w) (fun d : Du => band d.1 d.2 (d.2 + 1)) (pair_disjoint w)))

theorem cut_band (c i : Dev nD) (n : ℕ) (f : S8x192x512.Idx → F .bf16) :
    (stP c (band i 0 n) f : sProp 𝕄) = bigSep (Finset.range n) fun t => stP c (band i t (t + 1)) f :=
  (congrArg (fun S => (stP c S f : sProp 𝕄)) (band_chunks i n)).trans
    (pointsTo_biUnion (ℓ := (c : Thread nD τ).loc cc0_scratch1) (Finset.range n) (fun t => band i t (t + 1)) (fun t _ t' _ h => band_disjoint (Or.inr h)))

theorem cut_co (c : Dev nD) (f : S8x1x128.Idx → BitVec 32) :
    (coP c Finset.univ f : sProp 𝕄) = iprop(coP c (row c) f ∗ bigSep (peers c) fun j => coP c (row j) f) :=
  ((congrArg (fun S => (coP c S f : sProp 𝕄)) rows_univ).trans
    (pointsTo_biUnion (ℓ := (c : Thread nD τ).loc cc0_scratch3) Finset.univ row (fun i _ j _ h => row_disjoint h))).trans
  (bs_univ c _)

theorem cut_ct (c : Dev nD) (q : PosShare TreeShare) (f : S8x1x128.Idx → BitVec 32) :
    (ctP c Finset.univ q f : sProp 𝕄) = iprop(ctP c (row c) q f ∗ bigSep (peers c) fun j => ctP c (row j) q f) :=
  ((congrArg (fun S => (ctP c S q f : sProp 𝕄)) rows_univ).trans
    (pointsTo_biUnion (ℓ := (c : Thread nD τ).loc cc0_scratch2) Finset.univ row (fun i _ j _ h => row_disjoint h))).trans
  (bs_univ c _)

theorem halves_ct (c : Dev nD) (S : Finset S8x1x128.Idx) (f : S8x1x128.Idx → BitVec 32) :
    (ctP c S fullShare f : sProp 𝕄) = iprop(ctP c S fullShare.left f ∗ ctP c S fullShare.right f) :=
  bi_eq (pointsTo_share (PosShare.mem_left_op_right fullShare))

theorem halves_sl (c : Dev nD) (S : Finset S8x192x512.Idx) (f : S8x192x512.Idx → F .bf16) :
    (slP c S fullShare f : sProp 𝕄) = iprop(slP c S fullShare.left f ∗ slP c S fullShare.right f) :=
  bi_eq (pointsTo_share (PosShare.mem_left_op_right fullShare))

/-! ## Families over pairs and peers -/

theorem bs_pairs (w : Dev nD → ℕ) (Φ : Du → sProp 𝕄) :
    bigSep (pairs w) Φ = bigSep Finset.univ fun i => bigSep (Finset.range (w i)) fun t => Φ ⟨i, t⟩ :=
  Pipeline.bigSep_sigma Finset.univ (fun i => Finset.range (w i)) Φ

/-- One contribution from every peer. -/
theorem bs_ones (c : Dev nD) (Φ : Du → sProp 𝕄) :
    bigSep (pairs fun i => if i = c then 0 else 1) Φ = bigSep (peers c) fun i => Φ ⟨i, 0⟩ := by
  rw [bs_pairs, bs_univ c, if_pos rfl, Finset.range_zero, bs_empty]
  refine Eq.trans (bi_eq emp_sep) ?_
  exact bs_congr fun i hi => by
    rw [if_neg (Finset.ne_of_mem_erase hi), Finset.range_one]; exact bigSep_singleton

end Cert.Exchange

end
-- ==== Proof.Lend.lean ====
/-
# What is lent before a phase, and what a phase receives

A device tells its peers that its landing buffers are ready, and so lends them; it takes the landing regions its peers lend it.
-/
module

public import proofs.«01_k».proof.Proof.Split

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem nch_self (c : Dev nD) : nch m c c = 0 := if_pos rfl

theorem bs_pairs_peers (c : Dev nD) (w : Dev nD → ℕ) (hw : w c = 0) (Φ : Du → sProp 𝕄) :
    bigSep (pairs w) Φ = bigSep (peers c) fun i => bigSep (Finset.range (w i)) fun t => Φ ⟨i, t⟩ := by
  rw [bs_pairs, bs_univ c, hw, Finset.range_zero, bs_empty]
  exact bi_eq emp_sep

/-- The chunks that land on device `c`, band by band. -/
theorem bands_in (c : Dev nD) (f : S8x192x512.Idx → F .bf16) :
    (bigSep (pairs fun i => nch m i c) (fun d => stP c (band d.1 d.2 (d.2 + 1)) f) : sProp 𝕄)
      = bigSep (peers c) fun j => stP c (band j 0 (nch m j c)) f := by
  rw [bs_pairs_peers c (fun i => nch m i c) (nch_self m c)]
  exact bs_congr fun j _ => (cut_band c j _ f).symm

/-- A device lends its landing buffers to its peers: what it has for its signals. -/
theorem lend_landing (c : Dev nD) (f : S8x192x512.Idx → F .bf16) (g : S8x1x128.Idx → BitVec 32) :
    (iprop(stP c Finset.univ f ∗ coP c Finset.univ g ∗ bigSep (peers c) fun j => dutyTok ER (cell j 0) 0 (⟨c, 0⟩ : Du)) : sProp 𝕄)
      ⊢ iprop(bigSep (peers c) (sigItem m c) ∗ stP c (rest fun i => nch m i c) f ∗ coP c (row c) g) := by
  rw [cut_st c (fun i => nch m i c), cut_co, bands_in]
  have e : (bigSep (peers c) (fun j => iprop(dutyTok ER (cell j 0) 0 (⟨c, 0⟩ : Du) ∗ stP c (band j 0 (nch m j c)) f ∗ coP c (row j) g)) : sProp 𝕄)
      ⊢ bigSep (peers c) (sigItem m c) := bs_mono fun j _ => by
    unfold sigItem pay
    dsimp only
    iintro ⟨H1, H2, H3⟩
    isplitl [H1]; · iexact H1
    isplitl [H2]
    · iexists f; iexact H2
    · iexists g; iexact H3
  rw [bs_sep, bs_sep] at e
  iintro ⟨⟨Hr, Hb⟩, ⟨Hc, Hc'⟩, Ht⟩
  isplitl [Hb Hc' Ht]
  · iapply e
    isplitl [Ht]; · iexact Ht
    isplitl [Hb] <;> iassumption
  isplitl [Hr] <;> iassumption

/-- A lent band, chunk by chunk. -/
theorem band_open (c j : Dev nD) (n : ℕ) (f : S8x192x512.Idx → F .bf16) :
    (stP j (band c 0 n) f : sProp 𝕄) ⊢ bigSep (Finset.range n) fun t => iprop(∃ f, stP j (band c t (t + 1)) f) := by
  rw [cut_band]
  exact bs_mono fun t _ => by iintro H; iexists f; iexact H

/-- A device takes the landing regions its peers lend it. -/
theorem take_landing (c : Dev nD) :
    (bigSep (pairs (wt m 0 c)) (pay m 0 c) : sProp 𝕄)
      ⊢ iprop((bigSep (pairs (nch m c)) fun d => iprop(∃ f, stP d.1 (band c d.2 (d.2 + 1)) f)) ∗ bigSep (peers c) fun j => iprop(∃ f, coP j (row c) f)) := by
  rw [show pairs (wt m 0 c) = pairs (fun i => if i = c then 0 else 1) from rfl, bs_ones, bs_pairs_peers c (nch m c) (nch_self m c)]
  rw [← bs_sep]
  refine bs_mono fun j _ => ?_
  unfold pay
  dsimp only
  iintro ⟨⟨%f, H1⟩, H2⟩
  isplitl [H1]
  · iapply (band_open c j (nch m c j) f); iexact H1
  · iexact H2

/-- What a device has for the copies of its counts. -/
theorem cnt_items (c : Dev nD) :
    (iprop((bigSep (peers c) fun j => dutyTok ER (cell c 1) 0 (⟨j, 0⟩ : Du)) ∗ (bigSep (peers c) fun j => dutyTok ER (cell j 2) 0 (⟨c, 0⟩ : Du))
        ∗ (bigSep (peers c) fun j => ctP c (row j) fullShare.right (CT m c)) ∗ bigSep (peers c) fun j => iprop(∃ f, coP j (row c) f)) : sProp 𝕄)
      = bigSep (peers c) (cntItem m c) := by
  rw [← bs_sep, ← bs_sep, ← bs_sep]; rfl

/-- What a device has for the copies of its chunks. -/
theorem ch_items (c : Dev nD) :
    (iprop((bigSep (pairs (nch m c)) fun d => dutyTok ER (cell c 3) 0 d) ∗ (bigSep (pairs (nch m c)) fun d => dutyTok ER (cell d.1 4) 0 (⟨c, d.2⟩ : Du))
        ∗ (bigSep (pairs (nch m c)) fun d => slP c (band d.1 d.2 (d.2 + 1)) fullShare.right (SL m c))
        ∗ bigSep (pairs (nch m c)) fun d => iprop(∃ f, stP d.1 (band c d.2 (d.2 + 1)) f)) : sProp 𝕄)
      = bigSep (pairs (nch m c)) (chItem m c) := by
  rw [← bs_sep, ← bs_sep, ← bs_sep]; rfl

/-- At the end the shares lent of the table of counts are back. -/
theorem counts_back (c : Dev nD) : (bigSep (pairs (wt m 1 c)) (pay m 1 c) : sProp 𝕄) = bigSep (peers c) fun j => ctP c (row j) fullShare.right (CT m c) := by
  rw [show pairs (wt m 1 c) = pairs (fun i => if i = c then 0 else 1) from rfl, bs_ones]; rfl
theorem counts_in (c : Dev nD) : (bigSep (pairs (wt m 2 c)) (pay m 2 c) : sProp 𝕄) = bigSep (peers c) fun j => coP c (row j) (CO m c) := by
  rw [show pairs (wt m 2 c) = pairs (fun i => if i = c then 0 else 1) from rfl, bs_ones]; rfl
theorem chunks_back (c : Dev nD) :
    (bigSep (pairs (wt m 3 c)) (pay m 3 c) : sProp 𝕄) = bigSep (pairs (nch m c)) fun d => slP c (band d.1 d.2 (d.2 + 1)) fullShare.right (SL m c) := rfl
theorem chunks_in (c : Dev nD) :
    (bigSep (pairs (wt m 4 c)) (pay m 4 c) : sProp 𝕄) = bigSep (pairs fun i => nch m i c) fun d => stP c (band d.1 d.2 (d.2 + 1)) (ST m c) := rfl

/-! ## Waits begin -/

theorem Wst_start (c : Dev nD) (k : Fin 5) :
    (iprop(atPos ER (cell c k) 0 ∅ 0 ∗ cred (tallyAt (cell c k) () (tot m k c * unit k))) : sProp 𝕄) ⊢ Wst m c k 0 := by
  by_cases h : 0 < tot m k c
  · rw [show Wst m c k 0 = _ from if_pos h]
    iintro ⟨H, Hc⟩
    iexists ∅
    isplitr; · ipureintro; exact Finset.empty_subset _
    isplitl [H]; · rw [Nat.zero_mul]; iexact H
    isplitr; · rw [bs_empty]; iempintro
    rw [Nat.sub_zero]; iexact Hc
  · rw [show Wst m c k 0 = _ from if_neg h]
    have hp : pairs (wt m k c) = ∅ := Finset.card_eq_zero.mp (by rw [card_pairs]; omega)
    unfold Done
    iintro ⟨H, -⟩
    iexists 0
    isplitr
    · ipureintro; intro r _
      rcases Nat.eq_zero_or_pos r with rfl | hr
      · rw [duties_cell, hp]
      · exact duties_later m _ r hr
    isplitl [H]; · iexact H
    rw [hp, bs_empty]; iempintro

/-! ## The chunks still to send -/

/-- The chunks still to send when those of the peers below `j`, and the first `t` of `j`, are sent. -/
def remP (c : Dev nD) (j t : ℕ) : Finset Du := (pairs (nch m c)).filter fun d => j < d.1.val ∨ (d.1.val = j ∧ t ≤ d.2)

theorem mem_remP {c : Dev nD} {j t : ℕ} {d : Du} : d ∈ remP m c j t ↔ d.2 < nch m c d.1 ∧ (j < d.1.val ∨ (d.1.val = j ∧ t ≤ d.2)) := by
  simp only [remP, Finset.mem_filter, mem_pairs]

theorem remP_zero (c : Dev nD) : remP m c 0 0 = pairs (nch m c) := by
  ext d; rw [mem_remP, mem_pairs]
  exact ⟨fun h => h.1, fun h => ⟨h, by omega⟩⟩

theorem remP_erase (c j : Dev nD) (t : ℕ) : (remP m c j.val t).erase ⟨j, t⟩ = remP m c j.val (t + 1) := by
  ext ⟨i, s⟩
  rw [Finset.mem_erase, mem_remP, mem_remP]
  dsimp only
  constructor
  · rintro ⟨hne, h, h'⟩
    refine ⟨h, h'.imp_right fun ⟨e, hs⟩ => ⟨e, ?_⟩⟩
    rcases Nat.eq_or_lt_of_le hs with rfl | hs
    · exact absurd (by rw [Fin.ext e]) hne
    · exact hs
  · rintro ⟨h, h'⟩
    refine ⟨?_, h, by omega⟩
    rintro e
    rw [Sigma.mk.injEq] at e
    obtain ⟨rfl, e⟩ := e
    have := eq_of_heq e
    omega

theorem remP_next (c j : Dev nD) : remP m c j.val (nch m c j) = remP m c (j.val + 1) 0 := by
  ext ⟨i, s⟩
  rw [mem_remP, mem_remP]
  dsimp only
  constructor
  · rintro ⟨h, h' | ⟨e, hs⟩⟩
    · exact ⟨h, by omega⟩
    · rw [Fin.ext e] at h; omega
  · rintro ⟨h, h'⟩
    exact ⟨h, Or.inl (by omega)⟩

theorem remP_last (c : Dev nD) : remP m c 8 0 = ∅ := by
  ext ⟨i, s⟩
  rw [mem_remP]
  dsimp only
  have := i.isLt
  simp only [Finset.notMem_empty, iff_false, not_and]
  intro _
  have : i.val < 8 := i.isLt
  omega

theorem mem_remP_self {c j : Dev nD} {t : ℕ} (h : t < nch m c j) : (⟨j, t⟩ : Du) ∈ remP m c j.val t :=
  (mem_remP m).mpr ⟨h, Or.inr ⟨rfl, le_refl _⟩⟩

/-- The state of sending: what is owed, what is at hand, and the credit for what is sent. -/
def Snd (c : Dev nD) (P : Finset Du) : sProp 𝕄 :=
  iprop(Ow c (owe ∅ ∅ P) ∗ bigSep P (chItem m c) ∗ cred (tallyAt (cell c 3) () ((tot m 3 c - P.card) * Nd)))

theorem step_send (K : Dev nD × Fin 5 → ℕ) (c n j : Dev nD) (hn : n = j) (t : ℕ) (hlt : t < nch m c j)
    {offd offs : Fin 3 → ℕ} {hd : ∀ a, offd a + S1x16x512.size a ≤ S8x192x512.size a} {hs : ∀ a, offs a + S1x16x512.size a ≤ S8x192x512.size a}
    (hod : offd = ![c.val, 16 * t, 0]) (hos : offs = ![j.val, 16 * t, 0])
    {hsc : (chunkM stM offd hd).view.ref.isScScratch = false} {hsrc : (chunkM slM offs hs).view.WordExact} {hdst : (chunkM stM offd hd).view.WordExact}
    {hsem : DmaTarget.Typed .vmem (csem 4) (.remote (Dev.tc n : Thread nD τ) (chunkM stM offd hd) (csem 3) hsc)}
    {α : Type} {Q : α → sProp 𝕄} {k : PUnit → Prog (TpuEff nD τ sig (Elt F) Λ₀ .tc) α} :
    iprop(recs m K ∗ Snd m c (remP m c j.val t))
      ⊢ iprop((Snd m c (remP m c j.val (t + 1)) -∗ WPc c (k ⟨⟩) Q)
          -∗ WPc c (.op (.enqueueDma (chunkM slM offs hs) (.remote (Dev.tc n : Thread nD τ) (chunkM stM offd hd) (csem 3) hsc) (csem 4) hsrc hdst hsem) k) Q) := by
  have hmem := mem_remP_self m hlt
  have hs' := step_chunk m K c n ⟨j, t⟩ hn hmem hlt ((tot m 3 c - (remP m c j.val t).card) * Nd) (B := ∅) (C := ∅) hod hos
    (hsc := hsc) (hsrc := hsrc) (hdst := hdst) (hsem := hsem) (Q := Q) (k := k)
  have hcard : (tot m 3 c - (remP m c j.val t).card) * Nd + Nd = (tot m 3 c - (remP m c j.val (t + 1)).card) * Nd := by
    have h1 : (remP m c j.val t).card ≤ tot m 3 c := by
      rw [← card_pairs m 3 c]; exact Finset.card_le_card (Finset.filter_subset _ _)
    have h2 : (remP m c j.val (t + 1)).card = (remP m c j.val t).card - 1 := by
      rw [← remP_erase, Finset.card_erase_of_mem hmem]
    have h3 : 0 < (remP m c j.val t).card := Finset.card_pos.mpr ⟨_, hmem⟩
    rw [show tot m 3 c - (remP m c j.val (t + 1)).card = (tot m 3 c - (remP m c j.val t).card) + 1 by omega, Nat.add_mul, Nat.one_mul]
  rw [remP_erase, hcard] at hs'
  exact hs'

end Cert.Exchange

end
-- ==== Proof.MemSteps.lean ====
/-
# Loads and stores, as steps

Each load is given what it reads and each store what it leaves, in the words of the protocol.
-/
module

public import proofs.«01_k».proof.Proof.Lend

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

section

variable {α : Type} {Q : α → sProp (MT nD τ sig Unit (Elt F) ℕ UU ℕ)}

/-- Any buffer of a device, held whole. -/
abbrev whP (c : Dev nD) (b : Ref sig .tc) (f : b.ty.Contents (Elt F)) : sProp 𝕄 := pointsTo ((c : Thread nD τ).loc b) Finset.univ fullShare f

theorem load_x (c : Dev nD) {h} (f : (cc0_stg0_0 : Ref sig .tc).ty.Contents (Elt F)) {hl}
    {k : ((Rect.unit (s := S1024x512) ![0, 0] S1024x512.size h).toLoadRect.shape.Idx → Elt F .bf16) → Prog (TpuEff nD τ sig (Elt F) Λ₀ .tc) α} :
    whP c cc0_stg0_0 f ⊢ iprop((whP c cc0_stg0_0 f -∗ WPc c (k f) Q)
      -∗ WPc c (.op (.load xM (Rect.unit (s := S1024x512) ![0, 0] S1024x512.size h).toLoadRect hl) k) Q) := by
  have e : (xM : Memref sig .tc .vmem S1024x512 .bf16).view.readAt (Elt F) (Rect.unit (s := S1024x512) ![0, 0] S1024x512.size h).toLoadRect f = f :=
    Memref.readAt_unit_zero (Elt F) cc0_stg0_0 hz2 _ f
  have hw := wp_load 𝒱₀ (c : Thread nD τ) none Set.univ (m := xM) (r := (Rect.unit (s := S1024x512) ![0, 0] S1024x512.size h).toLoadRect) (hl := hl) (k := k) (S := Finset.univ) (q := fullShare) (f := f)
    (Finset.subset_univ _) (defs := defs₀ (F := F)) (Γ := .empty) (Q := Q)
  rw [e] at hw
  exact hw

theorem load_d (c : Dev nD) {h} (f : (cc0_stg1_0 : Ref sig .tc).ty.Contents (Elt F)) {hl}
    {k : ((Rect.unit (s := S1024) ![0] S1024.size h).toLoadRect.shape.Idx → Elt F .i32) → Prog (TpuEff nD τ sig (Elt F) Λ₀ .tc) α} :
    whP c cc0_stg1_0 f ⊢ iprop((whP c cc0_stg1_0 f -∗ WPc c (k f) Q)
      -∗ WPc c (.op (.load dM (Rect.unit (s := S1024) ![0] S1024.size h).toLoadRect hl) k) Q) := by
  have e : (dM : Memref sig .tc .vmem S1024 .i32).view.readAt (Elt F) (Rect.unit (s := S1024) ![0] S1024.size h).toLoadRect f = f :=
    Memref.readAt_unit_zero (Elt F) cc0_stg1_0 hz1 _ f
  have hw := wp_load 𝒱₀ (c : Thread nD τ) none Set.univ (m := dM) (r := (Rect.unit (s := S1024) ![0] S1024.size h).toLoadRect) (hl := hl) (k := k) (S := Finset.univ) (q := fullShare) (f := f)
    (Finset.subset_univ _) (defs := defs₀ (F := F)) (Γ := .empty) (Q := Q)
  rw [e] at hw
  exact hw

/-- A load whose value nothing uses. -/
theorem load_any (c : Dev nD) {cs : CoreSpace} {s : Shape} {e : EltTy} {M : Memref sig .tc cs s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) {k : (r.shape.Idx → Elt F e) → Prog (TpuEff nD τ sig (Elt F) Λ₀ .tc) α} :
    (pointsTo (M.view.loc (c : Thread nD τ)) S q f : sProp 𝕄)
      ⊢ iprop((∀ v, pointsTo (M.view.loc (c : Thread nD τ)) S q f -∗ WPc c (k v) Q) -∗ WPc c (.op (.load M r hl) k) Q) := by
  iintro H Hk
  iapply (wp_load 𝒱₀ (c : Thread nD τ) none Set.univ (m := M) hS (defs := defs₀ (F := F)) (Γ := .empty)) $$ H
  iintro H
  iapply Hk
  iexact H

theorem store_o (c : Dev nD) {h} (f w : (cc0_stg2_0 : Ref sig .tc).ty.Contents (Elt F)) {hx hm}
    {k : PUnit → Prog (TpuEff nD τ sig (Elt F) Λ₀ .tc) α} :
    whP c cc0_stg2_0 f ⊢ iprop((whP c cc0_stg2_0 w -∗ WPc c (k ⟨⟩) Q)
      -∗ WPc c (.op (.store oM (Rect.unit (s := S1024x512) ![0, 0] S1024x512.size h) w Finset.univ hx hm) k) Q) := by
  have e : ((oM : Memref sig .tc .vmem S1024x512 .bf16).access (Rect.unit (s := S1024x512) ![0, 0] S1024x512.size h)).write (Elt F) f w Finset.univ = w :=
    Memref.write_access_unit_zero_univ (Elt F) cc0_stg2_0 hz2 _ f w
  have hw := wp_store 𝒱₀ (c : Thread nD τ) none Set.univ (m := oM) (r := Rect.unit (s := S1024x512) ![0, 0] S1024x512.size h) (w := w) (Mk := Finset.univ) (hx := hx) (hm := hm) (k := k) (S := Finset.univ) (f := f)
    (Finset.subset_univ _) (defs := defs₀ (F := F)) (Γ := .empty) (Q := Q)
  rw [e] at hw
  exact hw

theorem store_st_all (c : Dev nD) {h} (f w : S8x192x512.Idx → F .bf16) {hx hm}
    {k : PUnit → Prog (TpuEff nD τ sig (Elt F) Λ₀ .tc) α} :
    stP c Finset.univ f ⊢ iprop((stP c Finset.univ w -∗ WPc c (k ⟨⟩) Q)
      -∗ WPc c (.op (.store stM (Rect.unit (s := S8x192x512) ![0, 0, 0] S8x192x512.size h) w Finset.univ hx hm) k) Q) := by
  have e : ((stM : Memref sig .tc .vmem S8x192x512 .bf16).access (Rect.unit (s := S8x192x512) ![0, 0, 0] S8x192x512.size h)).write (Elt F) f w Finset.univ = w :=
    Memref.write_access_unit_zero_univ (Elt F) cc0_scratch1 hz3 _ f w
  have hw := wp_store 𝒱₀ (c : Thread nD τ) none Set.univ (m := stM) (r := Rect.unit (s := S8x192x512) ![0, 0, 0] S8x192x512.size h) (w := w) (Mk := Finset.univ) (hx := hx) (hm := hm) (k := k) (S := Finset.univ) (f := f)
    (Finset.subset_univ _) (defs := defs₀ (F := F)) (Γ := .empty) (Q := Q)
  rw [e] at hw
  exact hw

theorem store_ct_all (c : Dev nD) {h} (f w : S8x1x128.Idx → BitVec 32) {hx hm}
    {k : PUnit → Prog (TpuEff nD τ sig (Elt F) Λ₀ .tc) α} :
    (ctP c Finset.univ fullShare f : sProp 𝕄) ⊢ iprop((ctP c Finset.univ fullShare w -∗ WPc c (k ⟨⟩) Q)
      -∗ WPc c (.op (.store ctM (Rect.unit (s := S8x1x128) ![0, 0, 0] S8x1x128.size h) w Finset.univ hx hm) k) Q) := by
  have e : ((ctM : Memref sig .tc .vmem S8x1x128 .i32).access (Rect.unit (s := S8x1x128) ![0, 0, 0] S8x1x128.size h)).write (Elt F) f w Finset.univ = w :=
    Memref.write_access_unit_zero_univ (Elt F) cc0_scratch2 hz3 _ f w
  have hw := wp_store 𝒱₀ (c : Thread nD τ) none Set.univ (m := ctM) (r := Rect.unit (s := S8x1x128) ![0, 0, 0] S8x1x128.size h) (w := w) (Mk := Finset.univ) (hx := hx) (hm := hm) (k := k) (S := Finset.univ) (f := f)
    (Finset.subset_univ _) (defs := defs₀ (F := F)) (Γ := .empty) (Q := Q)
  rw [e] at hw
  exact hw

/-- A slab stored into a buffer. -/
theorem store_slab_sl (c : Dev nD) {off : Fin 3 → ℕ} {h} {j : Dev nD} (ho : off = ![j.val, 0, 0]) (f : S8x192x512.Idx → F .bf16) (w : S1x192x512.Idx → F .bf16) {hx hm}
    {k : PUnit → Prog (TpuEff nD τ sig (Elt F) Λ₀ .tc) α} :
    slP c Finset.univ fullShare f ⊢ iprop((slP c Finset.univ fullShare (fun x => if sb x = j then w (ix1 (x 1) (x 2)) else f x) -∗ WPc c (k ⟨⟩) Q)
      -∗ WPc c (.op (.store slM (slabR off h) w Finset.univ hx hm) k) Q) := by
  have hw := wp_store 𝒱₀ (c : Thread nD τ) none Set.univ (m := slM) (r := slabR off h) (w := w) (Mk := Finset.univ) (hx := hx) (hm := hm) (k := k) (S := Finset.univ) (f := f)
    (Finset.subset_univ _) (defs := defs₀ (F := F)) (Γ := .empty) (Q := Q)
  rw [slab_write_sl ho] at hw
  exact hw

theorem store_slab_st (c : Dev nD) {off : Fin 3 → ℕ} {h} {j : Dev nD} (ho : off = ![j.val, 0, 0]) {S : Finset S8x192x512.Idx} (hS : band j 0 12 ⊆ S)
    (f : S8x192x512.Idx → F .bf16) (w : S1x192x512.Idx → F .bf16) {hx hm}
    {k : PUnit → Prog (TpuEff nD τ sig (Elt F) Λ₀ .tc) α} :
    stP c S f ⊢ iprop((stP c S (fun x => if sb x = j then w (ix1 (x 1) (x 2)) else f x) -∗ WPc c (k ⟨⟩) Q)
      -∗ WPc c (.op (.store stM (slabR off h) w Finset.univ hx hm) k) Q) := by
  have hw := wp_store 𝒱₀ (c : Thread nD τ) none Set.univ (m := stM) (r := slabR off h) (w := w) (Mk := Finset.univ) (hx := hx) (hm := hm) (k := k) (S := S) (f := f)
    (by rw [slab_acc_st ho]; exact hS) (defs := defs₀ (F := F)) (Γ := .empty) (Q := Q)
  rw [slab_write_st ho] at hw
  exact hw

theorem store_row_co (c : Dev nD) {off : Fin 3 → ℕ} {h} {j : Dev nD} (ho : off = ![j.val, 0, 0])
    (f : S8x1x128.Idx → BitVec 32) (w : S1x1x128.Idx → BitVec 32) (g : S8x1x128.Idx → BitVec 32) (hg : ∀ x ∈ row j, w (ix1c (x 2)) = g x) {hx hm}
    {k : PUnit → Prog (TpuEff nD τ sig (Elt F) Λ₀ .tc) α} :
    (coP c (row j) f : sProp 𝕄) ⊢ iprop((coP c (row j) g -∗ WPc c (k ⟨⟩) Q)
      -∗ WPc c (.op (.store coM (rowR off h) w Finset.univ hx hm) k) Q) := by
  have hw := wp_store 𝒱₀ (c : Thread nD τ) none Set.univ (m := coM) (r := rowR off h) (w := w) (Mk := Finset.univ) (hx := hx) (hm := hm) (k := k) (S := row j) (f := f)
    (by rw [row_acc_co ho]) (defs := defs₀ (F := F)) (Γ := .empty) (Q := Q)
  have e := pointsTo_congr (ℓ := (c : Thread nD τ).loc cc0_scratch3) (q := fullShare) (fun x hx' => (row_write_co (F := F) (h := h) ho f w x hx').trans (hg x hx')) (U := UU) (Lvl := ℕ) (Ix := Unit) (Name := ℕ)
  iintro H Hk
  iapply hw $$ H
  iintro H
  iapply Hk
  iapply (Entails.of_eq e)
  iexact H

theorem load_slab_st (c : Dev nD) {off : Fin 3 → ℕ} {h} {j : Dev nD} (ho : off = ![j.val, 0, 0]) {S : Finset S8x192x512.Idx} (hS : S = Finset.univ) (f : S8x192x512.Idx → F .bf16) {hl}
    {k : ((slabR off h).toLoadRect.shape.Idx → Elt F .bf16) → Prog (TpuEff nD τ sig (Elt F) Λ₀ .tc) α} :
    stP c S f ⊢ iprop((stP c S f -∗ WPc c (k fun y => f (ix j (y 1) (y 2))) Q) -∗ WPc c (.op (.load stM (slabR off h).toLoadRect hl) k) Q) := by
  subst hS
  have hw := wp_load 𝒱₀ (c : Thread nD τ) none Set.univ (m := stM) (r := (slabR off h).toLoadRect) (hl := hl) (k := k) (S := Finset.univ) (q := fullShare) (f := f)
    (Finset.subset_univ _) (defs := defs₀ (F := F)) (Γ := .empty) (Q := Q)
  rw [slab_read_st ho] at hw
  exact hw

theorem load_slab_sl (c : Dev nD) {off : Fin 3 → ℕ} {h} {j : Dev nD} (ho : off = ![j.val, 0, 0]) (q : PosShare TreeShare) (f : S8x192x512.Idx → F .bf16) {hl}
    {k : ((slabR off h).toLoadRect.shape.Idx → Elt F .bf16) → Prog (TpuEff nD τ sig (Elt F) Λ₀ .tc) α} :
    slP c Finset.univ q f ⊢ iprop((slP c Finset.univ q f -∗ WPc c (k fun y => f (ix j (y 1) (y 2))) Q) -∗ WPc c (.op (.load slM (slabR off h).toLoadRect hl) k) Q) := by
  have hw := wp_load 𝒱₀ (c : Thread nD τ) none Set.univ (m := slM) (r := (slabR off h).toLoadRect) (hl := hl) (k := k) (S := Finset.univ) (q := q) (f := f)
    (Finset.subset_univ _) (defs := defs₀ (F := F)) (Γ := .empty) (Q := Q)
  rw [slab_read_sl ho] at hw
  exact hw

theorem load_row_ct (c : Dev nD) {off : Fin 3 → ℕ} {h} {j : Dev nD} (ho : off = ![j.val, 0, 0]) (q : PosShare TreeShare) (f : S8x1x128.Idx → BitVec 32) {hl}
    {k : ((rowR off h).toLoadRect.shape.Idx → Elt F .i32) → Prog (TpuEff nD τ sig (Elt F) Λ₀ .tc) α} :
    (ctP c Finset.univ q f : sProp 𝕄) ⊢ iprop((ctP c Finset.univ q f -∗ WPc c (k fun y => f (ixc j (y 2))) Q) -∗ WPc c (.op (.load ctM (rowR off h).toLoadRect hl) k) Q) := by
  have hw := wp_load 𝒱₀ (c : Thread nD τ) none Set.univ (m := ctM) (r := (rowR off h).toLoadRect) (hl := hl) (k := k) (S := Finset.univ) (q := q) (f := f)
    (Finset.subset_univ _) (defs := defs₀ (F := F)) (Γ := .empty) (Q := Q)
  rw [row_read_ct (F := F) ho] at hw
  exact hw

theorem load_word_ct (c : Dev nD) {off : Fin 3 → ℕ} {h} {j : Dev nD} (ho : off = ![j.val, 0, 0]) (q : PosShare TreeShare) (f : S8x1x128.Idx → BitVec 32) {hl}
    {k : ((wordR off h).toLoadRect.shape.Idx → Elt F .i32) → Prog (TpuEff nD τ sig (Elt F) Λ₀ .tc) α} :
    (ctP c Finset.univ q f : sProp 𝕄) ⊢ iprop((ctP c Finset.univ q f -∗ WPc c (k fun _ => f (ixc j 0)) Q) -∗ WPc c (.op (.load ctM (wordR off h).toLoadRect hl) k) Q) := by
  have hw := wp_load 𝒱₀ (c : Thread nD τ) none Set.univ (m := ctM) (r := (wordR off h).toLoadRect) (hl := hl) (k := k) (S := Finset.univ) (q := q) (f := f)
    (Finset.subset_univ _) (defs := defs₀ (F := F)) (Γ := .empty) (Q := Q)
  rw [word_read_ct (F := F) ho] at hw
  exact hw

theorem load_word_co (c : Dev nD) {off : Fin 3 → ℕ} {h} {j : Dev nD} (ho : off = ![j.val, 0, 0]) (f : S8x1x128.Idx → BitVec 32) {hl}
    {k : ((wordR off h).toLoadRect.shape.Idx → Elt F .i32) → Prog (TpuEff nD τ sig (Elt F) Λ₀ .tc) α} :
    (coP c Finset.univ f : sProp 𝕄) ⊢ iprop((coP c Finset.univ f -∗ WPc c (k fun _ => f (ixc j 0)) Q) -∗ WPc c (.op (.load coM (wordR off h).toLoadRect hl) k) Q) := by
  have hw := wp_load 𝒱₀ (c : Thread nD τ) none Set.univ (m := coM) (r := (wordR off h).toLoadRect) (hl := hl) (k := k) (S := Finset.univ) (q := fullShare) (f := f)
    (Finset.subset_univ _) (defs := defs₀ (F := F)) (Γ := .empty) (Q := Q)
  rw [word_read_co (F := F) ho] at hw
  exact hw

/-- A check that holds passes. -/
theorem step_check (c : Dev nD) {P : Prop} {d : Decidable P} (h : P) {k : PLift P → Prog (TpuEff nD τ sig (Elt F) Λ₀ .tc) α} :
    WPc c (k ⟨h⟩) Q ⊢ WPc c (.op (.assume P d) k) Q :=
  Entails.of_eq (wp_assume_of 𝒱₀ (c : Thread nD τ) none Set.univ (defs := defs₀ (F := F)) h).symm

/-- A program that ends. -/
theorem step_ret (c : Dev nD) (a : α) : Q a ⊢ WPc c (.ret a : Prog (TpuEff nD τ sig (Elt F) Λ₀ .tc) α) Q := by
  unfold WPc
  rw [wp_ret]
  iintro H
  imodintro
  iexact H

/-! ## Loops -/

/-- A loop without trips does nothing. -/
theorem step_empty (c : Dev nD) {l : Scf.Loop 32} (h : l.trips = 0) {ok : l.OK}
    {body : Fin l.trips → Unit → Prog (TpuEff nD τ sig (Elt F) Λ₀ .tc) Unit} {kk : Unit → Prog (TpuEff nD τ sig (Elt F) Λ₀ .tc) α} :
    WPc c (kk ⟨⟩) Q ⊢ WPc c (Scf.Loop.for l ok ⟨⟩ body >>= kk) Q := by
  have hb := Scf.wp_for_bind frame (wpE (defs₀ (F := F)) 𝒱₀ (c : Thread nD τ) none) Set.univ l.lb l.ub l.st ok ⟨⟩ body (fun _ _ => iprop(emp))
    (fun k _ => absurd k.isLt (by have : Scf.trips l.lb l.ub l.st = 0 := h; omega)) (kk := kk) (Q := Q)
  iintro H
  iapply hb $$ []
  · iempintro
  iintro %acc -
  iexact H

/-- A loop that sends the chunks of one peer, given what one trip does. -/
theorem step_loop_send (K : Dev nD × Fin 5 → ℕ) (c j : Dev nD) {l : Scf.Loop 32} (h : l.trips = nch m c j) {ok : l.OK}
    {body : Fin l.trips → Unit → Prog (TpuEff nD τ sig (Elt F) Λ₀ .tc) Unit} {kk : Unit → Prog (TpuEff nD τ sig (Elt F) Λ₀ .tc) α}
    (hb : ∀ (k : Fin l.trips) (a : Unit) (R : Unit → sProp 𝕄), iprop(recs m K ∗ Snd m c (remP m c j.val k.val))
      ⊢ iprop((Snd m c (remP m c j.val (k.val + 1)) -∗ R ⟨⟩) -∗ WPc c (body k a) R)) :
    iprop(recs m K ∗ Snd m c (remP m c j.val 0))
      ⊢ iprop((Snd m c (remP m c (j.val + 1) 0) -∗ WPc c (kk ⟨⟩) Q) -∗ WPc c (Scf.Loop.for l ok ⟨⟩ body >>= kk) Q) := by
  have hf := Scf.wp_for_bind frame (wpE (defs₀ (F := F)) 𝒱₀ (c : Thread nD τ) none) Set.univ l.lb l.ub l.st ok ⟨⟩ body
    (fun n _ => iprop(recs m K ∗ Snd m c (remP m c j.val n)))
    (fun k a => by
      iintro ⟨#HR, H⟩
      iapply (hb k a _) $$ [H]
      · isplitr; · iexact HR
        iexact H
      iintro H
      isplitr; · iexact HR
      iexact H) (kk := kk) (Q := Q)
  rw [show Scf.trips l.lb l.ub l.st = nch m c j from h, remP_next] at hf
  iintro H Hk
  iapply hf $$ H
  iintro %acc ⟨-, H⟩
  iapply Hk
  iexact H

/-- A loop that waits for all contributions to a cell, given that one trip waits for one. -/
theorem step_loop_wait (K : Dev nD × Fin 5 → ℕ) (c : Dev nD) (s : Fin 5) {l : Scf.Loop 32} (h : l.trips = tot m s c) {ok : l.OK}
    {body : Fin l.trips → Unit → Prog (TpuEff nD τ sig (Elt F) Λ₀ .tc) Unit} {kk : Unit → Prog (TpuEff nD τ sig (Elt F) Λ₀ .tc) α}
    (hb : ∀ (k : Fin l.trips) (a : Unit) (R : Unit → sProp 𝕄), iprop(recs m K ∗ Ow c 0 ∗ Wst m c s k.val)
      ⊢ iprop(((Ow c 0 ∗ Wst m c s (k.val + 1)) -∗ R ⟨⟩) -∗ WPc c (body k a) R)) :
    iprop(recs m K ∗ Ow c 0 ∗ Wst m c s 0)
      ⊢ iprop(((Ow c 0 ∗ Done m c s) -∗ WPc c (kk ⟨⟩) Q) -∗ WPc c (Scf.Loop.for l ok ⟨⟩ body >>= kk) Q) := by
  have hf := Scf.wp_for_bind frame (wpE (defs₀ (F := F)) 𝒱₀ (c : Thread nD τ) none) Set.univ l.lb l.ub l.st ok ⟨⟩ body
    (fun n _ => iprop(recs m K ∗ Ow c 0 ∗ Wst m c s n))
    (fun k a => by
      iintro ⟨#HR, H⟩
      iapply (hb k a _) $$ [H]
      · isplitr; · iexact HR
        iexact H
      iintro H
      isplitr; · iexact HR
      iexact H) (kk := kk) (Q := Q)
  rw [show Scf.trips l.lb l.ub l.st = tot m s c from h, Wst_done] at hf
  iintro H Hk
  iapply hf $$ H
  iintro %acc ⟨-, H⟩
  iapply Hk
  iexact H

end

end Cert.Exchange

end
-- ==== Proof.PartsA.lean ====
/-
# The kernel, up to the barrier

The landing buffer is cleared, the landing buffers are lent to the peers, the counts and the slots are computed and
stored, and the device waits until every peer has lent its own.
-/
module

public import proofs.«01_k».proof.Proof.MemSteps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem nxt_ne (c : Dev nD) (k : Fin 7) : nxt c (k.val + 1) ≠ c := by revert c k; decide
theorem mem_peers1 (c : Dev nD) : nxt c 1 ∈ (peers c) := by revert c; decide
theorem mem_peers2 (c : Dev nD) : nxt c 2 ∈ ((peers c).erase (nxt c 1)) := by revert c; decide
theorem mem_peers3 (c : Dev nD) : nxt c 3 ∈ (((peers c).erase (nxt c 1)).erase (nxt c 2)) := by revert c; decide
theorem mem_peers4 (c : Dev nD) : nxt c 4 ∈ ((((peers c).erase (nxt c 1)).erase (nxt c 2)).erase (nxt c 3)) := by revert c; decide
theorem mem_peers5 (c : Dev nD) : nxt c 5 ∈ (((((peers c).erase (nxt c 1)).erase (nxt c 2)).erase (nxt c 3)).erase (nxt c 4)) := by revert c; decide
theorem mem_peers6 (c : Dev nD) : nxt c 6 ∈ ((((((peers c).erase (nxt c 1)).erase (nxt c 2)).erase (nxt c 3)).erase (nxt c 4)).erase (nxt c 5)) := by revert c; decide
theorem mem_peers7 (c : Dev nD) : nxt c 7 ∈ (((((((peers c).erase (nxt c 1)).erase (nxt c 2)).erase (nxt c 3)).erase (nxt c 4)).erase (nxt c 5)).erase (nxt c 6)) := by revert c; decide
theorem peers_none (c : Dev nD) : ((((((((peers c).erase (nxt c 1)).erase (nxt c 2)).erase (nxt c 3)).erase (nxt c 4)).erase (nxt c 5)).erase (nxt c 6)).erase (nxt c 7)) = ∅ := by revert c; decide

theorem part1 (K : Dev nD × Fin 5 → ℕ) (c : Dev nD) {C : Finset (Dev nD)} {P : Finset Du} (f : S8x192x512.Idx → F .bf16) (g : S8x1x128.Idx → BitVec 32)
    {β : Type} {Q : β → sProp 𝕄} {kk : (Σ' (d0 : Dev nD) (v2 : BitVec 32) (v7 : Sems sig S_), BitVec 32) → Prog (TpuEff nD τ sig (Elt F) Λ₀ .tc) β} :
    iprop(recs m K ∗ Ow c (owe (peers c) C P) ∗ stP c Finset.univ f ∗ coP c Finset.univ g ∗ bigSep (peers c) fun j => dutyTok ER (cell j 0) 0 (⟨c, 0⟩ : Du))
      ⊢ iprop((∀ v2 v25, (Ow c (owe (((((peers c).erase (nxt c 1)).erase (nxt c 2)).erase (nxt c 3)).erase (nxt c 4)) C P) ∗ bigSep (((((peers c).erase (nxt c 1)).erase (nxt c 2)).erase (nxt c 3)).erase (nxt c 4)) (sigItem m c) ∗ stP c (rest fun i => nch m i c) (k0_pay1 (F := F)) ∗ coP c (row c) g)
          -∗ WPc c (kk ⟨c, v2, SemArray.scalar (sig.barrier 0 rfl), v25⟩) Q)
        -∗ WPc c (k0_part1 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 >>= kk) Q) := by
  rw [k0_part1_eq_skeleton]; unfold k0_part1_skel
  simp only [semSignalWord, semWaitWord, Prog.lift, Prog.bind_op, Prog.bind_ret, Prog.pure_eq_ret, wp_deviceId]
  iintro ⟨#HR, HO, Hst, Hco, Ht⟩ Hk
  iapply (load_any c (M := stM) (Finset.subset_univ _)) $$ Hst
  iintro %v0 Hst
  iapply (store_st_all c f (k0_pay1 (F := F))) $$ Hst
  iintro Hst
  ihave Hl := (lend_landing m c (k0_pay1 (F := F)) g) $$ [Hst Hco Ht]
  · isplitl [Hst]; · iexact Hst
    isplitl [Hco] <;> iassumption
  icases Hl with ⟨HS, Hrest, Hco⟩
  iapply (step_signal m K c _ (nxt c 1) (sig_dev1 c) (nxt_ne c 0) (mem_peers1 c) (by decide)) $$ [HO HS]
  · isplitr; · iexact HR
    isplitl [HO] <;> iassumption
  iintro ⟨HO, HS⟩
  iapply (step_signal m K c _ (nxt c 2) (sig_dev2 c) (nxt_ne c 1) (mem_peers2 c) (by decide)) $$ [HO HS]
  · isplitr; · iexact HR
    isplitl [HO] <;> iassumption
  iintro ⟨HO, HS⟩
  iapply (step_signal m K c _ (nxt c 3) (sig_dev3 c) (nxt_ne c 2) (mem_peers3 c) (by decide)) $$ [HO HS]
  · isplitr; · iexact HR
    isplitl [HO] <;> iassumption
  iintro ⟨HO, HS⟩
  iapply (step_signal m K c _ (nxt c 4) (sig_dev4 c) (nxt_ne c 3) (mem_peers4 c) (by decide)) $$ [HO HS]
  · isplitr; · iexact HR
    isplitl [HO] <;> iassumption
  iintro ⟨HO, HS⟩
  iapply Hk
  isplitl [HO]; · iexact HO
  isplitl [HS]; · iexact HS
  isplitl [Hrest] <;> iassumption

theorem part2 (K : Dev nD × Fin 5 → ℕ) (c : Dev nD) {C : Finset (Dev nD)} {P : Finset Du} (v2 v25 : BitVec 32)
    {β : Type} {Q : β → sProp 𝕄} {kk : (Σ' (v47 : IVec S8x1 32) (v62 : IVec S1x1024 32) (v63 : IVec S8x128 32), BitVec 32) → Prog (TpuEff nD τ sig (Elt F) Λ₀ .tc) β} :
    iprop(recs m K ∗ Ow c (owe (((((peers c).erase (nxt c 1)).erase (nxt c 2)).erase (nxt c 3)).erase (nxt c 4)) C P) ∗ bigSep (((((peers c).erase (nxt c 1)).erase (nxt c 2)).erase (nxt c 3)).erase (nxt c 4)) (sigItem m c) ∗ whP c cc0_stg1_0 (ds m c))
      ⊢ iprop(((Ow c (owe ∅ C P) ∗ whP c cc0_stg1_0 (ds m c))
          -∗ WPc c (kk ⟨k0_pay4 (F := F) (ds m c), posW m c, iota .tc S8x128 32 [1] iota_S8x128_d1_w32, 0#32⟩) Q)
        -∗ WPc c (k0_part2 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 (SemArray.scalar (sig.barrier 0 rfl)) v25 >>= kk) Q) := by
  rw [k0_part2_eq_skeleton]; unfold k0_part2_skel
  simp only [semSignalWord, semWaitWord, Prog.lift, Prog.bind_op, Prog.bind_ret, Prog.pure_eq_ret, wp_deviceId]
  iintro ⟨#HR, HO, HS, Hd⟩ Hk
  iapply (step_signal m K c _ (nxt c 5) (sig_dev5 c) (nxt_ne c 4) (mem_peers5 c) (by decide)) $$ [HO HS]
  · isplitr; · iexact HR
    isplitl [HO] <;> iassumption
  iintro ⟨HO, HS⟩
  iapply (step_signal m K c _ (nxt c 6) (sig_dev6 c) (nxt_ne c 5) (mem_peers6 c) (by decide)) $$ [HO HS]
  · isplitr; · iexact HR
    isplitl [HO] <;> iassumption
  iintro ⟨HO, HS⟩
  iapply (step_signal m K c _ (nxt c 7) (sig_dev7 c) (nxt_ne c 6) (mem_peers7 c) (by decide)) $$ [HO HS]
  · isplitr; · iexact HR
    isplitl [HO] <;> iassumption
  iintro ⟨HO, HS⟩
  iapply (load_d c (ds m c)) $$ Hd
  iintro Hd
  iapply Hk
  isplitl [HO]
  · iapply (Entails.of_eq (congrArg (fun B => Ow (F := F) c (owe B C P)) (peers_none c))); iexact HO
  iexact Hd

/-- The slot buffer when the first slabs are stored. -/
def stored (c : Dev nD) (f : S8x192x512.Idx → F .bf16) : ℕ → S8x192x512.Idx → F .bf16
  | 0 => f
  | n + 1 => fun x => if (sb x).val = n then slab m c (sb x) (ix1 (x 1) (x 2)) else stored c f n x

theorem stored_succ (c : Dev nD) (f : S8x192x512.Idx → F .bf16) (j : Dev nD) :
    (fun x => if sb x = j then slab m c j (ix1 (x 1) (x 2)) else stored m c f j.val x) = stored m c f (j.val + 1) := by
  funext x
  show _ = if (sb x).val = j.val then slab m c (sb x) (ix1 (x 1) (x 2)) else stored m c f j.val x
  by_cases h : sb x = j
  · rw [if_pos h, if_pos (congrArg Fin.val h), h]
  · rw [if_neg h, if_neg (fun e => h (Fin.ext e))]

theorem stored_at (c : Dev nD) (f : S8x192x512.Idx → F .bf16) (x : S8x192x512.Idx) : ∀ n, (sb x).val < n → stored m c f n x = SL m c x := by
  intro n
  induction n with
  | zero => exact fun h => absurd h (Nat.not_lt_zero _)
  | succ n ih =>
    intro h
    show (if (sb x).val = n then slab m c (sb x) (ix1 (x 1) (x 2)) else stored m c f n x) = _
    by_cases e : (sb x).val = n
    · rw [if_pos e]; rfl
    · rw [if_neg e]; exact ih (by omega)

theorem stored_all (c : Dev nD) (f : S8x192x512.Idx → F .bf16) : stored m c f 8 = SL m c :=
  funext fun x => stored_at m c f x 8 (sb x).isLt

/-- One slab stored after those before it. -/
theorem store_slab (c j : Dev nD) (n : ℕ) (hn : j.val = n) {off : Fin 3 → ℕ} {h} (ho : off = ![j.val, 0, 0]) (f : S8x192x512.Idx → F .bf16) (w : S1x192x512.Idx → F .bf16) (hw : w = slab m c j) {hl hx hm}
    {α : Type} {Q : α → sProp 𝕄} {k : PUnit → Prog (TpuEff nD τ sig (Elt F) Λ₀ .tc) α} :
    slP c Finset.univ fullShare (stored m c f n) ⊢ iprop((slP c Finset.univ fullShare (stored m c f (n + 1)) -∗ WPc c (k ⟨⟩) Q)
      -∗ WPc c (.op (.load slM (slabR off h).toLoadRect hl) fun _ => .op (.store slM (slabR off h) w Finset.univ hx hm) k) Q) := by
  subst hw hn
  have hs := store_slab_sl c ho (stored m c f j.val) (slab m c j) (hx := hx) (hm := hm) (k := k) (Q := Q)
  rw [stored_succ] at hs
  iintro H Hk
  iapply (load_any c (M := slM) (Finset.subset_univ _)) $$ H
  iintro %v H
  iapply hs $$ H
  iexact Hk

theorem part3 (c : Dev nD) (f : S8x192x512.Idx → F .bf16) (h : S8x1x128.Idx → BitVec 32)
    {β : Type} {Q : β → sProp 𝕄} {kk : (Σ' (v74 : FVec F S1024x512 .bf16), IVec S192x1024 32) → Prog (TpuEff nD τ sig (Elt F) Λ₀ .tc) β} :
    iprop(ctP c Finset.univ fullShare h ∗ whP c cc0_stg0_0 (xs m c) ∗ slP c Finset.univ fullShare (stored m c f 0))
      ⊢ iprop(((ctP c Finset.univ fullShare (CT m c) ∗ whP c cc0_stg0_0 (xs m c) ∗ slP c Finset.univ fullShare (stored m c f 2))
          -∗ WPc c (kk ⟨k0_pay7 (xs m c), k0_pay10⟩) Q)
        -∗ WPc c (k0_part3 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 (k0_pay4 (F := F) (ds m c)) (posW m c) (iota .tc S8x128 32 [1] iota_S8x128_d1_w32) 0#32 >>= kk) Q) := by
  rw [k0_part3_eq_skeleton]; unfold k0_part3_skel
  simp only [semSignalWord, semWaitWord, Prog.lift, Prog.bind_op, Prog.bind_ret, Prog.pure_eq_ret, wp_deviceId]
  iintro ⟨Hct, Hx, Hsl⟩ Hk
  iapply (load_any c (M := ctM) (Finset.subset_univ _)) $$ Hct
  iintro %v0 Hct
  iapply (store_ct_all c h (CT m c)) $$ Hct
  iintro Hct
  iapply (load_x c (xs m c)) $$ Hx
  iintro Hx
  iapply (store_slab m c 0 0 rfl rfl f _ rfl) $$ Hsl
  iintro Hsl
  iapply (store_slab m c 1 1 rfl rfl f _ rfl) $$ Hsl
  iintro Hsl
  iapply Hk
  isplitl [Hct]; · iexact Hct
  isplitl [Hx] <;> iassumption

theorem part4 (c : Dev nD) (f : S8x192x512.Idx → F .bf16)
    {β : Type} {Q : β → sProp 𝕄} {kk : IVec S192x1024 32 → Prog (TpuEff nD τ sig (Elt F) Λ₀ .tc) β} :
    slP c Finset.univ fullShare (stored m c f 2)
      ⊢ iprop((slP c Finset.univ fullShare (stored m c f 5) -∗ WPc c (kk (k0_pay14 (posW m c))) Q)
        -∗ WPc c (k0_part4 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 (posW m c) (k0_pay7 (xs m c)) (k0_pay10) >>= kk) Q) := by
  rw [k0_part4_eq_skeleton]; unfold k0_part4_skel
  simp only [semSignalWord, semWaitWord, Prog.lift, Prog.bind_op, Prog.bind_ret, Prog.pure_eq_ret, wp_deviceId]
  iintro Hsl Hk
  iapply (store_slab m c 2 2 rfl rfl f _ rfl) $$ Hsl
  iintro Hsl
  iapply (store_slab m c 3 3 rfl rfl f _ rfl) $$ Hsl
  iintro Hsl
  iapply (store_slab m c 4 4 rfl rfl f _ rfl) $$ Hsl
  iintro Hsl
  iapply Hk
  iexact Hsl

theorem part5 (K : Dev nD × Fin 5 → ℕ) (c : Dev nD) {C : Finset (Dev nD)} {P : Finset Du} (v2 : BitVec 32) (f : S8x192x512.Idx → F .bf16)
    {β : Type} {Q : β → sProp 𝕄} {kk : (Σ' (v180 : BitVec 32) (v181 : BitVec 32), BitVec 32) → Prog (TpuEff nD τ sig (Elt F) Λ₀ .tc) β} :
    iprop(recs m K ∗ levAts L lv ∗ Ow c (owe ∅ C P) ∗ atPos ER (cell c 0) 0 ∅ 0 ∗ cred (tallyAt (cell c 0) () 7) ∗ slP c Finset.univ fullShare (stored m c f 5))
      ⊢ iprop((∀ v180 v181, (Ow c (owe ∅ C P) ∗ Done m c 0 ∗ slP c Finset.univ fullShare (SL m c)) -∗ WPc c (kk ⟨v180, v181, 0#32⟩) Q)
        -∗ WPc c (k0_part5 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 v2 (SemArray.scalar (sig.barrier 0 rfl)) (posW m c) (k0_pay7 (xs m c)) (k0_pay14 (posW m c)) >>= kk) Q) := by
  rw [k0_part5_eq_skeleton]; unfold k0_part5_skel
  simp only [semSignalWord, semWaitWord, Prog.lift, Prog.bind_op, Prog.bind_ret, Prog.pure_eq_ret, wp_deviceId]
  iintro ⟨#HR, #Hlev, HO, Hat, Hc, Hsl⟩ Hk
  iapply (store_slab m c 5 5 rfl rfl f _ rfl) $$ Hsl
  iintro Hsl
  iapply (store_slab m c 6 6 rfl rfl f _ rfl) $$ Hsl
  iintro Hsl
  iapply (store_slab m c 7 7 rfl rfl f _ rfl) $$ Hsl
  iintro Hsl
  iapply (step_barrier m K c (by decide)) $$ [HO Hat Hc]
  · isplitr; · iexact HR
    isplitr; · iexact Hlev
    isplitl [HO]; · iexact HO
    isplitl [Hat] <;> iassumption
  iintro ⟨HO, HD⟩
  iapply Hk
  isplitl [HO]; · iexact HO
  isplitl [HD]; · iexact HD
  iapply (Entails.of_eq (congrArg (fun f => slP (F := F) c Finset.univ fullShare f) (stored_all m c f))); iexact Hsl

end Cert.Exchange

end
-- ==== Proof.Sends.lean ====
/-
# The loops that send

For each peer, the loop that sends it its chunks.
-/
module

public import proofs.«01_k».proof.Proof.MemSteps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

variable (hf : Fit m)
include hf

theorem loop_t1 (K : Dev nD × Fin 5 → ℕ) (c : Dev nD) (v2 : BitVec 32) (v237 : BitVec 32)
    {β : Type} {Q : β → sProp 𝕄} {kk : Unit → Prog (TpuEff nD τ sig (Elt F) Λ₀ .tc) β} :
    iprop(recs m K ∗ Snd m c (remP m c 0 0))
      ⊢ iprop((Snd m c (remP m c 1 0) -∗ WPc c (kk ⟨⟩) Q)
        -∗ WPc c (Scf.Loop.for (k0_t1_loop c (cntW m c 0)) (k0_t1_ok c (cntW m c 0) (chk1 c (hf c 0))) ⟨⟩ (k0_t1_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 (cntW m c 0) (chk1 c (hf c 0)) v237) >>= kk) Q) := by
  have h : (k0_t1_loop c (cntW m c 0)).trips = nch m c 0 := trips_t1 c (hf c 0)
  refine step_loop_send m K c 0 h fun k a R => ?_
  unfold k0_t1_body
  simp only [Prog.lift, Prog.bind_op, Prog.bind_ret, Prog.pure_eq_ret]
  have hk : k.val < nch m c 0 := h ▸ k.isLt
  iintro H Hk
  iapply (step_send m K c _ 0 dev_t1 k.val hk (dst_t1 c (hf c 0) k) (src_t1 c (hf c 0) k)) $$ H
  iintro H
  iapply (step_ret c _)
  iapply Hk
  iexact H

theorem loop_t3 (K : Dev nD × Fin 5 → ℕ) (c : Dev nD) (v2 : BitVec 32) (v237 : BitVec 32)
    {β : Type} {Q : β → sProp 𝕄} {kk : Unit → Prog (TpuEff nD τ sig (Elt F) Λ₀ .tc) β} :
    iprop(recs m K ∗ Snd m c (remP m c 1 0))
      ⊢ iprop((Snd m c (remP m c 2 0) -∗ WPc c (kk ⟨⟩) Q)
        -∗ WPc c (Scf.Loop.for (k0_t3_loop c (cntW m c 1)) (k0_t3_ok c (cntW m c 1) (chk2 c (hf c 1))) ⟨⟩ (k0_t3_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 (cntW m c 0) (chk1 c (hf c 0)) v237 (cntW m c 1) (chk2 c (hf c 1))) >>= kk) Q) := by
  have h : (k0_t3_loop c (cntW m c 1)).trips = nch m c 1 := trips_t3 c (hf c 1)
  refine step_loop_send m K c 1 h fun k a R => ?_
  unfold k0_t3_body
  simp only [Prog.lift, Prog.bind_op, Prog.bind_ret, Prog.pure_eq_ret]
  have hk : k.val < nch m c 1 := h ▸ k.isLt
  iintro H Hk
  iapply (step_send m K c _ 1 dev_t3 k.val hk (dst_t3 c (hf c 1) k) (src_t3 c (hf c 1) k)) $$ H
  iintro H
  iapply (step_ret c _)
  iapply Hk
  iexact H

theorem loop_t5 (K : Dev nD × Fin 5 → ℕ) (c : Dev nD) (v2 : BitVec 32) (v258 : BitVec 32) (v262 : BitVec 32) (v263 : BitVec 1) (c0_i32_154 : BitVec 32)
    {β : Type} {Q : β → sProp 𝕄} {kk : Unit → Prog (TpuEff nD τ sig (Elt F) Λ₀ .tc) β} :
    iprop(recs m K ∗ Snd m c (remP m c 2 0))
      ⊢ iprop((Snd m c (remP m c 3 0) -∗ WPc c (kk ⟨⟩) Q)
        -∗ WPc c (Scf.Loop.for (k0_t5_loop c (cntW m c 2)) (k0_t5_ok c (cntW m c 2) (chk3 c (hf c 2))) ⟨⟩ (k0_t5_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v258 (cntW m c 2) (chk3 c (hf c 2)) v262 v263 c0_i32_154) >>= kk) Q) := by
  have h : (k0_t5_loop c (cntW m c 2)).trips = nch m c 2 := trips_t5 c (hf c 2)
  refine step_loop_send m K c 2 h fun k a R => ?_
  unfold k0_t5_body
  simp only [Prog.lift, Prog.bind_op, Prog.bind_ret, Prog.pure_eq_ret]
  have hk : k.val < nch m c 2 := h ▸ k.isLt
  iintro H Hk
  iapply (step_send m K c _ 2 dev_t5 k.val hk (dst_t5 c (hf c 2) k) (src_t5 c (hf c 2) k)) $$ H
  iintro H
  iapply (step_ret c _)
  iapply Hk
  iexact H

theorem loop_t7 (K : Dev nD × Fin 5 → ℕ) (c : Dev nD) (v2 : BitVec 32) (v258 : BitVec 32) (v262 : BitVec 32) (v263 : BitVec 1) (c0_i32_154 : BitVec 32)
    {β : Type} {Q : β → sProp 𝕄} {kk : Unit → Prog (TpuEff nD τ sig (Elt F) Λ₀ .tc) β} :
    iprop(recs m K ∗ Snd m c (remP m c 3 0))
      ⊢ iprop((Snd m c (remP m c 4 0) -∗ WPc c (kk ⟨⟩) Q)
        -∗ WPc c (Scf.Loop.for (k0_t7_loop c (cntW m c 3)) (k0_t7_ok c (cntW m c 3) (chk4 c (hf c 3))) ⟨⟩ (k0_t7_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v258 (cntW m c 2) (chk3 c (hf c 2)) v262 v263 c0_i32_154 (cntW m c 3) (chk4 c (hf c 3))) >>= kk) Q) := by
  have h : (k0_t7_loop c (cntW m c 3)).trips = nch m c 3 := trips_t7 c (hf c 3)
  refine step_loop_send m K c 3 h fun k a R => ?_
  unfold k0_t7_body
  simp only [Prog.lift, Prog.bind_op, Prog.bind_ret, Prog.pure_eq_ret]
  have hk : k.val < nch m c 3 := h ▸ k.isLt
  iintro H Hk
  iapply (step_send m K c _ 3 dev_t7 k.val hk (dst_t7 c (hf c 3) k) (src_t7 c (hf c 3) k)) $$ H
  iintro H
  iapply (step_ret c _)
  iapply Hk
  iexact H

theorem loop_t9 (K : Dev nD × Fin 5 → ℕ) (c : Dev nD) (v2 : BitVec 32) (v282 : BitVec 32) (v288 : BitVec 32) (c0_i32_180 : BitVec 32) (v289 : BitVec 32) (c1_i32_181 : BitVec 32)
    {β : Type} {Q : β → sProp 𝕄} {kk : Unit → Prog (TpuEff nD τ sig (Elt F) Λ₀ .tc) β} :
    iprop(recs m K ∗ Snd m c (remP m c 4 0))
      ⊢ iprop((Snd m c (remP m c 5 0) -∗ WPc c (kk ⟨⟩) Q)
        -∗ WPc c (Scf.Loop.for (k0_t9_loop c (cntW m c 4)) (k0_t9_ok c (cntW m c 4) (chk5 c (hf c 4))) ⟨⟩ (k0_t9_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v282 (cntW m c 4) (chk5 c (hf c 4)) v288 c0_i32_180 v289 c1_i32_181) >>= kk) Q) := by
  have h : (k0_t9_loop c (cntW m c 4)).trips = nch m c 4 := trips_t9 c (hf c 4)
  refine step_loop_send m K c 4 h fun k a R => ?_
  unfold k0_t9_body
  simp only [Prog.lift, Prog.bind_op, Prog.bind_ret, Prog.pure_eq_ret]
  have hk : k.val < nch m c 4 := h ▸ k.isLt
  iintro H Hk
  iapply (step_send m K c _ 4 dev_t9 k.val hk (dst_t9 c (hf c 4) k) (src_t9 c (hf c 4) k)) $$ H
  iintro H
  iapply (step_ret c _)
  iapply Hk
  iexact H

theorem loop_t11 (K : Dev nD × Fin 5 → ℕ) (c : Dev nD) (v2 : BitVec 32) (v282 : BitVec 32) (v288 : BitVec 32) (c0_i32_180 : BitVec 32) (v289 : BitVec 32) (c1_i32_181 : BitVec 32)
    {β : Type} {Q : β → sProp 𝕄} {kk : Unit → Prog (TpuEff nD τ sig (Elt F) Λ₀ .tc) β} :
    iprop(recs m K ∗ Snd m c (remP m c 5 0))
      ⊢ iprop((Snd m c (remP m c 6 0) -∗ WPc c (kk ⟨⟩) Q)
        -∗ WPc c (Scf.Loop.for (k0_t11_loop c (cntW m c 5)) (k0_t11_ok c (cntW m c 5) (chk6 c (hf c 5))) ⟨⟩ (k0_t11_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v282 (cntW m c 4) (chk5 c (hf c 4)) v288 c0_i32_180 v289 c1_i32_181 (cntW m c 5) (chk6 c (hf c 5))) >>= kk) Q) := by
  have h : (k0_t11_loop c (cntW m c 5)).trips = nch m c 5 := trips_t11 c (hf c 5)
  refine step_loop_send m K c 5 h fun k a R => ?_
  unfold k0_t11_body
  simp only [Prog.lift, Prog.bind_op, Prog.bind_ret, Prog.pure_eq_ret]
  have hk : k.val < nch m c 5 := h ▸ k.isLt
  iintro H Hk
  iapply (step_send m K c _ 5 dev_t11 k.val hk (dst_t11 c (hf c 5) k) (src_t11 c (hf c 5) k)) $$ H
  iintro H
  iapply (step_ret c _)
  iapply Hk
  iexact H

theorem loop_t13 (K : Dev nD × Fin 5 → ℕ) (c : Dev nD) (v2 : BitVec 32) (v282 : BitVec 32) (v288 : BitVec 32) (c0_i32_180 : BitVec 32) (v289 : BitVec 32) (c1_i32_181 : BitVec 32)
    {β : Type} {Q : β → sProp 𝕄} {kk : Unit → Prog (TpuEff nD τ sig (Elt F) Λ₀ .tc) β} :
    iprop(recs m K ∗ Snd m c (remP m c 6 0))
      ⊢ iprop((Snd m c (remP m c 7 0) -∗ WPc c (kk ⟨⟩) Q)
        -∗ WPc c (Scf.Loop.for (k0_t13_loop c (cntW m c 6)) (k0_t13_ok c (cntW m c 6) (chk7 c (hf c 6))) ⟨⟩ (k0_t13_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v282 (cntW m c 4) (chk5 c (hf c 4)) v288 c0_i32_180 v289 c1_i32_181 (cntW m c 6) (chk7 c (hf c 6))) >>= kk) Q) := by
  have h : (k0_t13_loop c (cntW m c 6)).trips = nch m c 6 := trips_t13 c (hf c 6)
  refine step_loop_send m K c 6 h fun k a R => ?_
  unfold k0_t13_body
  simp only [Prog.lift, Prog.bind_op, Prog.bind_ret, Prog.pure_eq_ret]
  have hk : k.val < nch m c 6 := h ▸ k.isLt
  iintro H Hk
  iapply (step_send m K c _ 6 dev_t13 k.val hk (dst_t13 c (hf c 6) k) (src_t13 c (hf c 6) k)) $$ H
  iintro H
  iapply (step_ret c _)
  iapply Hk
  iexact H

theorem loop_t15 (K : Dev nD × Fin 5 → ℕ) (c : Dev nD) (v2 : BitVec 32) (v180 : BitVec 32) (v306 : BitVec 32) (v312 : BitVec 32) (v317 : BitVec 32) (c1_i32_207 : BitVec 32)
    {β : Type} {Q : β → sProp 𝕄} {kk : Unit → Prog (TpuEff nD τ sig (Elt F) Λ₀ .tc) β} :
    iprop(recs m K ∗ Snd m c (remP m c 7 0))
      ⊢ iprop((Snd m c (remP m c 8 0) -∗ WPc c (kk ⟨⟩) Q)
        -∗ WPc c (Scf.Loop.for (k0_t15_loop c (cntW m c 7)) (k0_t15_ok c (cntW m c 0) (cntW m c 1) (cntW m c 2) (cntW m c 3) (cntW m c 4) (cntW m c 5) (cntW m c 6) (cntW m c 7) (chk8 c (hf c))) ⟨⟩ (k0_t15_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v180 (cntW m c 0) (cntW m c 1) (cntW m c 2) (cntW m c 3) (cntW m c 4) (cntW m c 5) v306 (cntW m c 6) (chk7 c (hf c 6)) v312 v317 c1_i32_207 (cntW m c 7) (chk8 c (hf c))) >>= kk) Q) := by
  have h : (k0_t15_loop c (cntW m c 7)).trips = nch m c 7 := trips_t15 c (hf c 7)
  refine step_loop_send m K c 7 h fun k a R => ?_
  unfold k0_t15_body
  simp only [Prog.lift, Prog.bind_op, Prog.bind_ret, Prog.pure_eq_ret]
  have hk : k.val < nch m c 7 := h ▸ k.isLt
  iintro H Hk
  iapply (step_send m K c _ 7 dev_t15 k.val hk (dst_t15 c (hf c 7) k) (src_t15 c (hf c 7) k)) $$ H
  iintro H
  iapply (step_ret c _)
  iapply Hk
  iexact H

end Cert.Exchange

end
-- ==== Proof.PartsB.lean ====
/-
# The kernel, from the barrier to its last sends

The counts are sent, then the chunks; then the device stores its own slab and its own row.
-/
module

public import proofs.«01_k».proof.Proof.PartsA
public import proofs.«01_k».proof.Proof.Sends

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

theorem CT_word (c j : Dev nD) : CT m c (ixc j 0) = cntW m c j := rfl

theorem setOn_slab_st (c : Dev nD) {off : Fin 3 → ℕ} {h} (ho : off = ![c.val, 0, 0]) {S : Finset S8x192x512.Idx} (hS : band c 0 12 ⊆ S) :
    (stM : Memref sig .tc .vmem S8x192x512 .bf16).view.setOn (slabR off h).toLoadRect.set ⊆ S := by
  refine Finset.Subset.trans (Finset.Subset.trans ?_ (Finset.subset_of_eq (slab_acc_st (h := h) ho))) hS
  exact Finset.subset_of_eq (View.set_slice _ _).symm

theorem setOn_row_co (c : Dev nD) {off : Fin 3 → ℕ} {h} (ho : off = ![c.val, 0, 0]) :
    (coM : Memref sig .tc .vmem S8x1x128 .i32).view.setOn (rowR off h).toLoadRect.set ⊆ row c := by
  refine Finset.Subset.trans ?_ (Finset.subset_of_eq (row_acc_co (h := h) ho))
  exact Finset.subset_of_eq (View.set_slice _ _).symm

theorem own_in_rest (c : Dev nD) : band c 0 12 ⊆ rest fun i => nch m i c := fun x hx => by
  rw [mem_rest, (mem_band.mp hx).1, nch_self]; exact Nat.zero_le _

/-- What is left of the landing buffer, the own slab stored, is what it should be. -/
theorem own_region (c : Dev nD) :
    (stP c (rest fun i => nch m i c) (fun x => if sb x = c then (fun y : S1x192x512.Idx => SL m c (ix c (y 1) (y 2))) (ix1 (x 1) (x 2)) else k0_pay1 (F := F) x) : sProp 𝕄)
      = stP c (rest fun i => nch m i c) (ST m c) :=
  pointsTo_congr (ℓ := (c : Thread nD τ).loc cc0_scratch1) fun x hx => own_slab_stored m c (Or.inr (mem_rest.mp hx))

theorem part6 (K : Dev nD × Fin 5 → ℕ) (c : Dev nD) {P : Finset Du} (v2 : BitVec 32) (v181 : BitVec 32) (c0_i32_72 : BitVec 32)
    {β : Type} {Q : β → sProp 𝕄} {kk : (Σ' (v188 : BitVec 32) (v196 : BitVec 32), BitVec 32) → Prog (TpuEff nD τ sig (Elt F) Λ₀ .tc) β} :
    iprop(recs m K ∗ Ow c (owe ∅ (peers c) P) ∗ bigSep (peers c) (cntItem m c) ∗ cred (tallyAt (cell c 1) () 0))
      ⊢ iprop((∀ v188 v196 v204, (Ow c (owe ∅ ((((peers c).erase (nxt c 1)).erase (nxt c 2)).erase (nxt c 3)) P) ∗ bigSep ((((peers c).erase (nxt c 1)).erase (nxt c 2)).erase (nxt c 3)) (cntItem m c) ∗ cred (tallyAt (cell c 1) () (0 + Nc + Nc + Nc))) -∗ WPc c (kk ⟨v188, v196, v204⟩) Q)
        -∗ WPc c (k0_part6 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v181 c0_i32_72 >>= kk) Q) := by
  rw [k0_part6_eq_skeleton]; unfold k0_part6_skel
  simp only [semSignalWord, semWaitWord, Prog.lift, Prog.bind_op, Prog.bind_ret, Prog.pure_eq_ret, Prog.bind_assoc, wp_deviceId]
  iintro ⟨#HR, HO, HS, Hz⟩ Hk
  iapply (step_count m K c _ (nxt c 1) (cnt_dev1 c) (nxt_ne c 0) (mem_peers1 c) _ (cnt_dst c) (cnt_src1 c)) $$ [HO HS Hz]
  · isplitr; · iexact HR
    isplitl [HO]; · iexact HO
    isplitl [HS] <;> iassumption
  iintro ⟨HO, HS, Hz⟩
  iapply (step_count m K c _ (nxt c 2) (cnt_dev2 c) (nxt_ne c 1) (mem_peers2 c) _ (cnt_dst c) (cnt_src2 c)) $$ [HO HS Hz]
  · isplitr; · iexact HR
    isplitl [HO]; · iexact HO
    isplitl [HS] <;> iassumption
  iintro ⟨HO, HS, Hz⟩
  iapply (step_count m K c _ (nxt c 3) (cnt_dev3 c) (nxt_ne c 2) (mem_peers3 c) _ (cnt_dst c) (cnt_src3 c)) $$ [HO HS Hz]
  · isplitr; · iexact HR
    isplitl [HO]; · iexact HO
    isplitl [HS] <;> iassumption
  iintro ⟨HO, HS, Hz⟩
  iapply Hk
  isplitl [HO]; · iexact HO
  isplitl [HS] <;> iassumption

section
variable (hf : Fit m)

theorem part7 (K : Dev nD × Fin 5 → ℕ) (c : Dev nD) {P : Finset Du} (v2 : BitVec 32)
    {β : Type} {Q : β → sProp 𝕄} {kk : (Σ' (v212 : BitVec 32) (v220 : BitVec 32) (v228 : BitVec 32) (v236 : BitVec 32) (k0_hw1 : k0_chk1 c v236), BitVec 32) → Prog (TpuEff nD τ sig (Elt F) Λ₀ .tc) β} :
    iprop(recs m K ∗ Ow c (owe ∅ ((((peers c).erase (nxt c 1)).erase (nxt c 2)).erase (nxt c 3)) P) ∗ bigSep ((((peers c).erase (nxt c 1)).erase (nxt c 2)).erase (nxt c 3)) (cntItem m c) ∗ cred (tallyAt (cell c 1) () (0 + Nc + Nc + Nc)) ∗ ctP c Finset.univ fullShare.left (CT m c))
      ⊢ iprop((∀ v212 v220 v228 v237, (Ow c (owe ∅ ∅ P) ∗ cred (tallyAt (cell c 1) () (7 * Nc)) ∗ ctP c Finset.univ fullShare.left (CT m c)) -∗ WPc c (kk ⟨v212, v220, v228, cntW m c 0, chk1 c (hf c 0), v237⟩) Q)
        -∗ WPc c (k0_part7 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 >>= kk) Q) := by
  rw [k0_part7_eq_skeleton]; unfold k0_part7_skel
  simp only [semSignalWord, semWaitWord, Prog.lift, Prog.bind_op, Prog.bind_ret, Prog.pure_eq_ret, Prog.bind_assoc, wp_deviceId]
  iintro ⟨#HR, HO, HS, Hz, Hct⟩ Hk
  iapply (step_count m K c _ (nxt c 4) (cnt_dev4 c) (nxt_ne c 3) (mem_peers4 c) _ (cnt_dst c) (cnt_src4 c)) $$ [HO HS Hz]
  · isplitr; · iexact HR
    isplitl [HO]; · iexact HO
    isplitl [HS] <;> iassumption
  iintro ⟨HO, HS, Hz⟩
  iapply (step_count m K c _ (nxt c 5) (cnt_dev5 c) (nxt_ne c 4) (mem_peers5 c) _ (cnt_dst c) (cnt_src5 c)) $$ [HO HS Hz]
  · isplitr; · iexact HR
    isplitl [HO]; · iexact HO
    isplitl [HS] <;> iassumption
  iintro ⟨HO, HS, Hz⟩
  iapply (step_count m K c _ (nxt c 6) (cnt_dev6 c) (nxt_ne c 5) (mem_peers6 c) _ (cnt_dst c) (cnt_src6 c)) $$ [HO HS Hz]
  · isplitr; · iexact HR
    isplitl [HO]; · iexact HO
    isplitl [HS] <;> iassumption
  iintro ⟨HO, HS, Hz⟩
  iapply (step_count m K c _ (nxt c 7) (cnt_dev7 c) (nxt_ne c 6) (mem_peers7 c) _ (cnt_dst c) (cnt_src7 c)) $$ [HO HS Hz]
  · isplitr; · iexact HR
    isplitl [HO]; · iexact HO
    isplitl [HS] <;> iassumption
  iintro ⟨HO, HS, Hz⟩
  iapply (load_word_ct c (j := 0) rfl fullShare.left (CT m c)) $$ Hct
  iintro Hct
  dsimp only [extractAt, CT_word]
  iapply (step_check c (chk1 c (hf c 0)))
  iapply Hk
  isplitl [HO]
  · iapply (Entails.of_eq (congrArg (fun B => Ow (F := F) c (owe ∅ B P)) (peers_none c))); iexact HO
  isplitl [Hz]
  · iapply (Entails.of_eq (congrArg (fun z => (cred (tallyAt (cell c 1) () z) : sProp 𝕄)) (show 0 + Nc + Nc + Nc + Nc + Nc + Nc + Nc = 7 * Nc by omega))); iexact Hz
  iexact Hct

theorem part8 (K : Dev nD × Fin 5 → ℕ) (c : Dev nD)  (v2 : BitVec 32) (v237 : BitVec 32)
    {β : Type} {Q : β → sProp 𝕄} {kk : (Σ' (v248 : BitVec 32) (v258 : BitVec 32) (v260 : BitVec 32) (k0_hw3 : k0_chk3 c v260) (v262 : BitVec 32) (v263 : BitVec 1), BitVec 32) → Prog (TpuEff nD τ sig (Elt F) Λ₀ .tc) β} :
    iprop(recs m K ∗ Snd m c (remP m c 0 0) ∗ ctP c Finset.univ fullShare.left (CT m c))
      ⊢ iprop((∀ v258 v262 v263, (Snd m c (remP m c 2 0) ∗ ctP c Finset.univ fullShare.left (CT m c)) -∗ WPc c (kk ⟨cntW m c 1, v258, cntW m c 2, chk3 c (hf c 2), v262, v263, 0#32⟩) Q)
        -∗ WPc c (k0_part8 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 (cntW m c 0) (chk1 c (hf c 0)) v237 >>= kk) Q) := by
  rw [k0_part8_eq_skeleton]; unfold k0_part8_skel
  simp only [semSignalWord, semWaitWord, Prog.lift, Prog.bind_op, Prog.bind_ret, Prog.pure_eq_ret, Prog.bind_assoc, wp_deviceId]
  iintro ⟨#HR, HSnd, Hct⟩ Hk
  iapply (loop_t1 m hf K c) $$ [HSnd]
  · isplitr; · iexact HR
    iexact HSnd
  iintro HSnd
  iapply (step_empty c (empty_t2 c _))
  iapply (load_word_ct c (j := 1) rfl fullShare.left (CT m c)) $$ Hct
  iintro Hct
  dsimp only [extractAt, CT_word]
  iapply (step_check c (chk2 c (hf c 1)))
  iapply (loop_t3 m hf K c) $$ [HSnd]
  · isplitr; · iexact HR
    iexact HSnd
  iintro HSnd
  iapply (step_empty c (empty_t4 c _))
  iapply (load_word_ct c (j := 2) rfl fullShare.left (CT m c)) $$ Hct
  iintro Hct
  dsimp only [extractAt, CT_word]
  iapply (step_check c (chk3 c (hf c 2)))
  iapply Hk
  isplitl [HSnd] <;> iassumption

theorem part9 (K : Dev nD × Fin 5 → ℕ) (c : Dev nD)  (v2 : BitVec 32) (v258 : BitVec 32) (v262 : BitVec 32) (v263 : BitVec 1) (c0_i32_154 : BitVec 32)
    {β : Type} {Q : β → sProp 𝕄} {kk : (Σ' (v272 : BitVec 32) (v282 : BitVec 32) (v284 : BitVec 32) (k0_hw5 : k0_chk5 c v284) (v288 : BitVec 32) (c0_i32_180 : BitVec 32) (v289 : BitVec 32), BitVec 32) → Prog (TpuEff nD τ sig (Elt F) Λ₀ .tc) β} :
    iprop(recs m K ∗ Snd m c (remP m c 2 0) ∗ ctP c Finset.univ fullShare.left (CT m c))
      ⊢ iprop((∀ v282 v288 v289, (Snd m c (remP m c 4 0) ∗ ctP c Finset.univ fullShare.left (CT m c)) -∗ WPc c (kk ⟨cntW m c 3, v282, cntW m c 4, chk5 c (hf c 4), v288, 0#32, v289, 1#32⟩) Q)
        -∗ WPc c (k0_part9 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v258 (cntW m c 2) (chk3 c (hf c 2)) v262 v263 c0_i32_154 >>= kk) Q) := by
  rw [k0_part9_eq_skeleton]; unfold k0_part9_skel
  simp only [semSignalWord, semWaitWord, Prog.lift, Prog.bind_op, Prog.bind_ret, Prog.pure_eq_ret, Prog.bind_assoc, wp_deviceId]
  iintro ⟨#HR, HSnd, Hct⟩ Hk
  iapply (loop_t5 m hf K c) $$ [HSnd]
  · isplitr; · iexact HR
    iexact HSnd
  iintro HSnd
  iapply (step_empty c (empty_t6 c _))
  iapply (load_word_ct c (j := 3) rfl fullShare.left (CT m c)) $$ Hct
  iintro Hct
  dsimp only [extractAt, CT_word]
  iapply (step_check c (chk4 c (hf c 3)))
  iapply (loop_t7 m hf K c) $$ [HSnd]
  · isplitr; · iexact HR
    iexact HSnd
  iintro HSnd
  iapply (step_empty c (empty_t8 c _))
  iapply (load_word_ct c (j := 4) rfl fullShare.left (CT m c)) $$ Hct
  iintro Hct
  dsimp only [extractAt, CT_word]
  iapply (step_check c (chk5 c (hf c 4)))
  iapply Hk
  isplitl [HSnd] <;> iassumption

theorem part10 (K : Dev nD × Fin 5 → ℕ) (c : Dev nD)  (v2 : BitVec 32) (v282 : BitVec 32) (v288 : BitVec 32) (c0_i32_180 : BitVec 32) (v289 : BitVec 32) (c1_i32_181 : BitVec 32)
    {β : Type} {Q : β → sProp 𝕄} {kk : (Σ' (v296 : BitVec 32) (v306 : BitVec 32) (v308 : BitVec 32) (k0_hw7 : k0_chk7 c v308) (v312 : BitVec 32) (v317 : BitVec 32), BitVec 32) → Prog (TpuEff nD τ sig (Elt F) Λ₀ .tc) β} :
    iprop(recs m K ∗ Snd m c (remP m c 4 0) ∗ ctP c Finset.univ fullShare.left (CT m c))
      ⊢ iprop((∀ v306 v312 v317, (Snd m c (remP m c 7 0) ∗ ctP c Finset.univ fullShare.left (CT m c)) -∗ WPc c (kk ⟨cntW m c 5, v306, cntW m c 6, chk7 c (hf c 6), v312, v317, 1#32⟩) Q)
        -∗ WPc c (k0_part10 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v282 (cntW m c 4) (chk5 c (hf c 4)) v288 c0_i32_180 v289 c1_i32_181 >>= kk) Q) := by
  rw [k0_part10_eq_skeleton]; unfold k0_part10_skel
  simp only [semSignalWord, semWaitWord, Prog.lift, Prog.bind_op, Prog.bind_ret, Prog.pure_eq_ret, Prog.bind_assoc, wp_deviceId]
  iintro ⟨#HR, HSnd, Hct⟩ Hk
  iapply (loop_t9 m hf K c) $$ [HSnd]
  · isplitr; · iexact HR
    iexact HSnd
  iintro HSnd
  iapply (step_empty c (empty_t10 c _))
  iapply (load_word_ct c (j := 5) rfl fullShare.left (CT m c)) $$ Hct
  iintro Hct
  dsimp only [extractAt, CT_word]
  iapply (step_check c (chk6 c (hf c 5)))
  iapply (loop_t11 m hf K c) $$ [HSnd]
  · isplitr; · iexact HR
    iexact HSnd
  iintro HSnd
  iapply (step_empty c (empty_t12 c _))
  iapply (load_word_ct c (j := 6) rfl fullShare.left (CT m c)) $$ Hct
  iintro Hct
  dsimp only [extractAt, CT_word]
  iapply (step_check c (chk7 c (hf c 6)))
  iapply (loop_t13 m hf K c) $$ [HSnd]
  · isplitr; · iexact HR
    iexact HSnd
  iintro HSnd
  iapply Hk
  isplitl [HSnd] <;> iassumption

theorem part11 (K : Dev nD × Fin 5 → ℕ) (c : Dev nD) (g : S8x1x128.Idx → BitVec 32) (v2 : BitVec 32) (v180 : BitVec 32) (v306 : BitVec 32) (v312 : BitVec 32) (v317 : BitVec 32) (c1_i32_207 : BitVec 32)
    {β : Type} {Q : β → sProp 𝕄} {kk : (Σ' (v320 : BitVec 32) (k0_hw8 : k0_chk8 c (cntW m c 0) (cntW m c 1) (cntW m c 2) (cntW m c 3) (cntW m c 4) (cntW m c 5) (cntW m c 6) v320), BitVec 32) → Prog (TpuEff nD τ sig (Elt F) Λ₀ .tc) β} :
    iprop(recs m K ∗ Snd m c (remP m c 7 0) ∗ ctP c Finset.univ fullShare.left (CT m c) ∗ slP c Finset.univ fullShare.left (SL m c) ∗ stP c (rest fun i => nch m i c) (k0_pay1 (F := F)) ∗ coP c (row c) g)
      ⊢ iprop((∀ v330, (Snd m c (remP m c 8 0) ∗ ctP c Finset.univ fullShare.left (CT m c) ∗ slP c Finset.univ fullShare.left (SL m c) ∗ stP c (rest fun i => nch m i c) (ST m c) ∗ coP c (row c) (CO m c)) -∗ WPc c (kk ⟨cntW m c 7, chk8 c (hf c), v330⟩) Q)
        -∗ WPc c (k0_part11 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v180 (cntW m c 0) (cntW m c 1) (cntW m c 2) (cntW m c 3) (cntW m c 4) (cntW m c 5) v306 (cntW m c 6) (chk7 c (hf c 6)) v312 v317 c1_i32_207 >>= kk) Q) := by
  rw [k0_part11_eq_skeleton]; unfold k0_part11_skel
  simp only [semSignalWord, semWaitWord, Prog.lift, Prog.bind_op, Prog.bind_ret, Prog.pure_eq_ret, Prog.bind_assoc, wp_deviceId]
  iintro ⟨#HR, HSnd, Hct, Hsl, Hst, Hco⟩ Hk
  iapply (step_empty c (empty_t14 c _))
  iapply (load_word_ct c (j := 7) rfl fullShare.left (CT m c)) $$ Hct
  iintro Hct
  dsimp only [extractAt, CT_word]
  iapply (step_check c (chk8 c (hf c)))
  iapply (loop_t15 m hf K c) $$ [HSnd]
  · isplitr; · iexact HR
    iexact HSnd
  iintro HSnd
  iapply (step_empty c (empty_t16 c _))
  iapply (load_slab_sl c (own_slab c) fullShare.left (SL m c)) $$ Hsl
  iintro Hsl
  iapply (load_any c (M := stM) (setOn_slab_st c (own_slab c) (own_in_rest m c))) $$ Hst
  iintro %v0 Hst
  iapply (store_slab_st c (own_slab c) (own_in_rest m c) (k0_pay1 (F := F)) (k0_pay18 _)) $$ Hst
  iintro Hst
  iapply (load_row_ct c (own_row c) fullShare.left (CT m c)) $$ Hct
  iintro Hct
  iapply (load_any c (M := coM) (setOn_row_co c (own_row c))) $$ Hco
  iintro %v1 Hco
  iapply (store_row_co c (own_row c) g (k0_pay19 (F := F) _) (CO m c) (fun x hx => (congrFun (pay19_eq (F := F) _) _).trans (CO_own m c hx))) $$ Hco
  iintro Hco
  iapply Hk
  isplitl [HSnd]; · iexact HSnd
  isplitl [Hct]; · iexact Hct
  isplitl [Hsl]; · iexact Hsl
  isplitl [Hst]
  · iapply (Entails.of_eq (own_region m c))
    iapply (Entails.of_eq (congrArg (fun w : S1x192x512.Idx → F .bf16 => (stP c (rest fun i => nch m i c) (fun x => if sb x = c then w (ix1 (x 1) (x 2)) else k0_pay1 (F := F) x) : sProp 𝕄))
      (pay18_eq (fun y : S1x192x512.Idx => SL m c (ix c (y 1) (y 2))))))
    iexact Hst
  iexact Hco

end

end Cert.Exchange

end
-- ==== Proof.PartsC.lean ====
/-
# The kernel, its waits

The counts arrive, then the chunks; the rows are gathered; at last the device waits for its own sends.
-/
module

public import proofs.«01_k».proof.Proof.PartsB

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-- A wait for one contribution of the kind whose buffer this is. -/
theorem wait_co (K : Dev nD × Fin 5 → ℕ) (c : Dev nD) {t : ℕ} (ht : t < tot m 2 c) {sp' : Space} {s' : Shape} {e' : EltTy} {off : Fin 3 → ℕ} {h : ∀ a, off a + S1x1x128.size a ≤ S8x1x128.size a}
    {src : Memref sig .tc sp' s' e'} {hsrc : src.view.WordExact} {hdst : (rowM coM off h).view.WordExact}
    {α : Type} {Q : α → sProp 𝕄} {kk : PUnit → Prog (TpuEff nD τ sig (Elt F) Λ₀ .tc) α} :
    iprop(recs m K ∗ Ow c 0 ∗ Wst m c 2 t)
      ⊢ iprop(((Ow c 0 ∗ Wst m c 2 (t + 1)) -∗ WPc c (kk ⟨⟩) Q) -∗ WPc c (.op (.waitDma2 cc0_scratch5.sem src (rowM coM off h) hsrc hdst) kk) Q) :=
  step_wait m K c 2 ht fun X => (wpE_waitDma2_eq 𝒱₀ (c : Thread nD τ) none Set.univ X).trans
    (congrArg (fun n => waitSpec (c : Thread nD τ) Set.univ (csem 2) n X) (row_amount coM (Or.inr rfl) off h cc0_scratch5.sem))

/-- A wait for one contribution of the kind whose buffer this is. -/
theorem wait_ct (K : Dev nD × Fin 5 → ℕ) (c : Dev nD) {t : ℕ} (ht : t < tot m 1 c) {sp' : Space} {s' : Shape} {e' : EltTy} {off : Fin 3 → ℕ} {h : ∀ a, off a + S1x1x128.size a ≤ S8x1x128.size a}
    {src : Memref sig .tc sp' s' e'} {hsrc : src.view.WordExact} {hdst : (rowM ctM off h).view.WordExact}
    {α : Type} {Q : α → sProp 𝕄} {kk : PUnit → Prog (TpuEff nD τ sig (Elt F) Λ₀ .tc) α} :
    iprop(recs m K ∗ Ow c 0 ∗ Wst m c 1 t)
      ⊢ iprop(((Ow c 0 ∗ Wst m c 1 (t + 1)) -∗ WPc c (kk ⟨⟩) Q) -∗ WPc c (.op (.waitDma2 cc0_scratch4.sem src (rowM ctM off h) hsrc hdst) kk) Q) :=
  step_wait m K c 1 ht fun X => (wpE_waitDma2_eq 𝒱₀ (c : Thread nD τ) none Set.univ X).trans
    (congrArg (fun n => waitSpec (c : Thread nD τ) Set.univ (csem 1) n X) (row_amount ctM (Or.inl rfl) off h cc0_scratch4.sem))

/-- A wait for one contribution of the kind whose buffer this is. -/
theorem wait_st (K : Dev nD × Fin 5 → ℕ) (c : Dev nD) {t : ℕ} (ht : t < tot m 4 c) {sp' : Space} {s' : Shape} {e' : EltTy} {off : Fin 3 → ℕ} {h : ∀ a, off a + S1x16x512.size a ≤ S8x192x512.size a}
    {src : Memref sig .tc sp' s' e'} {hsrc : src.view.WordExact} {hdst : (chunkM stM off h).view.WordExact}
    {α : Type} {Q : α → sProp 𝕄} {kk : PUnit → Prog (TpuEff nD τ sig (Elt F) Λ₀ .tc) α} :
    iprop(recs m K ∗ Ow c 0 ∗ Wst m c 4 t)
      ⊢ iprop(((Ow c 0 ∗ Wst m c 4 (t + 1)) -∗ WPc c (kk ⟨⟩) Q) -∗ WPc c (.op (.waitDma2 cc0_scratch7.sem src (chunkM stM off h) hsrc hdst) kk) Q) :=
  step_wait m K c 4 ht fun X => (wpE_waitDma2_eq 𝒱₀ (c : Thread nD τ) none Set.univ X).trans
    (congrArg (fun n => waitSpec (c : Thread nD τ) Set.univ (csem 4) n X) (chunk_amount stM (Or.inr rfl) off h cc0_scratch7.sem))

/-- A wait for one contribution of the kind whose buffer this is. -/
theorem wait_sl (K : Dev nD × Fin 5 → ℕ) (c : Dev nD) {t : ℕ} (ht : t < tot m 3 c) {sp' : Space} {s' : Shape} {e' : EltTy} {off : Fin 3 → ℕ} {h : ∀ a, off a + S1x16x512.size a ≤ S8x192x512.size a}
    {src : Memref sig .tc sp' s' e'} {hsrc : src.view.WordExact} {hdst : (chunkM slM off h).view.WordExact}
    {α : Type} {Q : α → sProp 𝕄} {kk : PUnit → Prog (TpuEff nD τ sig (Elt F) Λ₀ .tc) α} :
    iprop(recs m K ∗ Ow c 0 ∗ Wst m c 3 t)
      ⊢ iprop(((Ow c 0 ∗ Wst m c 3 (t + 1)) -∗ WPc c (kk ⟨⟩) Q) -∗ WPc c (.op (.waitDma2 cc0_scratch6.sem src (chunkM slM off h) hsrc hdst) kk) Q) :=
  step_wait m K c 3 ht fun X => (wpE_waitDma2_eq 𝒱₀ (c : Thread nD τ) none Set.univ X).trans
    (congrArg (fun n => waitSpec (c : Thread nD τ) Set.univ (csem 3) n X) (chunk_amount slM (Or.inl rfl) off h cc0_scratch6.sem))

/-- A vector of one word. -/
def cvec (w : BitVec 32) : S1x1x1.Idx → BitVec 32 := fun _ => w
theorem cvec_at (w : BitVec 32) (i : S1x1x1.Idx) : cvec w i = w := rfl

theorem load_cnt (c : Dev nD) {off : Fin 3 → ℕ} {h} {j : Dev nD} (ho : off = ![j.val, 0, 0]) {hl}
    {α : Type} {Q : α → sProp 𝕄} {k : (S1x1x1.Idx → Elt F .i32) → Prog (TpuEff nD τ sig (Elt F) Λ₀ .tc) α} :
    (coP c Finset.univ (CO m c) : sProp 𝕄) ⊢ iprop((coP c Finset.univ (CO m c) -∗ WPc c (k (cvec (cntW m j c))) Q) -∗ WPc c (.op (.load coM (wordR off h).toLoadRect hl) k) Q) :=
  load_word_co c ho (CO m c)

/-- The slab a device reads of its landing buffer. -/
abbrev sv (c j : Dev nD) : S1x192x512.Idx → F .bf16 := fun y => ST m c (ix j (y 1) (y 2))

theorem CO_at (c j : Dev nD) : CO m c (ixc j 0) = cntW m j c := rfl

/-- The seven waits for counts done. -/
theorem Wst_seven (c : Dev nD) (k : Fin 5) (h : tot m k c = 7) : Wst m c k 7 = Done m c k := by rw [← Wst_done m c k, h]

/-- The counts received and the own one make the whole table. -/
theorem counts_all (c : Dev nD) : (iprop((bigSep (pairs (wt m 2 c)) (pay m 2 c)) ∗ coP c (row c) (CO m c)) : sProp 𝕄) ⊢ coP c Finset.univ (CO m c) := by
  rw [counts_in, cut_co]
  iintro ⟨Hp, H⟩
  isplitl [H] <;> iassumption

theorem part12 (K : Dev nD × Fin 5 → ℕ) (c : Dev nD)  (v188 : BitVec 32) (v196 : BitVec 32) (v204 : BitVec 32) (v212 : BitVec 32) (v220 : BitVec 32)
    {β : Type} {Q : β → sProp 𝕄} {kk : (BitVec 32) → Prog (TpuEff nD τ sig (Elt F) Λ₀ .tc) β} :
    iprop(recs m K ∗ Ow c 0 ∗ Wst m c 2 0)
      ⊢ iprop((∀ v375, (Ow c 0 ∗ Wst m c 2 5) -∗ WPc c (kk v375) Q)
        -∗ WPc c (k0_part12 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v188 v196 v204 v212 v220 >>= kk) Q) := by
  rw [k0_part12_eq_skeleton]; unfold k0_part12_skel
  simp only [semSignalWord, semWaitWord, Prog.lift, Prog.bind_op, Prog.bind_ret, Prog.pure_eq_ret, Prog.bind_assoc, wp_deviceId]
  iintro ⟨#HR, HO, HW⟩ Hk
  iapply (wait_co m K c (t := 0) (by rw [tot_cr m c]; decide)) $$ [HO HW]
  · isplitr; · iexact HR
    isplitl [HO] <;> iassumption
  iintro ⟨HO, HW⟩
  iapply (wait_co m K c (t := 1) (by rw [tot_cr m c]; decide)) $$ [HO HW]
  · isplitr; · iexact HR
    isplitl [HO] <;> iassumption
  iintro ⟨HO, HW⟩
  iapply (wait_co m K c (t := 2) (by rw [tot_cr m c]; decide)) $$ [HO HW]
  · isplitr; · iexact HR
    isplitl [HO] <;> iassumption
  iintro ⟨HO, HW⟩
  iapply (wait_co m K c (t := 3) (by rw [tot_cr m c]; decide)) $$ [HO HW]
  · isplitr; · iexact HR
    isplitl [HO] <;> iassumption
  iintro ⟨HO, HW⟩
  iapply (wait_co m K c (t := 4) (by rw [tot_cr m c]; decide)) $$ [HO HW]
  · isplitr; · iexact HR
    isplitl [HO] <;> iassumption
  iintro ⟨HO, HW⟩
  iapply Hk
  isplitl [HO] <;> iassumption

theorem part13 (K : Dev nD × Fin 5 → ℕ) (c : Dev nD)  (v2 : BitVec 32) (v228 : BitVec 32) (v375 : BitVec 32)
    {β : Type} {Q : β → sProp 𝕄} {kk : (Σ' (v387 : IVec S1024x1 32) (v391 : BitVec 32) (v396 : BitVec 32) (v400 : IVec S1024x1 32) (v403 : IVec S1024x1 32) (v404 : BitVec 32), BitVec 32) → Prog (TpuEff nD τ sig (Elt F) Λ₀ .tc) β} :
    iprop(recs m K ∗ Ow c 0 ∗ Wst m c 2 5 ∗ coP c (row c) (CO m c))
      ⊢ iprop((∀ v396, (Ow c 0 ∗ semVal (cell c 2) 0 ∗ coP c Finset.univ (CO m c)) -∗ WPc c (kk ⟨iota .tc S1024x1 32 [0] iota_S1024x1_d0_w32, (cntW m 0 c), v396, k0_pay21, k0_pay22, Scalar.addi 0#32 (cntW m 0 c), (cntW m 1 c)⟩) Q)
        -∗ WPc c (k0_part13 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v228 v375 >>= kk) Q) := by
  rw [k0_part13_eq_skeleton]; unfold k0_part13_skel
  simp only [semSignalWord, semWaitWord, Prog.lift, Prog.bind_op, Prog.bind_ret, Prog.pure_eq_ret, Prog.bind_assoc, wp_deviceId]
  iintro ⟨#HR, HO, HW, Hco⟩ Hk
  iapply (wait_co m K c (t := 5) (by rw [tot_cr m c]; decide)) $$ [HO HW]
  · isplitr; · iexact HR
    isplitl [HO] <;> iassumption
  iintro ⟨HO, HW⟩
  iapply (wait_co m K c (t := 6) (by rw [tot_cr m c]; decide)) $$ [HO HW]
  · isplitr; · iexact HR
    isplitl [HO] <;> iassumption
  iintro ⟨HO, HW⟩
  ihave HD := (Entails.of_eq (Wst_seven m c 2 (tot_cr m c))) $$ HW
  imod (close_done m K c 2) $$ [HD] with ⟨Hz, Hp⟩
  · isplitr; · iexact HR
    iexact HD
  ihave Hco := (counts_all m c) $$ [Hp Hco]
  · isplitl [Hp] <;> iassumption
  iapply (load_cnt m c (j := 0) rfl) $$ Hco
  iintro Hco
  iapply (load_cnt m c (j := 1) rfl) $$ Hco
  iintro Hco
  dsimp only [extractAt, cvec_at]
  iapply Hk
  isplitl [HO]; · iexact HO
  isplitl [Hz] <;> iassumption

theorem part14 (K : Dev nD × Fin 5 → ℕ) (c : Dev nD)  (v2 : BitVec 32) (v387 : IVec S1024x1 32) (v396 : BitVec 32) (v400 : IVec S1024x1 32) (v403 : IVec S1024x1 32) (v404 : BitVec 32) (v406 : BitVec 32)
    {β : Type} {Q : β → sProp 𝕄} {kk : (Σ' (v421 : BitVec 32) (v434 : BitVec 32) (v436 : BitVec 32) (v441 : BitVec 32) (v445 : IVec S1024x1 32), IVec S1024x1 32) → Prog (TpuEff nD τ sig (Elt F) Λ₀ .tc) β} :
    iprop(coP c Finset.univ (CO m c))
      ⊢ iprop((∀ v441, (coP c Finset.univ (CO m c)) -∗ WPc c (kk ⟨(cntW m 2 c), Scalar.addi (Scalar.addi v404 v406) (cntW m 2 c), (cntW m 3 c), v441, k0_pay26 (F := F) v387 v400 v404 v406 (cvec (cntW m 2 c)), k0_pay27 (F := F) v387 v403 v404 v406 (cvec (cntW m 2 c))⟩) Q)
        -∗ WPc c (k0_part14 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 v2 v387 v396 v400 v403 v404 v406 >>= kk) Q) := by
  rw [k0_part14_eq_skeleton]; unfold k0_part14_skel
  simp only [semSignalWord, semWaitWord, Prog.lift, Prog.bind_op, Prog.bind_ret, Prog.pure_eq_ret, Prog.bind_assoc, wp_deviceId]
  iintro Hco Hk
  iapply (load_cnt m c (j := 2) rfl) $$ Hco
  iintro Hco
  iapply (load_cnt m c (j := 3) rfl) $$ Hco
  iintro Hco
  dsimp only [extractAt, cvec_at]
  iapply Hk
  iexact Hco

theorem part15 (K : Dev nD × Fin 5 → ℕ) (c : Dev nD)  (v2 : BitVec 32) (v387 : IVec S1024x1 32) (v434 : BitVec 32) (v436 : BitVec 32) (v441 : BitVec 32) (v445 : IVec S1024x1 32) (v448 : IVec S1024x1 32)
    {β : Type} {Q : β → sProp 𝕄} {kk : (Σ' (v451 : BitVec 32) (v466 : BitVec 32) (v475 : IVec S1024x1 32) (v478 : IVec S1024x1 32) (v479 : BitVec 32) (v481 : BitVec 32) (v486 : BitVec 32), IVec S1024x1 32) → Prog (TpuEff nD τ sig (Elt F) Λ₀ .tc) β} :
    iprop(coP c Finset.univ (CO m c))
      ⊢ iprop((∀ v486, (coP c Finset.univ (CO m c)) -∗ WPc c (kk ⟨(cntW m 4 c), (cntW m 5 c), k0_pay30 (F := F) v387 v434 v436 v445 (cvec (cntW m 4 c)), k0_pay31 (F := F) v387 v434 v436 v448 (cvec (cntW m 4 c)), Scalar.addi (Scalar.addi (Scalar.addi v434 v436) (cntW m 4 c)) (cntW m 5 c), (cntW m 6 c), v486, k0_pay32 (F := F) v434 v436 (cvec (cntW m 4 c)) (cvec (cntW m 5 c))⟩) Q)
        -∗ WPc c (k0_part15 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 v2 v387 v434 v436 v441 v445 v448 >>= kk) Q) := by
  rw [k0_part15_eq_skeleton]; unfold k0_part15_skel
  simp only [semSignalWord, semWaitWord, Prog.lift, Prog.bind_op, Prog.bind_ret, Prog.pure_eq_ret, Prog.bind_assoc, wp_deviceId]
  iintro Hco Hk
  iapply (load_cnt m c (j := 4) rfl) $$ Hco
  iintro Hco
  iapply (load_cnt m c (j := 5) rfl) $$ Hco
  iintro Hco
  iapply (load_cnt m c (j := 6) rfl) $$ Hco
  iintro Hco
  dsimp only [extractAt, cvec_at]
  iapply Hk
  iexact Hco

section
variable (hf : Fit m)
include hf

theorem trips_recv (c : Dev nD) : (k0_t17_loop c (cntW m 0 c) (cntW m 1 c) (cntW m 2 c) (cntW m 3 c) (cntW m 4 c) (cntW m 5 c) (cntW m 6 c) (cntW m 7 c)).trips = tot m 4 c := by
  rw [trips_t17 (w := fun j => cntW m j c) c fun j => hf j c]
  refine Finset.sum_congr rfl fun i _ => ?_
  show (if i = c then 0 else _) = nch m i c
  unfold nch
  by_cases h : i = c
  · rw [if_pos h, if_pos h.symm]
  · rw [if_neg h, if_neg (Ne.symm h)]

theorem trips_sent (c : Dev nD) : (k0_t19_loop c (cntW m c 0) (cntW m c 1) (cntW m c 2) (cntW m c 3) (cntW m c 4) (cntW m c 5) (cntW m c 6) (cntW m c 7)).trips = tot m 3 c := by
  rw [trips_t19 (w := fun j => cntW m c j) c fun j => hf c j]
  rfl

omit hf in
/-- What arrived and what stayed make the whole landing buffer. -/
theorem chunks_all (c : Dev nD) : (iprop((bigSep (pairs (wt m 4 c)) (pay m 4 c)) ∗ stP c (rest fun i => nch m i c) (ST m c)) : sProp 𝕄) ⊢ stP c Finset.univ (ST m c) := by
  rw [chunks_in, cut_st c (fun i => nch m i c)]
  iintro ⟨Hp, H⟩
  isplitl [H] <;> iassumption

theorem loop_t17 (K : Dev nD × Fin 5 → ℕ) (c : Dev nD) (v2 : BitVec 32) (v387 : IVec S1024x1 32) (v475 : IVec S1024x1 32) (v478 : IVec S1024x1 32) (v479 : BitVec 32) (v486 : BitVec 32) (v487 : IVec S1024x1 32)
    {β : Type} {Q : β → sProp 𝕄} {kk : Unit → Prog (TpuEff nD τ sig (Elt F) Λ₀ .tc) β} :
    iprop(recs m K ∗ Ow c 0 ∗ Wst m c 4 0)
      ⊢ iprop(((Ow c 0 ∗ Done m c 4) -∗ WPc c (kk ⟨⟩) Q)
        -∗ WPc c (Scf.Loop.for (k0_t17_loop c (cntW m 0 c) (cntW m 1 c) (cntW m 2 c) (cntW m 3 c) (cntW m 4 c) (cntW m 5 c) (cntW m 6 c) (cntW m 7 c)) (k0_t17_ok c (cntW m 0 c) (cntW m 1 c) (cntW m 2 c) (cntW m 3 c) (cntW m 4 c) (cntW m 5 c) (cntW m 6 c) (cntW m 7 c) (chk9 (w := fun j => cntW m j c) c fun j => hf j c)) ⟨⟩ (k0_t17_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v387 (cntW m 0 c) (cntW m 1 c) (cntW m 2 c) (cntW m 3 c) (cntW m 4 c) (cntW m 5 c) v475 v478 v479 (cntW m 6 c) v486 v487 (cntW m 7 c) (chk9 (w := fun j => cntW m j c) c fun j => hf j c)) >>= kk) Q) := by
  have h : (k0_t17_loop c (cntW m 0 c) (cntW m 1 c) (cntW m 2 c) (cntW m 3 c) (cntW m 4 c) (cntW m 5 c) (cntW m 6 c) (cntW m 7 c)).trips = tot m 4 c := trips_recv m hf c
  refine step_loop_wait m K c 4 h fun k a R => ?_
  unfold k0_t17_body
  simp only [Prog.lift, Prog.bind_op, Prog.bind_ret, Prog.pure_eq_ret]
  have hk : k.val < tot m 4 c := h ▸ k.isLt
  iintro H Hk
  iapply (wait_st m K c (t := k.val) hk) $$ H
  iintro H
  iapply (step_ret c _)
  iapply Hk
  iexact H

theorem part16 (K : Dev nD × Fin 5 → ℕ) (c : Dev nD)  (v2 : BitVec 32) (v387 : IVec S1024x1 32) (v475 : IVec S1024x1 32) (v478 : IVec S1024x1 32) (v479 : BitVec 32) (v486 : BitVec 32) (v487 : IVec S1024x1 32)
    {β : Type} {Q : β → sProp 𝕄} {kk : (Σ' (v514 : IVec S1024x1 32) (v520 : FVec F S1024x512 .f32), FVec F S1024x192 .bf16) → Prog (TpuEff nD τ sig (Elt F) Λ₀ .tc) β} :
    iprop(recs m K ∗ Ow c 0 ∗ Wst m c 4 0 ∗ stP c (rest fun i => nch m i c) (ST m c) ∗ coP c Finset.univ (CO m c))
      ⊢ iprop(((Ow c 0 ∗ semVal (cell c 4) 0 ∗ stP c Finset.univ (ST m c) ∗ coP c Finset.univ (CO m c)) -∗ WPc c (kk ⟨k0_pay33 v387 v475 v478 v479 (cntW m 6 c) v487, k0_pay34 (F := F), k0_pay35 (F := F) v387 v475 v478 v479 (cntW m 6 c) v487⟩) Q)
        -∗ WPc c (k0_part16 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v2 v387 (cntW m 0 c) (cntW m 1 c) (cntW m 2 c) (cntW m 3 c) (cntW m 4 c) (cntW m 5 c) v475 v478 v479 (cntW m 6 c) v486 v487 >>= kk) Q) := by
  rw [k0_part16_eq_skeleton]; unfold k0_part16_skel
  simp only [semSignalWord, semWaitWord, Prog.lift, Prog.bind_op, Prog.bind_ret, Prog.pure_eq_ret, Prog.bind_assoc, wp_deviceId]
  iintro ⟨#HR, HO, HW, Hst, Hco⟩ Hk
  iapply (load_cnt m c (j := 7) rfl) $$ Hco
  iintro Hco
  dsimp only [extractAt, cvec_at]
  iapply (step_check c (chk9 (w := fun j => cntW m j c) c fun j => hf j c))
  iapply (loop_t17 m hf K c) $$ [HO HW]
  · isplitr; · iexact HR
    isplitl [HO] <;> iassumption
  iintro ⟨HO, HD⟩
  iapply (step_empty c (empty_t18 c fun j => cntW m j c))
  imod (close_done m K c 4) $$ [HD] with ⟨Hz, Hp⟩
  · isplitr; · iexact HR
    iexact HD
  ihave Hst := (chunks_all m c) $$ [Hp Hst]
  · isplitl [Hp] <;> iassumption
  iapply Hk
  isplitl [HO]; · iexact HO
  isplitl [Hz]; · iexact Hz
  isplitl [Hst] <;> iassumption

theorem part17 (K : Dev nD × Fin 5 → ℕ) (c : Dev nD)  (v514 : IVec S1024x1 32) (v520 : FVec F S1024x512 .f32) (v528 : FVec F S1024x192 .bf16)
    {β : Type} {Q : β → sProp 𝕄} {kk : (Σ' (v568 : FVec F S1024x512 .f32), IVec S1024x192 32) → Prog (TpuEff nD τ sig (Elt F) Λ₀ .tc) β} :
    iprop(stP c Finset.univ (ST m c))
      ⊢ iprop(((stP c Finset.univ (ST m c)) -∗ WPc c (kk ⟨k0_pay36 v514 v520 v528 (sv m c 0) (sv m c 1) (sv m c 2) (sv m c 3), iota .tc S1024x192 32 [1] iota_S1024x192_d1_w32⟩) Q)
        -∗ WPc c (k0_part17 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 v514 v520 v528 >>= kk) Q) := by
  rw [k0_part17_eq_skeleton]; unfold k0_part17_skel
  simp only [semSignalWord, semWaitWord, Prog.lift, Prog.bind_op, Prog.bind_ret, Prog.pure_eq_ret, Prog.bind_assoc, wp_deviceId]
  iintro Hst Hk
  iapply (load_slab_st c (j := 0) rfl rfl (ST m c)) $$ Hst
  iintro Hst
  iapply (load_slab_st c (j := 1) rfl rfl (ST m c)) $$ Hst
  iintro Hst
  iapply (load_slab_st c (j := 2) rfl rfl (ST m c)) $$ Hst
  iintro Hst
  iapply (load_slab_st c (j := 3) rfl rfl (ST m c)) $$ Hst
  iintro Hst
  iapply Hk
  iexact Hst

theorem part18 (K : Dev nD × Fin 5 → ℕ) (c : Dev nD)  (v514 : IVec S1024x1 32) (v568 : FVec F S1024x512 .f32) (v569 : IVec S1024x192 32)
    {β : Type} {Q : β → sProp 𝕄} {kk : (Σ' (v604 : FVec F S1024x512 .f32), FVec F S1024x192 .bf16) → Prog (TpuEff nD τ sig (Elt F) Λ₀ .tc) β} :
    iprop(stP c Finset.univ (ST m c))
      ⊢ iprop(((stP c Finset.univ (ST m c)) -∗ WPc c (kk ⟨k0_pay37 v514 v568 v569 (sv m c 4) (sv m c 5) (sv m c 6), k0_pay38 (F := F) v514⟩) Q)
        -∗ WPc c (k0_part18 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 v514 v568 v569 >>= kk) Q) := by
  rw [k0_part18_eq_skeleton]; unfold k0_part18_skel
  simp only [semSignalWord, semWaitWord, Prog.lift, Prog.bind_op, Prog.bind_ret, Prog.pure_eq_ret, Prog.bind_assoc, wp_deviceId]
  iintro Hst Hk
  iapply (load_slab_st c (j := 4) rfl rfl (ST m c)) $$ Hst
  iintro Hst
  iapply (load_slab_st c (j := 5) rfl rfl (ST m c)) $$ Hst
  iintro Hst
  iapply (load_slab_st c (j := 6) rfl rfl (ST m c)) $$ Hst
  iintro Hst
  iapply Hk
  iexact Hst

theorem part19 (K : Dev nD × Fin 5 → ℕ) (c : Dev nD) (f : (cc0_stg2_0 : Ref sig .tc).ty.Contents (Elt F)) (v604 : FVec F S1024x512 .f32) (v612 : FVec F S1024x192 .bf16)
    {β : Type} {Q : β → sProp 𝕄} {kk : (PUnit) → Prog (TpuEff nD τ sig (Elt F) Λ₀ .tc) β} :
    iprop(recs m K ∗ Ow c 0 ∗ Wst m c 1 0 ∗ stP c Finset.univ (ST m c) ∗ whP c cc0_stg2_0 f)
      ⊢ iprop(((Ow c 0 ∗ Wst m c 1 4 ∗ stP c Finset.univ (ST m c) ∗ whP c cc0_stg2_0 (k0_pay39 v604 v612 (sv m c 7))) -∗ WPc c (kk ⟨⟩) Q)
        -∗ WPc c (k0_part19 (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c v604 v612 >>= kk) Q) := by
  rw [k0_part19_eq_skeleton]; unfold k0_part19_skel
  simp only [semSignalWord, semWaitWord, Prog.lift, Prog.bind_op, Prog.bind_ret, Prog.pure_eq_ret, Prog.bind_assoc, wp_deviceId]
  iintro ⟨#HR, HO, HW, Hst, Ho⟩ Hk
  iapply (load_slab_st c (j := 7) rfl rfl (ST m c)) $$ Hst
  iintro Hst
  iapply (load_any c (M := oM) (Finset.subset_univ _)) $$ Ho
  iintro %v0 Ho
  iapply (store_o c f (k0_pay39 v604 v612 (sv m c 7))) $$ Ho
  iintro Ho
  iapply (wait_ct m K c (t := 0) (by rw [tot_cs m c]; decide)) $$ [HO HW]
  · isplitr; · iexact HR
    isplitl [HO] <;> iassumption
  iintro ⟨HO, HW⟩
  iapply (wait_ct m K c (t := 1) (by rw [tot_cs m c]; decide)) $$ [HO HW]
  · isplitr; · iexact HR
    isplitl [HO] <;> iassumption
  iintro ⟨HO, HW⟩
  iapply (wait_ct m K c (t := 2) (by rw [tot_cs m c]; decide)) $$ [HO HW]
  · isplitr; · iexact HR
    isplitl [HO] <;> iassumption
  iintro ⟨HO, HW⟩
  iapply (wait_ct m K c (t := 3) (by rw [tot_cs m c]; decide)) $$ [HO HW]
  · isplitr; · iexact HR
    isplitl [HO] <;> iassumption
  iintro ⟨HO, HW⟩
  iapply Hk
  isplitl [HO]; · iexact HO
  isplitl [HW]; · iexact HW
  isplitl [Hst] <;> iassumption

theorem loop_t19 (K : Dev nD × Fin 5 → ℕ) (c : Dev nD)
    {β : Type} {Q : β → sProp 𝕄} {kk : Unit → Prog (TpuEff nD τ sig (Elt F) Λ₀ .tc) β} :
    iprop(recs m K ∗ Ow c 0 ∗ Wst m c 3 0)
      ⊢ iprop(((Ow c 0 ∗ Done m c 3) -∗ WPc c (kk ⟨⟩) Q)
        -∗ WPc c (Scf.Loop.for (k0_t19_loop c (cntW m c 0) (cntW m c 1) (cntW m c 2) (cntW m c 3) (cntW m c 4) (cntW m c 5) (cntW m c 6) (cntW m c 7)) (k0_t19_ok c (cntW m c 0) (cntW m c 1) (cntW m c 2) (cntW m c 3) (cntW m c 4) (cntW m c 5) (cntW m c 6) (cntW m c 7) (chk8 c (hf c))) ⟨⟩ (k0_t19_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7 c (cntW m c 0) (cntW m c 1) (cntW m c 2) (cntW m c 3) (cntW m c 4) (cntW m c 5) (cntW m c 6) (cntW m c 7) (chk8 (w := fun j => cntW m c j) c (hf c))) >>= kk) Q) := by
  have h : (k0_t19_loop c (cntW m c 0) (cntW m c 1) (cntW m c 2) (cntW m c 3) (cntW m c 4) (cntW m c 5) (cntW m c 6) (cntW m c 7)).trips = tot m 3 c := trips_sent m hf c
  refine step_loop_wait m K c 3 h fun k a R => ?_
  unfold k0_t19_body
  simp only [Prog.lift, Prog.bind_op, Prog.bind_ret, Prog.pure_eq_ret]
  have hk : k.val < tot m 3 c := h ▸ k.isLt
  iintro H Hk
  iapply (wait_sl m K c (t := k.val) hk) $$ H
  iintro H
  iapply (step_ret c _)
  iapply Hk
  iexact H

end

end Cert.Exchange

end
-- ==== Proof.Body.lean ====
/-
# The kernel, whole

What a device's kernel computes, and its run from what the launch gives it to what it leaves.
-/
module

public import proofs.«01_k».proof.Proof.PartsC

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ)

local notation "𝕄" => MT nD τ sig Unit (Elt F) ℕ UU ℕ

/-! ## What is computed -/

/-- The number of every row of the result, and the sums of the counts before ranks 3 and 6. -/
abbrev rowNo : IVec S1024x1 32 := iota .tc S1024x1 32 [0] iota_S1024x1_d0_w32
abbrev sum1 (c : Dev nD) : BitVec 32 := Scalar.addi 0#32 (cntW m 0 c)
abbrev sum3 (c : Dev nD) : BitVec 32 := Scalar.addi (Scalar.addi (sum1 m c) (cntW m 1 c)) (cntW m 2 c)
abbrev sum6 (c : Dev nD) : BitVec 32 := Scalar.addi (Scalar.addi (Scalar.addi (sum3 m c) (cntW m 3 c)) (cntW m 4 c)) (cntW m 5 c)

/-- The source count after ranks 0 to 2, and after 0 to 4; the start of the source likewise. -/
abbrev srcA (c : Dev nD) : IVec S1024x1 32 := k0_pay26 (F := F) rowNo k0_pay21 (sum1 m c) (cntW m 1 c) (cvec (cntW m 2 c))
abbrev begA (c : Dev nD) : IVec S1024x1 32 := k0_pay27 (F := F) rowNo k0_pay22 (sum1 m c) (cntW m 1 c) (cvec (cntW m 2 c))
abbrev srcB (c : Dev nD) : IVec S1024x1 32 := k0_pay30 (F := F) rowNo (sum3 m c) (cntW m 3 c) (srcA m c) (cvec (cntW m 4 c))
abbrev begB (c : Dev nD) : IVec S1024x1 32 := k0_pay31 (F := F) rowNo (sum3 m c) (cntW m 3 c) (begA m c) (cvec (cntW m 4 c))
abbrev startE (c : Dev nD) : IVec S1024x1 32 := k0_pay32 (F := F) (sum3 m c) (cntW m 3 c) (cvec (cntW m 4 c)) (cvec (cntW m 5 c))

/-- The place in the landing buffer every row of the result comes from. -/
abbrev selW (c : Dev nD) : IVec S1024x1 32 := k0_pay33 rowNo (srcB m c) (begB m c) (sum6 m c) (cntW m 6 c) (startE m c)
/-- The rows gathered from slabs 0 to 3; from 0 to 6. -/
abbrev accA (c : Dev nD) : FVec F S1024x512 .f32 :=
  k0_pay36 (selW m c) (k0_pay34 (F := F)) (k0_pay35 (F := F) rowNo (srcB m c) (begB m c) (sum6 m c) (cntW m 6 c) (startE m c)) (sv m c 0) (sv m c 1) (sv m c 2) (sv m c 3)
abbrev accB (c : Dev nD) : FVec F S1024x512 .f32 :=
  k0_pay37 (selW m c) (accA m c) (iota .tc S1024x192 32 [1] iota_S1024x192_d1_w32) (sv m c 4) (sv m c 5) (sv m c 6)
/-- The result of device `c`. -/
def outAt (c : Dev nD) : (cc0_stg2_0 : Ref sig .tc).ty.Contents (Elt F) := k0_pay39 (accB m c) (k0_pay38 (F := F) (selW m c)) (sv m c 7)

/-! ## Between the stages -/

/-- What the peers lent, the tokens and the right halves of the slots and the counts make the copies' items. -/
theorem prepare (c : Dev nD) :
    (iprop((bigSep (pairs (wt m 0 c)) (pay m 0 c)) ∗ ctP c Finset.univ fullShare (CT m c) ∗ slP c Finset.univ fullShare (SL m c)
      ∗ (bigSep (peers c) fun j => dutyTok ER (cell c 1) 0 (⟨j, 0⟩ : Du)) ∗ (bigSep (peers c) fun j => dutyTok ER (cell j 2) 0 (⟨c, 0⟩ : Du))
      ∗ (bigSep (pairs (nch m c)) fun d => dutyTok ER (cell c 3) 0 d) ∗ (bigSep (pairs (nch m c)) fun d => dutyTok ER (cell d.1 4) 0 (⟨c, d.2⟩ : Du))) : sProp 𝕄)
      ⊢ iprop(bigSep (peers c) (cntItem m c) ∗ bigSep (pairs (nch m c)) (chItem m c)
        ∗ ctP c Finset.univ fullShare.left (CT m c) ∗ slP c Finset.univ fullShare.left (SL m c)
        ∗ ctP c (row c) fullShare.right (CT m c) ∗ slP c (rest (nch m c)) fullShare.right (SL m c)) := by
  rw [← cnt_items, ← ch_items, halves_ct, halves_sl, cut_ct c fullShare.right, cut_sl c fullShare.right (nch m c)]
  iintro ⟨Hp, ⟨Hcl, Hcr, Hcp⟩, ⟨Hsl, Hsr, Hsp⟩, Ht1, Ht2, Ht3, Ht4⟩
  ihave Hp := (take_landing m c) $$ Hp
  icases Hp with ⟨Hps, Hpc⟩
  isplitl [Ht1 Ht2 Hcp Hpc]
  · isplitl [Ht1]; · iexact Ht1
    isplitl [Ht2]; · iexact Ht2
    isplitl [Hcp] <;> iassumption
  isplitl [Ht3 Ht4 Hsp Hps]
  · isplitl [Ht3]; · iexact Ht3
    isplitl [Ht4]; · iexact Ht4
    isplitl [Hsp] <;> iassumption
  isplitl [Hcl]; · iexact Hcl
  isplitl [Hsl]; · iexact Hsl
  isplitl [Hcr] <;> iassumption

/-- The counts given back make the table whole; -/
theorem whole_ct (c : Dev nD) :
    (iprop((bigSep (pairs (wt m 1 c)) (pay m 1 c)) ∗ ctP c Finset.univ fullShare.left (CT m c) ∗ ctP c (row c) fullShare.right (CT m c)) : sProp 𝕄)
      ⊢ ctP c Finset.univ fullShare (CT m c) := by
  rw [counts_back, halves_ct, cut_ct c fullShare.right]
  iintro ⟨Hp, Hl, Hr⟩
  isplitl [Hl]; · iexact Hl
  isplitl [Hr] <;> iassumption

/-- and the chunks given back the slots. -/
theorem whole_sl (c : Dev nD) :
    (iprop((bigSep (pairs (wt m 3 c)) (pay m 3 c)) ∗ slP c Finset.univ fullShare.left (SL m c) ∗ slP c (rest (nch m c)) fullShare.right (SL m c)) : sProp 𝕄)
      ⊢ slP c Finset.univ fullShare (SL m c) := by
  rw [chunks_back, halves_sl, cut_sl c fullShare.right (nch m c)]
  iintro ⟨Hp, Hl, Hr⟩
  isplitl [Hl]; · iexact Hl
  isplitl [Hr] <;> iassumption

/-- Nothing of a credit yet. -/
theorem cred_none (g : GSem nD τ sig) : (iprop(emp) : sProp 𝕄) ⊢ cred (tallyAt g () 0) := by
  rw [tallyAt_zero, cred_zero]

/-- Before the first chunk. -/
theorem Snd_start (c : Dev nD) :
    (iprop(Ow c (owe ∅ ∅ (pairs (nch m c))) ∗ bigSep (pairs (nch m c)) (chItem m c)) : sProp 𝕄) ⊢ Snd m c (remP m c 0 0) := by
  rw [remP_zero]; unfold Snd
  rw [show (tot m 3 c - (pairs (nch m c)).card) * Nd = 0 by
    rw [show (pairs (nch m c)).card = tot m 3 c from card_pairs m 3 c, Nat.sub_self, Nat.zero_mul]]
  iintro ⟨HO, Hi⟩
  isplitl [HO]; · iexact HO
  isplitl [Hi]; · iexact Hi
  iapply (cred_none _); iempintro

/-- After the last. -/
theorem Snd_end (c : Dev nD) :
    (Snd m c (remP m c 8 0) : sProp 𝕄) ⊢ iprop(Ow c 0 ∗ cred (tallyAt (cell c 3) () (tot m 3 c * unit 3))) := by
  rw [remP_last]; unfold Snd
  rw [owe_none, Finset.card_empty, Nat.sub_zero]
  iintro ⟨HO, -, Hc⟩
  isplitl [HO]; · iexact HO
  iexact Hc

/-! ## The kernel -/

/-- The tokens of the contributions device `c` makes. -/
def payToks (c : Dev nD) : sProp 𝕄 :=
  iprop((bigSep (peers c) fun j => dutyTok ER (cell j 0) 0 (⟨c, 0⟩ : Du))
    ∗ (bigSep (peers c) fun j => dutyTok ER (cell c 1) 0 (⟨j, 0⟩ : Du)) ∗ (bigSep (peers c) fun j => dutyTok ER (cell j 2) 0 (⟨c, 0⟩ : Du))
    ∗ (bigSep (pairs (nch m c)) fun d => dutyTok ER (cell c 3) 0 d) ∗ (bigSep (pairs (nch m c)) fun d => dutyTok ER (cell d.1 4) 0 (⟨c, d.2⟩ : Du)))

/-- Its positions. -/
def places (c : Dev nD) : sProp 𝕄 :=
  iprop(atPos ER (cell c 0) 0 ∅ 0 ∗ atPos ER (cell c 1) 0 ∅ 0 ∗ atPos ER (cell c 2) 0 ∅ 0 ∗ atPos ER (cell c 3) 0 ∅ 0 ∗ atPos ER (cell c 4) 0 ∅ 0)

/-- What it is owed at launch. -/
def dues (c : Dev nD) : sProp 𝕄 :=
  iprop(cred (tallyAt (cell c 0) () 7) ∗ cred (tallyAt (cell c 2) () (tot m 2 c * unit 2)) ∗ cred (tallyAt (cell c 4) () (tot m 4 c * unit 4)))

/-- Its four buffers at any contents; its five semaphores, spent. -/
def scratch (c : Dev nD) : sProp 𝕄 :=
  iprop((∃ f, slP c Finset.univ fullShare f) ∗ (∃ f, stP c Finset.univ f) ∗ (∃ f, ctP c Finset.univ fullShare f) ∗ (∃ f, coP c Finset.univ f))
def spent (c : Dev nD) : sProp 𝕄 :=
  iprop(semVal (cell c 0) 0 ∗ semVal (cell c 1) 0 ∗ semVal (cell c 2) 0 ∗ semVal (cell c 3) 0 ∗ semVal (cell c 4) 0)

variable (hf : Fit m)
include hf

set_option maxHeartbeats 1600000 in
/-- The kernel's run on device `c`. -/
theorem run_body (K : Dev nD × Fin 5 → ℕ) (c : Dev nD) (fo : (cc0_stg2_0 : Ref sig .tc).ty.Contents (Elt F)) (Q : PUnit → sProp 𝕄) :
    iprop(recs m K ∗ levAts L lv ∗ Ow c (O₀ m c) ∗ places c ∗ dues m c ∗ payToks m c ∗ scratch c
        ∗ whP c cc0_stg0_0 (xs m c) ∗ whP c cc0_stg1_0 (ds m c) ∗ whP c cc0_stg2_0 fo)
      ⊢ iprop(((Ow c 0 ∗ spent c ∗ scratch c ∗ whP c cc0_stg0_0 (xs m c) ∗ whP c cc0_stg1_0 (ds m c) ∗ whP c cc0_stg2_0 (outAt m c)) -∗ Q ⟨⟩)
        -∗ WPc c (cc0__a2av_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7) Q) := by
  rw [cc0__a2av_body_eq_skeleton]; unfold cc0__a2av_body_skel
  unfold places dues payToks scratch
  iintro ⟨#HR, #Hlev, HO, ⟨Ha0, Ha1, Ha2, Ha3, Ha4⟩, ⟨Hc0, Hc2, Hc4⟩, ⟨Ht0, Ht1, Ht2, Ht3, Ht4⟩, ⟨⟨%f0, Hsl⟩, ⟨%f1, Hst⟩, ⟨%f2, Hct⟩, ⟨%f3, Hco⟩⟩, Hx, Hd, Ho⟩ Hk
  unfold O₀
  iapply (part1 m K c f1 f3) $$ [HO Hst Hco Ht0]
  · isplitr; · iexact HR
    isplitl [HO]; · iexact HO
    isplitl [Hst]; · iexact Hst
    isplitl [Hco] <;> iassumption
  iintro %v2 %v25 ⟨HO, Hsg, Hst, Hco⟩
  try dsimp only
  iapply (part2 m K c v2 v25) $$ [HO Hsg Hd]
  · isplitr; · iexact HR
    isplitl [HO]; · iexact HO
    isplitl [Hsg] <;> iassumption
  iintro ⟨HO, Hd⟩
  try dsimp only
  ihave Hsl := (Entails.of_eq (show (slP c Finset.univ fullShare f0 : sProp 𝕄) = slP c Finset.univ fullShare (stored m c f0 0) from rfl)) $$ Hsl
  iapply (part3 m c f0 f2) $$ [Hct Hx Hsl]
  · isplitl [Hct]; · iexact Hct
    isplitl [Hx] <;> iassumption
  iintro ⟨Hct, Hx, Hsl⟩
  try dsimp only
  iapply (part4 m c f0) $$ Hsl
  iintro Hsl
  try dsimp only
  iapply (part5 m K c v2 f0) $$ [HO Ha0 Hc0 Hsl]
  · isplitr; · iexact HR
    isplitr; · iexact Hlev
    isplitl [HO]; · iexact HO
    isplitl [Ha0]; · iexact Ha0
    isplitl [Hc0] <;> iassumption
  iintro %v180 %v181 ⟨HO, HD, Hsl⟩
  dsimp only
  imod (close_done m K c 0) $$ [HD] with ⟨Hz0, Hp⟩
  · isplitr; · iexact HR
    iexact HD
  ihave Hi := (prepare m c) $$ [Hp Hct Hsl Ht1 Ht2 Ht3 Ht4]
  · isplitl [Hp]; · iexact Hp
    isplitl [Hct]; · iexact Hct
    isplitl [Hsl]; · iexact Hsl
    isplitl [Ht1]; · iexact Ht1
    isplitl [Ht2]; · iexact Ht2
    isplitl [Ht3] <;> iassumption
  icases Hi with ⟨Hci, Hhi, Hct, Hsl, Hctr, Hslr⟩
  ihave Hc1 := (cred_none (F := F) (cell c 1)) $$ []
  · iempintro
  iapply (part6 m K c v2 v181 _) $$ [HO Hci Hc1]
  · isplitr; · iexact HR
    isplitl [HO]; · iexact HO
    isplitl [Hci] <;> iassumption
  iintro %v188 %v196 %v204 ⟨HO, Hci, Hc1⟩
  try dsimp only
  iapply (part7 m hf K c v2) $$ [HO Hci Hc1 Hct]
  · isplitr; · iexact HR
    isplitl [HO]; · iexact HO
    isplitl [Hci]; · iexact Hci
    isplitl [Hc1] <;> iassumption
  iintro %v212 %v220 %v228 %v237 ⟨HO, Hc1, Hct⟩
  try dsimp only
  ihave HS := (Snd_start m c) $$ [HO Hhi]
  · isplitl [HO] <;> iassumption
  iapply (part8 m hf K c v2 v237) $$ [HS Hct]
  · isplitr; · iexact HR
    isplitl [HS] <;> iassumption
  iintro %v258 %v262 %v263 ⟨HS, Hct⟩
  try dsimp only
  iapply (part9 m hf K c v2 v258 v262 v263 _) $$ [HS Hct]
  · isplitr; · iexact HR
    isplitl [HS] <;> iassumption
  iintro %v282 %v288 %v289 ⟨HS, Hct⟩
  try dsimp only
  iapply (part10 m hf K c v2 v282 v288 _ v289 _) $$ [HS Hct]
  · isplitr; · iexact HR
    isplitl [HS] <;> iassumption
  iintro %v306 %v312 %v317 ⟨HS, Hct⟩
  try dsimp only
  iapply (part11 m hf K c f3 v2 v180 v306 v312 v317 _) $$ [HS Hct Hsl Hst Hco]
  · isplitr; · iexact HR
    isplitl [HS]; · iexact HS
    isplitl [Hct]; · iexact Hct
    isplitl [Hsl]; · iexact Hsl
    isplitl [Hst] <;> iassumption
  iintro %v330 ⟨HS, Hct, Hsl, Hst, Hco⟩
  try dsimp only
  ihave HS := (Snd_end m c) $$ HS
  icases HS with ⟨HO, Hc3⟩
  ihave HW1 := (Wst_start m c 1) $$ [Ha1 Hc1]
  · isplitl [Ha1]; · iexact Ha1
    iapply (Entails.of_eq (show (cred (tallyAt (cell c 1) () (7 * Nc)) : sProp 𝕄) = cred (tallyAt (cell c 1) () (tot m 1 c * unit 1)) by
      rw [tot_cs m c]; rfl))
    iexact Hc1
  ihave HW2 := (Wst_start m c 2) $$ [Ha2 Hc2]
  · isplitl [Ha2] <;> iassumption
  ihave HW3 := (Wst_start m c 3) $$ [Ha3 Hc3]
  · isplitl [Ha3] <;> iassumption
  ihave HW4 := (Wst_start m c 4) $$ [Ha4 Hc4]
  · isplitl [Ha4] <;> iassumption
  iapply (part12 m K c v188 v196 v204 v212 v220) $$ [HO HW2]
  · isplitr; · iexact HR
    isplitl [HO] <;> iassumption
  iintro %v375 ⟨HO, HW2⟩
  try dsimp only
  iapply (part13 m K c v2 v228 v375) $$ [HO HW2 Hco]
  · isplitr; · iexact HR
    isplitl [HO]; · iexact HO
    isplitl [HW2] <;> iassumption
  iintro %v396 ⟨HO, Hz2, Hco⟩
  try dsimp only
  iapply (part14 m K c v2 _ v396 _ _ _ _) $$ Hco
  iintro %v441 Hco
  try dsimp only
  iapply (part15 m K c v2 _ _ _ v441 _ _) $$ Hco
  iintro %v486 Hco
  try dsimp only
  iapply (part16 m hf K c v2 _ _ _ _ v486 _) $$ [HO HW4 Hst Hco]
  · isplitr; · iexact HR
    isplitl [HO]; · iexact HO
    isplitl [HW4]; · iexact HW4
    isplitl [Hst] <;> iassumption
  iintro ⟨HO, Hz4, Hst, Hco⟩
  try dsimp only
  iapply (part17 m hf K c _ _ _) $$ Hst
  iintro Hst
  try dsimp only
  iapply (part18 m hf K c _ _ _) $$ Hst
  iintro Hst
  try dsimp only
  iapply (part19 m hf K c fo _ _) $$ [HO HW1 Hst Ho]
  · isplitr; · iexact HR
    isplitl [HO]; · iexact HO
    isplitl [HW1]; · iexact HW1
    isplitl [Hst] <;> iassumption
  iintro ⟨HO, HW1, Hst, Ho⟩
  try dsimp only
  simp only [Prog.lift, Prog.bind_op, Prog.bind_ret]
  iapply (wait_ct m K c (t := 4) (by rw [tot_cs m c]; decide)) $$ [HO HW1]
  · isplitr; · iexact HR
    isplitl [HO] <;> iassumption
  iintro ⟨HO, HW1⟩
  try dsimp only
  iapply (wait_ct m K c (t := 5) (by rw [tot_cs m c]; decide)) $$ [HO HW1]
  · isplitr; · iexact HR
    isplitl [HO] <;> iassumption
  iintro ⟨HO, HW1⟩
  try dsimp only
  iapply (wait_ct m K c (t := 6) (by rw [tot_cs m c]; decide)) $$ [HO HW1]
  · isplitr; · iexact HR
    isplitl [HO] <;> iassumption
  iintro ⟨HO, HW1⟩
  try dsimp only
  ihave HD := (Entails.of_eq (Wst_seven m c 1 (tot_cs m c))) $$ HW1
  imod (close_done m K c 1) $$ [HD] with ⟨Hz1, Hp⟩
  · isplitr; · iexact HR
    iexact HD
  ihave Hct := (whole_ct m c) $$ [Hp Hct Hctr]
  · isplitl [Hp]; · iexact Hp
    isplitl [Hct] <;> iassumption
  iapply (loop_t19 m hf K c) $$ [HO HW3]
  · isplitr; · iexact HR
    isplitl [HO] <;> iassumption
  iintro ⟨HO, HD⟩
  try dsimp only
  imod (close_done m K c 3) $$ [HD] with ⟨Hz3, Hp⟩
  · isplitr; · iexact HR
    iexact HD
  ihave Hsl := (whole_sl m c) $$ [Hp Hsl Hslr]
  · isplitl [Hp]; · iexact Hp
    isplitl [Hsl] <;> iassumption
  iapply (step_empty c (empty_t20 c fun j => cntW m c j))
  iapply (step_ret c _)
  iapply Hk
  unfold spent
  isplitl [HO]; · iexact HO
  isplitl [Hz0 Hz1 Hz2 Hz3 Hz4]
  · isplitl [Hz0]; · iexact Hz0
    isplitl [Hz1]; · iexact Hz1
    isplitl [Hz2]; · iexact Hz2
    isplitl [Hz3] <;> iassumption
  isplitl [Hsl Hst Hct Hco]
  · isplitl [Hsl]; · iexists _; iexact Hsl
    isplitl [Hst]; · iexists _; iexact Hst
    isplitl [Hct]; · iexists _; iexact Hct
    iexists _; iexact Hco
  isplitl [Hx]; · iexact Hx
  isplitl [Hd]; · iexact Hd
  unfold outAt
  iexact Ho

end Cert.Exchange

end
-- ==== Proof.Stage.lean ====
/-
# The kernel at its point

The kernel's run as the pipeline asks for it: from the fetched blocks to the written ones.
-/
module

public import proofs.«01_k».proof.Proof.Body
public import proofs.«01_k».proof.Proof.Gen.KernelIdeal.Points

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

variable (ρ : Dev nD → PrngReg)

/-! ## The body, as the pipeline asks for it -/

/-- What a device's kernel starts from, beside its buffers; -/
def start (c : Dev nD) : sProp 𝕄 := iprop((∃ K, recs m K) ∗ places c ∗ payToks m c ∗ dues m c ∗ levAts L lv)
/-- with its buffers; and what it leaves. -/
def Φ₀ (c : Dev nD) : sProp 𝕄 := iprop(start m c ∗ scratch c)
def Φ₁ (c : Dev nD) : sProp 𝕄 := iprop(spent c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ds m c
    | ⟨2, _⟩ => outAt m c
  Φ t := match t with
    | ⟨0, _⟩ => Φ₀ m c
    | ⟨_ + 1, _⟩ => Φ₁ c
  q _ := fullShare
  owed t := match t with
    | ⟨0, _⟩ => O₀ m c
    | ⟨_ + 1, _⟩ => 0

theorem one_point : cfg0.N = 1 := by decide
def t₀ : Fin cfg0.N := ⟨0, by rw [one_point]; decide⟩
theorem point_eq (t : Fin cfg0.N) : t = t₀ := by
  obtain ⟨t, ht⟩ := t; have := one_point; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xs m c) ∗ stg c cc0_stg1_0 (ds m c) ∗ stg c cc0_stg2_0 (outAt m c))

theorem sound_body (hf : Fit m) (c : Dev nD) :
    bodyPre m ρ c ⊢ wp frame (wpE (defs₀ (F := F)) 𝒱₀ c none) Set.univ (cc0__a2av_body (F := F) xM (Memref.isWhole_whole _) dM (Memref.isWhole_whole _) oM (Memref.isWhole_whole _) slM (Memref.isWhole_whole _) stM (Memref.isWhole_whole _) ctM (Memref.isWhole_whole _) coM (Memref.isWhole_whole _) cc0_scratch4 cc0_scratch5 cc0_scratch6 cc0_scratch7) (fun _ => bodyPost m ρ c) := by
  unfold bodyPre Φ₀ start Dat.owesAt Pipeline.owesWithin
  iintro ⟨⟨⟨⟨%K, #HR⟩, Hpl, Htk, Hdu, #Hlev⟩, Hscr⟩, ⟨%W, %hW, HO⟩, ⟨%d0, %g0, %hg0, Hx⟩, ⟨%d1, %g1, %hg1, Hd⟩, ⟨%d2, %g2, %hg2, Ho⟩⟩
  have hx : g0 = xs m c := by rw [hg0]; unfold Dat.before; rw [if_pos (fetch0_0 t₀)]; rfl
  have hd : g1 = ds m c := by rw [hg1]; unfold Dat.before; rw [if_pos (fetch0_1 t₀)]; rfl
  subst hx hd
  iapply (run_body m hf K c g2 (fun _ => bodyPost m ρ c)) $$ [HO Hpl Htk Hdu Hscr Hx Hd Ho]
  · isplitr; · iexact HR
    isplitr; · iexact Hlev
    isplitl [HO]; · unfold Ow; iexists W; iexact HO
    isplitl [Hpl]; · iexact Hpl
    isplitl [Hdu]; · iexact Hdu
    isplitl [Htk]; · iexact Htk
    isplitl [Hscr]; · iexact Hscr
    isplitl [Hx]; · iexact Hx
    isplitl [Hd] <;> iassumption
  unfold Ow
  iintro ⟨⟨%W', HO⟩, Hsp, Hscr, Hx, Hd, Ho⟩
  unfold bodyPost Φ₁ Dat.owesAt Pipeline.owesWithin
  isplitl [Hsp Hscr]
  · isplitl [Hsp] <;> iassumption
  isplitl [HO]
  · iexists W'
    isplitr; · ipureintro; exact fun _ _ => Or.inl trivial
    iexact HO
  isplitl [Hx]
  · iexists _; isplitr; · (ipureintro; rfl)
    iexact Hx
  isplitl [Hd]
  · iexists _; isplitr; · (ipureintro; rfl)
    iexact Hd
  iexists _; isplitr; · (ipureintro; rfl)
  iexact Ho

set_option maxRecDepth 4000 in
theorem body_obligation (hf : Fit m) (c : Dev nD) : BodyObligation (dats (F := F) m ρ 0 c) (defs₀ (F := F)) 𝒱₀ () Set.univ := fun t => by
  rw [point_eq t]
  rw [bigSep_W0, bigSep_W0]
  simp only [owns_whole_eq]
  exact sound_body m ρ hf c

end Cert.Exchange

end
-- ==== Proof.Run.lean ====
/-
# The launch

The tokens are minted and dealt to the devices that pay with them, the cells' invariants allocated, the kernels run.
-/
module

public import proofs.«01_k».proof.Proof.Stage
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

local notation "𝕄" => MT nD τ sig Unit (Elt F) ℕ UU ℕ

variable (ρ : Dev nD → PrngReg)

/-! ## Cells and tokens -/

/-- The kernel's own semaphores. -/
abbrev osem : Fin 4 → SemLoc sig := fun k => csem k.succ
theorem ownSemFacts : Pipeline.OwnSemFacts cfg0.spec osem := by decide

theorem share_eq (c : Dev nD) (w : Fin cfg0.W) : (dats m ρ 0 c).share w = fullShare := by unfold Dat.share; split <;> rfl

theorem cell_inj {c c' : Dev nD} {k k' : Fin 5} (h : cell c k = cell c' k') : c = c' ∧ k = k' :=
  ⟨Fin.ext (congrArg (fun g : GSem nD τ sig => g.1.1.val) h), csem_injective (congrArg Prod.snd h)⟩

abbrev kcell (p : Dev nD × Fin 5) : GSem nD τ sig := cell p.1 p.2
theorem kcell_injective : Function.Injective kcell := fun p p' h => Prod.ext (cell_inj h).1 (cell_inj h).2
def ringCells : Finset (GSem nD τ sig) := Finset.univ.map ⟨kcell, kcell_injective⟩

/-- A contribution by its payer: the payer, the kind, the peer and the number. -/
abbrev Tk : Type := Σ _ : Dev nD × Fin 5, Du
/-- The token of it. -/
def tokOf (x : Tk) : GSem nD τ sig × ℕ × Du :=
  if x.1.2 = 1 ∨ x.1.2 = 3 then (cell x.1.1 x.1.2, 0, x.2) else (cell x.2.1 x.1.2, 0, ⟨x.1.1, x.2.2⟩)

theorem tokOf_injective : Function.Injective tokOf := by
  rintro ⟨⟨c, k⟩, ⟨j, n⟩⟩ ⟨⟨c', k'⟩, ⟨j', n'⟩⟩ h
  have hk : k = k' := by
    have := congrArg (fun y : GSem nD τ sig × ℕ × Du => y.1.2) h
    unfold tokOf at this
    dsimp only at this
    split at this <;> split at this <;> exact csem_injective this
  subst hk
  unfold tokOf at h
  dsimp only at h
  split at h
  · have h1 := (cell_inj (congrArg Prod.fst h)).1
    have h2 : (⟨j, n⟩ : Du) = ⟨j', n'⟩ := congrArg (fun y => y.2.2) h
    subst h1; rw [h2]
  · have h1 := (cell_inj (congrArg Prod.fst h)).1
    have h2 : (⟨c, n⟩ : Du) = ⟨c', n'⟩ := congrArg (fun y => y.2.2) h
    have h3 : c = c' := congrArg Sigma.fst h2
    subst h1 h3
    have h4 : n = n' := eq_of_heq (Sigma.mk.inj h2).2
    rw [h4]

/-- How many contributions of a kind device `c` makes to a peer. -/
def give (p : Dev nD × Fin 5) (i : Dev nD) : ℕ := if p.2 = 3 ∨ p.2 = 4 then nch m p.1 i else if i = p.1 then 0 else 1

def ringToks : Finset (GSem nD τ sig × ℕ × Du) := ((Finset.univ : Finset (Dev nD × Fin 5)).sigma fun p => pairs (give m p)).map ⟨tokOf, tokOf_injective⟩

def u₀ : UU :=
  (initOf (Pipeline.cells cfgs cellOf_inj) (Pipeline.launchToks cfgs cellOf_inj), initOf ringCells (ringToks m))

theorem bs_fin5 (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

/-- What the launch mints for device `c`. -/
def G (c : Dev nD) : sProp 𝕄 :=
  iprop((bigSep Finset.univ fun k : Fin 5 => roundState ER (rd m) (cell c k) 0)
    ∗ (bigSep Finset.univ fun k : Fin 5 => iprop(atPos ER (cell c k) 0 ∅ 0 ∗ reached ER (cell c k) 0)) ∗ payToks m c)
/-- What the kernels start from. -/
def G' (c : Dev nD) : sProp 𝕄 := iprop((∃ K, recs m K) ∗ places c ∗ payToks m c)

theorem toks_eq : (bigSep (ringToks m) (fun x => (dutyTok ER x.1 x.2.1 x.2.2 : sProp 𝕄))) = bigSep Finset.univ fun c : Dev nD => payToks m c := by
  unfold ringToks
  rw [bs_map, Pipeline.bigSep_sigma, bigSep_univ_prod]
  refine bs_congr fun c _ => ?_
  rw [bs_fin5]
  have h0 := bs_ones (F := F) c (fun d : Du => (dutyTok ER (cell d.1 0) 0 (⟨c, d.2⟩ : Du) : sProp 𝕄))
  have h1 := bs_ones (F := F) c (fun d : Du => (dutyTok ER (cell c 1) 0 d : sProp 𝕄))
  have h2 := bs_ones (F := F) c (fun d : Du => (dutyTok ER (cell d.1 2) 0 (⟨c, d.2⟩ : Du) : sProp 𝕄))
  unfold payToks
  rw [← h0, ← h1, ← h2]
  rfl

theorem fund_ring : BI.own (ER (initOf ringCells (ringToks m))) ⊢ (|==> bigSep Finset.univ (G m) : sProp 𝕄) := by
  have hX (Φ : GSem nD τ sig → sProp 𝕄) : bigSep ringCells Φ = bigSep Finset.univ fun c : Dev nD => bigSep Finset.univ fun k : Fin 5 => Φ (cell c k) := by
    unfold ringCells; rw [bs_map, bigSep_univ_prod]; rfl
  iintro HX
  imod (Rounds.fund ER (rd m) ringCells (ringToks m)) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq (toks_eq m)) $$ Htok
  unfold G; simp only [bs_sep]
  isplitl [Hst']; · iexact Hst'
  isplitl [Hat' Hr']
  · isplitl [Hat'] <;> iassumption
  iexact Htok'

/-! ## The cells' invariants -/

theorem ownSems0_eq (c : Dev nD) : (Pipeline.ownSems0 (Ix := Unit) (Name := ℕ) (U := UU) (Lvl := ℕ) (Val := Elt F) (τ := τ) osem c : sProp 𝕄)
    = iprop(semVal (cell c 1) 0 ∗ semVal (cell c 2) 0 ∗ semVal (cell c 3) 0 ∗ semVal (cell c 4) 0) := by
  rw [Pipeline.ownSems0_eq_of_list c osem [0, 1, 2, 3] (by decide) (by decide)]; rfl
theorem unscopedSems0_eq (c : Dev nD) : (unscopedSems0 c : sProp 𝕄) = semVal (cell c 0) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (cell c k) 0 : sProp 𝕄) := by
  rw [ownSems0_eq, unscopedSems0_eq, bs_fin5]
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (cell c k)))
          ∗ (bigSep Finset.univ fun k => iprop(atPos ER (cell c k) 0 ∅ 0 ∗ reached ER (cell c k) 0)) ∗ payToks m c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (cell c k) 0) ∗ bigSep Finset.univ fun k : Fin 5 => roundState ER (rd m) (cell c k) 0)
      ⊢ (|={Set.univ}=> bigSep Finset.univ fun k => iprop(∃ κ : ℕ, cellInv ER (rd m) κ (cell c k)) : sProp 𝕄) from by
        rw [← bs_sep]
        exact (bs_mono fun k _ => (Rounds.body_intro ER (rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Fin 5 → ℕ) (c : Dev nD) : iprop(recs m K ∗ (places c ∗ payToks m c)) ⊢ G' m c := by
  unfold G'
  iintro ⟨#HR, Hp, Ht⟩
  isplitr
  · iexists K; iexact HR
  isplitl [Hp] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bs_sep]; exact bs_mono h)

theorem regroup :
    (bigSep Finset.univ fun c : Dev nD => iprop((bigSep Finset.univ fun k => iprop(∃ κ : ℕ, cellInv ER (rd m) κ (cell c k)))
          ∗ (bigSep Finset.univ fun k => iprop(atPos ER (cell c k) 0 ∅ 0 ∗ reached ER (cell c k) 0)) ∗ payToks m c) : sProp 𝕄)
      ⊢ bigSep Finset.univ (G' m) := by
  rw [bs_sep, bs_sep, ← bigSep_univ_prod (fun ck : Dev nD × Fin 5 => iprop(∃ κ : ℕ, cellInv ER (rd m) κ (kcell ck))),
    bs_congr (s := Finset.univ) (fun (c : Dev nD) _ => bs_sep Finset.univ (fun k : Fin 5 => (atPos ER (cell c k) 0 ∅ 0 : sProp 𝕄)) (fun k => reached ER (cell c k) 0)),
    bs_sep, ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (rd m) κ (kcell ck) : sProp 𝕄))) $$ HI
  icases HK with ⟨%K, #HI⟩
  iapply (with_persistent (R := recs m K) fun c _ => ghost_intro m K c)
  isplitr
  · unfold recs
    iapply (Entails.of_eq (bs_sep Finset.univ (fun p : Dev nD × Fin 5 => (cellInv ER (rd m) (K p) (cell p.1 p.2) : sProp 𝕄)) (fun p => reached ER (cell p.1 p.2) 0)).symm)
    isplitl; · iexact HI
    iexact HR
  · iapply ((Entails.of_eq (bs_sep Finset.univ (fun c : Dev nD => bigSep Finset.univ fun k : Fin 5 => (atPos ER (cell c k) 0 ∅ 0 : sProp 𝕄)) (payToks m)).symm).trans
      (bs_mono fun c _ => show _ ⊢ iprop(places c ∗ payToks m c) from Entails.of_eq (by unfold places; rw [bs_fin5])))
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bs_mono fun c _ => core_alloc m c).trans (bigSep_fupd _ _)).trans (BI.fupd_mono (regroup m))

/-! ## The launch credit -/

theorem cell_eq_iff {a b : Dev nD} {k k' : Fin 5} : cell a k = cell b k' ↔ a = b ∧ k = k' :=
  ⟨cell_inj, fun h => by rw [h.1, h.2]⟩

/-- What signals or counts come to at a cell: something if it is one of theirs. -/
theorem sum_at (B : Finset (Dev nD)) (k k' : Fin 5) (n : ℕ) (c : Dev nD) :
    (∑ j ∈ B, (tallyAt (cell j k) () n : CellTallies nD τ sig Unit)) (cell c k') () = if k = k' ∧ c ∈ B then n else 0 := by
  rw [Finset.sum_apply, Finsupp.finset_sum_apply]
  rw [Finset.sum_congr rfl fun j _ => show (tallyAt (cell j k) () n : CellTallies nD τ sig Unit) (cell c k') () = if c = j then (if k = k' then n else 0) else 0 by
    rw [tallyAt_apply]
    by_cases h1 : c = j
    · subst h1
      by_cases h2 : k = k'
      · subst h2; rw [if_pos ⟨rfl, rfl⟩, if_pos rfl, if_pos rfl]
      · rw [if_neg (fun h => h2 (cell_inj h.1).2.symm), if_pos rfl, if_neg h2]
    · rw [if_neg (fun h => h1 (cell_inj h.1).1), if_neg h1]]
  rw [Finset.sum_ite_eq]
  by_cases h1 : c ∈ B <;> by_cases h2 : k = k' <;> simp [h1, h2]

/-- What chunks come to at a cell. -/
theorem chunks_at (w : Dev nD → ℕ) (n : ℕ) (c : Dev nD) (k' : Fin 5) :
    (∑ d ∈ pairs w, (tallyAt (cell d.1 4) () n : CellTallies nD τ sig Unit)) (cell c k') () = if k' = 4 then w c * n else 0 := by
  rw [Finset.sum_apply, Finsupp.finset_sum_apply]
  unfold pairs
  rw [Finset.sum_sigma]
  rw [Finset.sum_congr rfl fun i _ => Finset.sum_congr rfl fun t _ => show (tallyAt (cell i 4) () n : CellTallies nD τ sig Unit) (cell c k') () = if c = i then (if k' = 4 then n else 0) else 0 by
    rw [tallyAt_apply]
    by_cases h1 : c = i
    · subst h1
      by_cases h2 : k' = 4
      · subst h2; rw [if_pos ⟨rfl, rfl⟩, if_pos rfl, if_pos rfl]
      · rw [if_neg (fun h => h2 (cell_inj h.1).2), if_pos rfl, if_neg h2]
    · rw [if_neg (fun h => h1 (cell_inj h.1).1), if_neg h1]]
  rw [Finset.sum_congr rfl fun i _ => show (∑ _t ∈ Finset.range (w i), if c = i then (if k' = 4 then n else 0) else 0) = if c = i then (if k' = 4 then w i * n else 0) else 0 by
    rw [Finset.sum_const, Finset.card_range, smul_eq_mul]
    split
    · split <;> simp
    · simp]
  rw [Finset.sum_ite_eq, if_pos (Finset.mem_univ _)]

theorem owed_at (d c : Dev nD) (k : Fin 5) :
    O₀ m d (cell c k) () = (if (0 : Fin 5) = k ∧ c ∈ peers d then 1 else 0) + (if (2 : Fin 5) = k ∧ c ∈ peers d then Nc else 0) + (if k = 4 then nch m d c * Nd else 0) := by
  unfold O₀ owe
  rw [Pi.add_apply, Finsupp.add_apply, Pi.add_apply, Finsupp.add_apply, sum_at, sum_at, chunks_at]

theorem peer_sum (c : Dev nD) (n : ℕ) : (∑ d : Dev nD, if c ∈ peers d then n else 0) = 7 * n := by
  rw [Finset.sum_congr rfl fun d _ => show (if c ∈ peers d then n else 0) = (if d = c then 0 else 1) * n by
    unfold peers
    by_cases h : d = c
    · subst h; rw [if_neg (Finset.notMem_erase _ _), if_pos rfl, Nat.zero_mul]
    · rw [if_pos (Finset.mem_erase.mpr ⟨Ne.symm h, Finset.mem_univ _⟩), if_neg h, Nat.one_mul]]
  rw [← Finset.sum_mul]
  congr 1
  revert c; decide

theorem launch_at (c : Dev nD) (k : Fin 5) (n : ℕ) (h : ∑ d : Dev nD, O₀ m d (cell c k) () = n) :
    tallyOn (cell c k) (launchCredit (Pipeline.owing (O₀ m)) 0 (cell c k)) = (tallyAt (cell c k) () n : CellTallies nD τ sig Unit) := by
  unfold tallyAt; refine congrArg _ (Finsupp.ext fun u => ?_); cases u
  rw [Pipeline.launchCredit_owing, Finsupp.single_eq_same, h]

theorem launch_0 (c : Dev nD) : ∑ d : Dev nD, O₀ m d (cell c 0) () = 7 := by
  rw [Finset.sum_congr rfl fun d _ => show O₀ m d (cell c 0) () = if c ∈ peers d then 1 else 0 by
    rw [owed_at]; simp]
  rw [peer_sum]
theorem launch_2 (c : Dev nD) : ∑ d : Dev nD, O₀ m d (cell c 2) () = tot m 2 c * unit 2 := by
  rw [Finset.sum_congr rfl fun d _ => show O₀ m d (cell c 2) () = if c ∈ peers d then Nc else 0 by
    rw [owed_at, if_neg (fun h => absurd h.1 (by decide)), if_neg (show ¬((2 : Fin 5) = 4) by decide), Nat.zero_add, Nat.add_zero]
    by_cases h : c ∈ peers d
    · rw [if_pos ⟨rfl, h⟩, if_pos h]
    · rw [if_neg (fun h' => h h'.2), if_neg h]]
  rw [peer_sum, tot_cr m c]; rfl
theorem launch_4 (c : Dev nD) : ∑ d : Dev nD, O₀ m d (cell c 4) () = tot m 4 c * unit 4 := by
  rw [Finset.sum_congr rfl fun d _ => show O₀ m d (cell c 4) () = nch m d c * Nd by
    rw [owed_at, if_neg (fun h => absurd h.1 (by decide)), if_neg (fun h => absurd h.1 (by decide)), if_pos rfl, Nat.zero_add]]
  rw [← Finset.sum_mul]; rfl

theorem creds (c : Dev nD) : (Pipeline.launchCred (O₀ m) c : sProp 𝕄) ⊢ dues m c := by
  unfold Pipeline.launchCred dues
  rw [bs_univ (csem 0), show tallyOn ((c : Thread nD τ), csem 0) _ = _ from launch_at m c 0 7 (launch_0 m c),
    bs_erase (i := csem 2) (Finset.mem_erase.mpr ⟨by decide, Finset.mem_univ _⟩),
    show tallyOn ((c : Thread nD τ), csem 2) _ = _ from launch_at m c 2 _ (launch_2 m c),
    bs_erase (i := csem 4) (Finset.mem_erase.mpr ⟨by decide, Finset.mem_erase.mpr ⟨by decide, Finset.mem_univ _⟩⟩),
    show tallyOn ((c : Thread nD τ), csem 4) _ = _ from launch_at m c 4 _ (launch_4 m c)]
  iintro ⟨H0, H2, H4, -⟩
  isplitl [H0]; · iexact H0
  isplitl [H2] <;> iassumption

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (O₀ m) c ∗ prngReg c (ρ c) ∗ G' m c)
      ⊢ |={Set.univ}=> iprop(start m c ∗ emp) := by
  unfold start G'
  iintro ⟨-, Hlev, Hcr, -, HR, Hp, Ht⟩
  ihave Hc := (creds m c) $$ Hcr
  imodintro
  isplitl
  · isplitl [HR]; · iexact HR
    isplitl [Hp]; · iexact Hp
    isplitl [Ht]; · iexact Ht
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch spent
  iintro ⟨⟨H0, H⟩, Hr⟩
  isplitl [H0]; · iexact H0
  isplitl [H] <;> iassumption

/-- What a device owes at launch lies above the staging semaphores. -/
theorem owe_pos₀ {c : Dev nD} {g : GSem nD τ sig} {u : Unit} (h : 0 < O₀ m c g u) : ∃ j : Dev nD, g = cell j 0 ∨ g = cell j 2 ∨ g = cell j 4 := by
  unfold O₀ owe at h
  rw [Pi.add_apply, Finsupp.add_apply, Pi.add_apply, Finsupp.add_apply, Finset.sum_apply, Finset.sum_apply, Finset.sum_apply,
    Finsupp.finset_sum_apply, Finsupp.finset_sum_apply, Finsupp.finset_sum_apply] at h
  by_contra hn
  rw [not_exists] at hn
  rw [Finset.sum_eq_zero fun j _ => by rw [tallyAt_apply, if_neg (fun e => hn j (Or.inl e.1))],
    Finset.sum_eq_zero fun j _ => by rw [tallyAt_apply, if_neg (fun e => hn j (Or.inr (Or.inl e.1)))],
    Finset.sum_eq_zero fun d _ => by rw [tallyAt_apply, if_neg (fun e => hn d.1 (Or.inr (Or.inr e.1)))]] at h
  exact Nat.lt_irrefl 0 h

theorem mayWait_stage (c : Dev nD) (q : SemLoc sig) (hq : kindOf q = none) (O : CellTallies nD τ sig Unit) (hO : O = O₀ m c ∨ O = 0) :
    (levAts L lv : sProp 𝕄) ⊢ MayWait (c : Thread nD τ) q () O := by
  have hne (k : Fin 5) : q ≠ csem k := fun h => by rw [h, kindOf_csem] at hq; cases hq
  rcases hO with rfl | rfl
  · refine MayOwe.of_cut (L := L) (lev := lv) 0 (fun p hp => by rw [Finset.mem_singleton.mp hp, L_tc]; exact Finset.mem_singleton_self _)
      (fun g u hg => by obtain ⟨j, rfl | rfl | rfl⟩ := owe_pos₀ m hg <;> exact Finset.mem_singleton_self _)
      (fun p hp => by
        rw [Finset.mem_singleton.mp hp]; dsimp only [lv]
        rw [if_neg (hne 0), if_neg (fun h => h.elim (hne 2) (hne 4))])
      (fun g u hg => by
        obtain ⟨j, rfl | rfl | rfl⟩ := owe_pos₀ m hg
        · rw [lv_0]; decide
        · rw [lv_2]; decide
        · rw [lv_4]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage m c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, whose counts fit, for any float values and from any memory with zero counters: every weakly fair
    execution terminates, with every device's arrays at the computed contents and every counter at zero. -/
theorem run_main (hf : Fit m) : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hf) (hne := fun w => by fin_cases w <;> exact Nat.succ_pos _) (harr := arr_whole0) (hstage := stage_whole0) (hshare := share_eq m ρ)
    (hdistinct := winFacts0.arr_inj)
    (O₀ := O₀ m) (howed₀ := fun _ => rfl) (howedN := fun _ => rfl)
    (L := L) (lv := lv) (hL := L_of_ne) (hwaits := waits m ρ)
    (G := G m) (G' := G' m) (u₀ := u₀ m)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs hold what they held; -/
theorem finalA_in0 (c : Dev nD) : finalA m ρ c (0 : Fin 3) = m ((c : Thread nD τ).loc main_arg0) :=
  (dats (F := F) m ρ 0 c).arrAt_in (0 : Fin 3) rfl _
theorem finalA_in1 (c : Dev nD) : finalA m ρ c (1 : Fin 3) = m ((c : Thread nD τ).loc main_arg1) :=
  (dats (F := F) m ρ 0 c).arrAt_in (1 : Fin 3) rfl _

end Cert.Exchange

end
-- ==== Proof.Counts.lean ====
/-
# The counts, and what the precondition says of them

Device `c` sends row `t` of its block to the device its word `dw c t` names.  The table of counts it computes holds, in
row `j`, the number of its rows whose word is `j`.  Where the precondition holds no such number is above 192 and every
word names a device.
-/
module

public import proofs.«01_k».proof.Proof.Run
public import proofs.«01_k».proof.Defs
public import Idealize.ShloMosaic.Lib.IndicatorCount
public import Idealize.ShloMosaic.Lib.ValueLayout
public import Idealize.ShloMosaic.Lib.ValueLayoutCasts
public import Idealize.ShloMosaic.Lib.WordCmp

@[expose] public section

noncomputable section

namespace Cert.Exchange

open Cert.KernelIdeal Cert.KernelIdeal.Gen
open Idealize.ShloMosaic Idealize.ShloMosaic.TcCoe
open Idealize.SL.Sem
open Idealize.ShloMosaic.WordCmp

variable {F : FTy → Type} [FloatOps F]
variable (m : (ℓ : Loc nD τ sig) → Buf (Elt F) ℓ)

/-! ## The windows of the arguments are the arguments -/

/-- What a kernel is handed as `x` is the device's argument. -/
theorem xs_eq (c : Dev nD) : xs m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- What a kernel is handed as `dest` is the device's argument. -/
theorem ds_eq (c : Dev nD) : ds m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

variable (ρ : Dev nD → PrngReg)

/-- The result array ends holding what the kernel stored. -/
theorem finalA_out (c : Dev nD) : finalA m ρ c (2 : Fin 3) = outAt m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_2.blk (0 : Fin 1)).view.read (Elt F) (finalA m ρ c (2 : Fin 3)) = outAt m c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  rw [hr] at ho
  exact ho

/-! ## Counting -/

/-- The word of row `t` of device `c`. -/
def dw (c : Dev nD) (t : Fin 1024) : BitVec 32 := ds m c (ValueIdx.ix1 t)

/-- How many of device `c`'s rows have the word `j`. -/
def cnt (c j : Dev nD) : ℕ := (Finset.univ.filter fun t : Fin 1024 => dw m c t = BitVec.ofNat 32 j.val).card

theorem cnt_le (c j : Dev nD) : cnt m c j ≤ 1024 := (Finset.card_le_univ _).trans (by simp)

/-- A cast to the same shape changes nothing. -/
theorem cast_same {s : Shape} {α : Type} (x : s.Idx → α) (h : s.ShapeCasts s) : shapeCast s x h = x :=
  funext fun j => congrArg x (Shape.reshapeEquiv_self h j)

/-- A sum along one axis of indicators, read at an index, is the number of the ones. -/
theorem rowCount {s t : Shape} {a : Fin s.rank} (p : IVec s 1) (h : s.Reduces [a] t) (hw : 1 < 32)
    (hacc : (0#32 : BitVec 32) = IKind.add.neutral) (j : t.Idx) :
    multiReductionI .add [a] t (extui 32 p hw) 0#32 h hacc j
      = BitVec.ofNat 32 (Finset.univ.filter fun k : Fin (s.size a) => p (h.lift j k) = 1#1).card := by
  classical
  rw [multiReductionI_eq_fold]
  show (Finset.univ.filter fun i => h.drop i = j).fold IntOp.addi 0#32 _ = _
  rw [h.fold_filter_drop_single]
  exact IndicatorCount.fold_addi_setWidth_eq_card (fun k => p (h.lift j k)) _

/-- The one-hot compare at row `j`, column `t`. -/
theorem pay3_at (d : S1024.Idx → BitVec 32) (j : Fin 8) (t : Fin 1024) :
    k0_pay3 (F := F) d (ValueIdx.ix2 (n0 := 8) (n1 := 1024) j t) = IntOp.cmpi .eq (BitVec.ofNat 32 j.val) (d (ValueIdx.ix1 t)) := by
  have e : broadcastTo S8x1024 (k0_pay2 (F := F) d) broadcasts_S1x1024_S8x1024 (ValueIdx.ix2 (n0 := 8) (n1 := 1024) j t) = d (ValueIdx.ix1 t) := by
    rw [ValueIdx.broadcastTo_1b_ab_apply]
    refine (ValueIdx.shapeCast_a_1a_apply (shapeCast S1024 d shapeCasts_S1024_S1024) shapeCasts_S1024_S1x1024 0 t).trans ?_
    exact congrFun (cast_same d shapeCasts_S1024_S1024) _
  unfold k0_pay3
  rw [cmpi_at, e]
  congr 1
  show BitVec.ofNat 32 (0 * 8 + j.val) = _
  rw [Nat.zero_mul, Nat.zero_add]

/-- The count at row `j`. -/
theorem pay4_at (d : S1024.Idx → BitVec 32) (j : Fin 8) :
    k0_pay4 (F := F) d (ValueIdx.ix2 (n0 := 8) (n1 := 1) j 0)
      = BitVec.ofNat 32 (Finset.univ.filter fun t : Fin 1024 => d (ValueIdx.ix1 t) = BitVec.ofNat 32 j.val).card := by
  unfold k0_pay4
  rw [ValueIdx.shapeCast_a_a1_apply]
  refine (rowCount (k0_pay3 (F := F) d) reduces_S8x1024_S8 natLt_1_32 rfl (ValueIdx.ix1 j)).trans ?_
  refine congrArg (fun S : Finset (Fin 1024) => BitVec.ofNat 32 S.card) (Finset.filter_congr fun t _ => ?_)
  have hl : reduces_S8x1024_S8.lift (ValueIdx.ix1 j) t = ValueIdx.ix2 (n0 := 8) (n1 := 1024) j t := by
    funext a
    apply Fin.ext
    fin_cases a <;> rfl
  rw [hl]
  refine (Eq.congr_left (pay3_at (F := F) d j t)).trans ?_
  rw [cmpi_eq_eq, ofBool_decide_eq_one_iff]
  exact eq_comm

/-- The table of counts holds the counts. -/
theorem cntW_eq (c j : Dev nD) : cntW m c j = BitVec.ofNat 32 (cnt m c j) := by
  refine Eq.trans ?_ (pay4_at (F := F) (ds m c) j)
  have e6 : ∀ (v : IVec S8x1 32) (w : IVec S8x128 32), w (ValueIdx.ix2 (n0 := 8) (n1 := 128) j 0) = 0#32 →
      k0_pay6 v w 0#32 (ixc j 0) = v (ValueIdx.ix2 (n0 := 8) (n1 := 1) j 0) := by
    intro v w hw
    unfold k0_pay6
    rw [shapeCast_apply _ shapeCasts_S8x128_S8x1x128 (ixc j 0) (ValueIdx.ix2 (n0 := 8) (n1 := 128) j 0) (by
      rw [Shape.rowMajor_val_three, Shape.rowMajor_val_two]
      show j.val * 128 + 0 = (j.val * 1 + 0) * 128 + 0
      omega)]
    rw [select_at, cmpi_at, hw, broadcast_at, broadcastTo_apply _ broadcasts_S8x1_S8x128 _ (ValueIdx.ix2 (n0 := 8) (n1 := 1) j 0) (fun ax => by
      fin_cases ax <;> rfl), cast_same]
    rfl
  exact e6 _ _ rfl

/-! ## The precondition -/

/-- A host's sum along one axis of indicators, read at an index, is the number of the ones. -/
theorem hostCount {s t u : Shape} {a : Fin s.rank} (p : IVec s 1) (v : IVec u 32) (h' : s.ReducesTo [a] t) (h : s.Reduces [a] t)
    (hw : 1 < 32) (hu : 0 < u.numel) (hv : v (Shape.Idx.first hu) = 0#32) (j : t.Idx) :
    Host.reduce IntOp.addi (extui 32 p hw) v h' hu j
      = BitVec.ofNat 32 (Finset.univ.filter fun k : Fin (s.size a) => p (h.lift j k) = 1#1).card := by
  rw [Host.reduce_eq_fold_single IntOp.addi _ _ h' h hu, hv]
  exact IndicatorCount.fold_addi_setWidth_eq_card (fun k => p (h.lift j k)) _

theorem alike_reduces : Cert.Pre_fits_Kernel.S1024x1024.Reduces [1] Cert.Pre_fits_Kernel.S1024 := by decide

/-- Where the predicate holds of a block, each word of `dest` is below 8 and is that of at most 192 rows. -/
theorem fits_row [Cert.Pre_fits_Kernel.Facts] (x : FVec F Cert.Pre_fits_Kernel.S1024x512 .bf16) (d : S1024.Idx → BitVec 32)
    (h : Cert.Pre_fits_Kernel.fn (F := F) x d = fun _ => 1#1) (t : Fin 1024) :
    (d (ValueIdx.ix1 t)).toNat < 8
      ∧ (Finset.univ.filter fun k : Fin 1024 => d (ValueIdx.ix1 t) = d (ValueIdx.ix1 k)).card ≤ 192 := by
  have e := congrFun h (ValueIdx.ix1 t)
  have hc : Host.reduce IntOp.addi (extui 32 (cmpi .eq
        (broadcastInDim Cert.Pre_fits_Kernel.S1024x1024 ![0, 1] Cert.Pre_fits_Kernel.Facts.bcast_S1024x1_S1024x1024_0_1
          (broadcastInDim Cert.Pre_fits_Kernel.S1024x1 ![0] Cert.Pre_fits_Kernel.Facts.bcast_S1024_S1024x1_0 d))
        (broadcastInDim Cert.Pre_fits_Kernel.S1024x1024 ![0, 1] Cert.Pre_fits_Kernel.Facts.bcast_S1x1024_S1024x1024_0_1
          (broadcastInDim Cert.Pre_fits_Kernel.S1x1024 ![1] Cert.Pre_fits_Kernel.Facts.bcast_S1024_S1x1024_1 d)))
        Cert.Pre_fits_Kernel.Facts.natLt_1_32) (constantI Cert.Pre_fits_Kernel.S_ 32 0#32)
        Cert.Pre_fits_Kernel.Facts.reducesTo_S1024x1024_S1024_d1 Cert.Pre_fits_Kernel.Facts.h_S_ (ValueIdx.ix1 t)
      = BitVec.ofNat 32 (Finset.univ.filter fun k : Fin 1024 => d (ValueIdx.ix1 t) = d (ValueIdx.ix1 k)).card := by
    rw [hostCount _ _ _ alike_reduces _ _ rfl]
    refine congrArg (fun S : Finset (Fin 1024) => BitVec.ofNat 32 S.card) (Finset.filter_congr fun k _ => ?_)
    have hl : alike_reduces.lift (ValueIdx.ix1 t) k = ValueIdx.ix2 (n0 := 1024) (n1 := 1024) t k := by
      funext a
      apply Fin.ext
      fin_cases a <;> rfl
    rw [hl, cmpi_at, cmpi_eq_eq, ofBool_decide_eq_one_iff]
    have e1 : broadcastInDim Cert.Pre_fits_Kernel.S1024x1024 ![0, 1] Cert.Pre_fits_Kernel.Facts.bcast_S1024x1_S1024x1024_0_1
          (broadcastInDim Cert.Pre_fits_Kernel.S1024x1 ![0] Cert.Pre_fits_Kernel.Facts.bcast_S1024_S1024x1_0 d)
          (ValueIdx.ix2 (n0 := 1024) (n1 := 1024) t k) = d (ValueIdx.ix1 t) :=
      congrArg d (funext fun a => by fin_cases a; rfl)
    have e2 : broadcastInDim Cert.Pre_fits_Kernel.S1024x1024 ![0, 1] Cert.Pre_fits_Kernel.Facts.bcast_S1x1024_S1024x1024_0_1
          (broadcastInDim Cert.Pre_fits_Kernel.S1x1024 ![1] Cert.Pre_fits_Kernel.Facts.bcast_S1024_S1x1024_1 d)
          (ValueIdx.ix2 (n0 := 1024) (n1 := 1024) t k) = d (ValueIdx.ix1 k) :=
      congrArg d (funext fun a => by fin_cases a; rfl)
    rw [e1, e2]
  have e' : IntOp.andi (IntOp.andi (IntOp.cmpi .sge (d (ValueIdx.ix1 t)) 0#32) (IntOp.cmpi .slt (d (ValueIdx.ix1 t)) 8#32))
      (IntOp.cmpi .sle (BitVec.ofNat 32 (Finset.univ.filter fun k : Fin 1024 => d (ValueIdx.ix1 t) = d (ValueIdx.ix1 k)).card) 192#32) = 1#1 := by
    rw [← hc]
    exact e
  have hand : ∀ p q r : Bool, IntOp.andi (IntOp.andi (BitVec.ofBool p) (BitVec.ofBool q)) (BitVec.ofBool r) = 1#1 →
      p = true ∧ q = true ∧ r = true := by decide
  obtain ⟨h1, h2, h3⟩ := hand _ _ _ e'
  generalize hw : d (ValueIdx.ix1 t) = w at *
  have hle : (Finset.univ.filter fun k : Fin 1024 => w = d (ValueIdx.ix1 k)).card ≤ 1024 := (Finset.card_le_univ _).trans (by simp)
  generalize (Finset.univ.filter fun k : Fin 1024 => w = d (ValueIdx.ix1 k)).card = n at *
  constructor
  · simp only [BitVec.sle, BitVec.slt, decide_eq_true_eq] at h1 h2
    have a8 : (8#32 : BitVec 32).toInt = 8 := by decide
    have a0 : (0#32 : BitVec 32).toInt = 0 := by decide
    rw [a8] at h2
    rw [a0] at h1
    have := BitVec.toInt_eq_toNat_cond w
    have := w.isLt
    split_ifs at * <;> omega
  · simp only [BitVec.sle, decide_eq_true_eq] at h3
    have a8 : (192#32 : BitVec 32).toInt = 192 := by decide
    rw [a8, toInt_ofNat_of_lt (by omega)] at h3
    omega

/-- The predicate, of every device's block. -/
def Pre [Cert.Pre_fits_Kernel.Facts] : Prop := ∀ c : Dev nD,
  Cert.Pre_fits_Kernel.fn (F := F) (m ((c : Thread nD τ).loc main_arg0)) (m ((c : Thread nD τ).loc main_arg1)) = fun _ => 1#1

theorem dw_lt [Cert.Pre_fits_Kernel.Facts] (h : Pre m) (c : Dev nD) (t : Fin 1024) : (dw m c t).toNat < 8 := by
  unfold dw
  rw [ds_eq]
  exact (fits_row _ _ (h c) t).1

theorem cnt_fits [Cert.Pre_fits_Kernel.Facts] (h : Pre m) (c j : Dev nD) : cnt m c j ≤ 192 := by
  unfold cnt
  rcases Finset.eq_empty_or_nonempty (Finset.univ.filter fun t : Fin 1024 => dw m c t = BitVec.ofNat 32 j.val) with e | ⟨t, ht⟩
  · rw [e]
    exact Nat.zero_le _
  · have ht' := (Finset.mem_filter.1 ht).2
    refine le_trans (le_of_eq ?_) (fits_row _ _ (h c) t).2
    refine congrArg Finset.card (Finset.filter_congr fun k _ => ?_)
    rw [← ht']
    unfold dw
    rw [ds_eq]
    exact eq_comm

/-- Where the precondition holds the counts fit a slab. -/
theorem fit_of_pre [Cert.Pre_fits_Kernel.Facts] (h : Pre m) : Fit m := fun c j => by
  rw [cntW_eq, toNat_ofNat_of_lt (by have := cnt_le m c j; omega)]
  exact cnt_fits m h c j

end Cert.Exchange

end
-- ==== Proof.OneHot.lean ====
/-
# Sums against an indicator

Over the extended reals an indicator written as a float is one or zero, and a product of a matrix by indicators of which
at most one in a row is one picks a row: zero times anything is zero.
-/
module

public import proofs.«01_k».proof.Proof.Counts
public import Idealize.ShloMosaic.Lib.MatmulPlain

@[expose] public section

noncomputable section

namespace Cert.Exchange

open Cert.KernelIdeal Cert.KernelIdeal.Gen
open Idealize.ShloMosaic Idealize.ShloMosaic.TcCoe
open Idealize.ShloMosaic.WordCmp

/-- An indicator as a float. -/
theorem hot_at {s : Shape} (p : IVec s 1) (hw : 1 < 32) (hb : FTy.bits .bf16 < FTy.bits .f32) (i : s.Idx) :
    (truncf .bf16 (sitofp .f32 (extui 32 p hw) : FVec Ideal s .f32) hb : FVec Ideal s .bf16) i = if p i = 1#1 then (1 : EReal) else 0 := by
  show (((p i).setWidth 32 |>.toInt : ℝ) : EReal) = _
  generalize p i = b
  have hb2 : b = 0#1 ∨ b = 1#1 := by
    have := b.isLt
    rcases Nat.lt_or_ge b.toNat 1 with h | h
    · exact .inl (BitVec.eq_of_toNat_eq (by simp; omega))
    · exact .inr (BitVec.eq_of_toNat_eq (by simp; omega))
  rcases hb2 with rfl | rfl
  · simp
  · simp

/-- A sum against indicators, of which only `k₀`'s may be one. -/
theorem sum_pick {n : ℕ} (p : Fin n → Prop) [DecidablePred p] (f : Fin n → EReal) (k₀ : Fin n) (h : ∀ k, p k ↔ k = k₀) :
    ∑ k : Fin n, (if p k then (1 : EReal) else 0) * f k = f k₀ := by
  rw [Finset.sum_eq_single k₀]
  · rw [if_pos ((h k₀).mpr rfl), one_mul]
  · intro k _ hk
    rw [if_neg (fun e => hk ((h k).mp e)), zero_mul]
  · intro h'
    exact absurd (Finset.mem_univ _) h'

/-- A sum against indicators none of which is one. -/
theorem sum_none {n : ℕ} (p : Fin n → Prop) [DecidablePred p] (f : Fin n → EReal) (h : ∀ k, ¬ p k) :
    ∑ k : Fin n, (if p k then (1 : EReal) else 0) * f k = 0 :=
  Finset.sum_eq_zero fun k _ => by rw [if_neg (h k), zero_mul]

/-- A sum of products of indicators is a count. -/
theorem sum_count {n : ℕ} (p q : Fin n → Prop) [DecidablePred p] [DecidablePred q] :
    ∑ k : Fin n, (if p k then (1 : EReal) else 0) * (if q k then (1 : EReal) else 0)
      = (((Finset.univ.filter fun k => p k ∧ q k).card : ℝ) : EReal) := by
  have e : ∀ k : Fin n, (if p k then (1 : EReal) else 0) * (if q k then (1 : EReal) else 0) = if p k ∧ q k then (1 : EReal) else 0 := by
    intro k
    by_cases hp : p k <;> by_cases hq : q k <;> simp [hp, hq]
  rw [Finset.sum_congr rfl fun k _ => e k, Finset.sum_boole]
  norm_cast

/-- A count, rounded to a word. -/
theorem count_word (n : ℕ) (h : n < 2 ^ 31) : Ideal.fptosi 32 (((n : ℝ) : EReal)) = BitVec.ofNat 32 n := by
  unfold Ideal.fptosi
  rw [Ideal.toIntClamped_coe, if_pos (Nat.cast_nonneg n), Int.floor_natCast]
  rw [show max (-(2 ^ (32 - 1) : ℕ) : ℤ) (min (((2 ^ (32 - 1) : ℕ) : ℤ) - 1) (n : ℤ)) = (n : ℤ) by
    norm_num at h ⊢
    omega]
  exact BitVec.ofInt_natCast 32 n

/-- The product of a matrix of indicators with another matrix, into zeros. -/
theorem hot_matmul {M K N : ℕ} (p : IVec ⟨2, ![M, K]⟩ 1) (hw : 1 < 32) (hb : FTy.bits .bf16 < FTy.bits .f32)
    (x : FVec Ideal ⟨2, ![K, N]⟩ .bf16) (r : Fin M) (c : Fin N) :
    matmul (DotDims.plain M K N) none (truncf .bf16 (sitofp .f32 (extui 32 p hw) : FVec Ideal ⟨2, ![M, K]⟩ .f32) hb) x
        (constant ⟨2, ![M, N]⟩ .f32 0x00000000#32) (ValueIdx.ix2 r c)
      = ∑ k : Fin K, (if p (ValueIdx.ix2 r k) = 1#1 then (1 : EReal) else 0) * x (ValueIdx.ix2 k c) := by
  refine (Ideal.matmul_plain_apply none _ x _ r c).trans ?_
  have z : (constant ⟨2, ![M, N]⟩ .f32 0x00000000#32 : FVec Ideal ⟨2, ![M, N]⟩ .f32) (ValueIdx.ix2 r c) = 0 := Ideal.ofBits_zero_f32
  rw [z, zero_add]
  exact Finset.sum_congr rfl fun k _ => congrArg (· * x (ValueIdx.ix2 k c)) (hot_at p hw hb (ValueIdx.ix2 r k))

end Cert.Exchange
end
-- ==== Proof.Position.lean ====
/-
# Where a row goes

Row `t` of a device goes to the slot named by its word, at the place given by the number of earlier rows of that device
with the same word.  The kernel computes the number in floats, as a product with a strictly triangular matrix of
indicators; over the extended reals it is exact.
-/
module

public import proofs.«01_k».proof.Proof.OneHot

@[expose] public section

noncomputable section

namespace Cert.Exchange

open Cert.KernelIdeal Cert.KernelIdeal.Gen
open Idealize.ShloMosaic Idealize.ShloMosaic.TcCoe
open Idealize.SL.Sem
open Idealize.ShloMosaic.WordCmp

/-- How many rows before `t` have `t`'s word. -/
def before (d : S1024.Idx → BitVec 32) (t : Fin 1024) : ℕ :=
  (Finset.univ.filter fun k : Fin 1024 => d (ValueIdx.ix1 k) = d (ValueIdx.ix1 t) ∧ k < t).card

theorem before_le (d : S1024.Idx → BitVec 32) (t : Fin 1024) : before d t ≤ 1024 := (Finset.card_le_univ _).trans (by simp)

/-- The indicators the kernel sums, at row `j`, column `k`. -/
theorem pay3_one (d : S1024.Idx → BitVec 32) (j : Fin 8) (k : Fin 1024) :
    k0_pay3 (F := Ideal) d (ValueIdx.ix2 (n0 := 8) (n1 := 1024) j k) = 1#1 ↔ d (ValueIdx.ix1 k) = BitVec.ofNat 32 j.val := by
  refine (Eq.congr_left (pay3_at (F := Ideal) d j k)).trans ?_
  rw [cmpi_eq_eq, ofBool_decide_eq_one_iff]
  exact eq_comm

/-- The strictly triangular matrix of indicators. -/
theorem tri_one (k t : Fin 1024) :
    cmpi .slt (iota .tc S1024x1024 32 [0] iota_S1024x1024_d0_w32) (iota .tc S1024x1024 32 [1] iota_S1024x1024_d1_w32)
      (ValueIdx.ix2 (n0 := 1024) (n1 := 1024) k t) = 1#1 ↔ k < t := by
  show IntOp.cmpi .slt (BitVec.ofNat 32 (0 * 1024 + k.val)) (BitVec.ofNat 32 (0 * 1024 + t.val)) = 1#1 ↔ k < t
  rw [Nat.zero_mul, Nat.zero_add, Nat.zero_add,
    cmpi_slt_ofNat_eq_one_iff (by have := k.isLt; norm_num; omega) (by have := t.isLt; norm_num; omega)]
  exact Iff.rfl

/-- The word of the place row `t` is given. -/
theorem pay5_at (d : S1024.Idx → BitVec 32) (t : Fin 1024) (hd : (d (ValueIdx.ix1 t)).toNat < 8) :
    k0_pay5 (F := Ideal) d (ValueIdx.ix2 (n0 := 1) (n1 := 1024) 0 t)
      = BitVec.ofNat 32 ((d (ValueIdx.ix1 t)).toNat * 192 + before d t) := by
  classical
  have e2 : k0_pay2 (F := Ideal) d (ValueIdx.ix2 (n0 := 1) (n1 := 1024) 0 t) = d (ValueIdx.ix1 t) := by
    refine (ValueIdx.shapeCast_a_1a_apply (shapeCast S1024 d shapeCasts_S1024_S1024) shapeCasts_S1024_S1x1024 0 t).trans ?_
    exact congrFun (cast_same d shapeCasts_S1024_S1024) _
  unfold k0_pay5
  show IntOp.addi (IntOp.muli (k0_pay2 (F := Ideal) d (ValueIdx.ix2 (n0 := 1) (n1 := 1024) 0 t)) 192#32) (Ideal.fptosi 32 _) = _
  rw [e2]
  rw [ValueIdx.shapeCast_a_1a_apply]
  have hs : ∀ (v : FVec Ideal S8x1024 .f32), (∀ j : Fin 8, v (ValueIdx.ix2 (n0 := 8) (n1 := 1024) j t)
        = if j = ⟨(d (ValueIdx.ix1 t)).toNat, hd⟩ then (((before d t : ℕ) : ℝ) : EReal) else 0) →
      multiReduction .add [0] S1024 v 0x00000000#32 reduces_S8x1024_S1024 (.inl rfl) rfl (ValueIdx.ix1 t) = (((before d t : ℕ) : ℝ) : EReal) := by
    intro v hv
    refine (Ideal.multiReduction_add_single v _ reduces_S8x1024_S1024 (.inl rfl) rfl (ValueIdx.ix1 t)).trans ?_
    have hl : ∀ j : Fin 8, reduces_S8x1024_S1024.lift (ValueIdx.ix1 t) j = ValueIdx.ix2 (n0 := 8) (n1 := 1024) j t := fun j => by
      funext a
      apply Fin.ext
      fin_cases a <;> rfl
    show (∑ j : Fin 8, v (reduces_S8x1024_S1024.lift (ValueIdx.ix1 t) j)) = _
    rw [Finset.sum_congr rfl fun j _ => (congrArg v (hl j)).trans (hv j), Finset.sum_ite_eq' Finset.univ _ fun _ => (((before d t : ℕ) : ℝ) : EReal)]
    exact if_pos (Finset.mem_univ _)
  rw [hs _ ?_]
  · rw [count_word _ (by have := before_le d t; omega)]
    have hw : d (ValueIdx.ix1 t) = BitVec.ofNat 32 (d (ValueIdx.ix1 t)).toNat := by simp
    conv_lhs => rw [hw]
    rw [show (192#32 : BitVec 32) = BitVec.ofNat 32 192 from rfl, muli_ofNat, addi_ofNat]
  · intro j
    show FloatOps.mulf (F := Ideal) (φ := .f32) _ _ = _
    have h1 := hot_matmul (k0_pay3 (F := Ideal) d) natLt_1_32 bitsLt_bf16_f32
      (truncf .bf16 (sitofp .f32 (extui 32 (cmpi .slt (iota .tc S1024x1024 32 [0] iota_S1024x1024_d0_w32) (iota .tc S1024x1024 32 [1] iota_S1024x1024_d1_w32)) natLt_1_32) : FVec Ideal S1024x1024 .f32) bitsLt_bf16_f32) j t
    have h2 := hot_at (k0_pay3 (F := Ideal) d) natLt_1_32 bitsLt_bf16_f32 (ValueIdx.ix2 (n0 := 8) (n1 := 1024) j t)
    refine (congrArg₂ (fun a b : EReal => a * b) h1 h2).trans ?_
    have h3 : ∀ k : Fin 1024, (if k0_pay3 (F := Ideal) d (ValueIdx.ix2 (n0 := 8) (n1 := 1024) j k) = 1#1 then (1 : EReal) else 0)
        * (truncf .bf16 (sitofp .f32 (extui 32 (cmpi .slt (iota .tc S1024x1024 32 [0] iota_S1024x1024_d0_w32) (iota .tc S1024x1024 32 [1] iota_S1024x1024_d1_w32)) natLt_1_32) : FVec Ideal S1024x1024 .f32) bitsLt_bf16_f32) (ValueIdx.ix2 (n0 := 1024) (n1 := 1024) k t)
        = (if d (ValueIdx.ix1 k) = BitVec.ofNat 32 j.val then (1 : EReal) else 0) * (if k < t then (1 : EReal) else 0) := fun k => by
      refine congrArg₂ (fun a b : EReal => a * b) (if_congr (pay3_one d j k) rfl rfl) ?_
      exact (hot_at _ natLt_1_32 bitsLt_bf16_f32 _).trans (if_congr (tri_one k t) rfl rfl)
    rw [if_congr (pay3_one d j t) rfl rfl]
    refine (congrArg (fun a : EReal => a * (if d (ValueIdx.ix1 t) = BitVec.ofNat 32 j.val then (1 : EReal) else 0)) ((Finset.sum_congr rfl fun k _ => h3 k).trans (sum_count _ _))).trans ?_
    by_cases hj : j = ⟨(d (ValueIdx.ix1 t)).toNat, hd⟩
    · have hw : BitVec.ofNat 32 j.val = d (ValueIdx.ix1 t) := by rw [hj]; simp
      rw [if_pos hj, hw, if_pos rfl, mul_one]
      rfl
    · rw [if_neg hj, if_neg, mul_zero]
      intro e
      apply hj
      apply Fin.ext
      show j.val = (d (ValueIdx.ix1 t)).toNat
      rw [e, toNat_ofNat_of_lt (by have := j.isLt; norm_num; omega)]

end Cert.Exchange
end
-- ==== Proof.Slabs.lean ====
/-
# The slabs

Place `s` of the slab a device sends to device `j` holds its row of word `j` that has `s` rows of that word before it, and
zeros where there is none.
-/
module

public import proofs.«01_k».proof.Proof.Position

@[expose] public section

noncomputable section

namespace Cert.Exchange

open Cert.KernelIdeal Cert.KernelIdeal.Gen
open Idealize.ShloMosaic Idealize.ShloMosaic.TcCoe
open Idealize.SL.Sem
open Idealize.ShloMosaic.WordCmp

/-- The row of word `j` that has `s` such rows before it, or zero: column `e`. -/
def picked (d : S1024.Idx → BitVec 32) (x : FVec Ideal S1024x512 .bf16) (j s : ℕ) (e : Fin 512) : EReal :=
  ∑ k : Fin 1024, (if d (ValueIdx.ix1 k) = BitVec.ofNat 32 j ∧ before d k = s then (1 : EReal) else 0) * x (ValueIdx.ix2 (n0 := 1024) (n1 := 512) k e)

/-- A row has fewer rows of its word before it than there are. -/
theorem before_lt (d : S1024.Idx → BitVec 32) (k : Fin 1024) (j : ℕ) (hk : d (ValueIdx.ix1 k) = BitVec.ofNat 32 j) :
    before d k < (Finset.univ.filter fun t : Fin 1024 => d (ValueIdx.ix1 t) = BitVec.ofNat 32 j).card := by
  refine Finset.card_lt_card ⟨fun t ht => ?_, fun h => ?_⟩
  · have := (Finset.mem_filter.mp ht).2
    exact Finset.mem_filter.mpr ⟨Finset.mem_univ _, this.1.trans hk⟩
  · have := (Finset.mem_filter.mp (h (Finset.mem_filter.mpr ⟨Finset.mem_univ k, hk⟩))).2
    exact absurd this.2 (lt_irrefl k)

/-- Past the last row of its word there is none. -/
theorem picked_none (d : S1024.Idx → BitVec 32) (x : FVec Ideal S1024x512 .bf16) (j s : ℕ) (e : Fin 512)
    (h : (Finset.univ.filter fun t : Fin 1024 => d (ValueIdx.ix1 t) = BitVec.ofNat 32 j).card ≤ s) : picked d x j s e = 0 :=
  sum_none _ _ fun k hk => absurd (before_lt d k j hk.1) (by omega)

/-- Of two rows of one word the earlier has fewer before it. -/
theorem before_mono (d : S1024.Idx → BitVec 32) {k t : Fin 1024} (h : d (ValueIdx.ix1 k) = d (ValueIdx.ix1 t)) (hkt : k < t) :
    before d k < before d t := by
  refine Finset.card_lt_card ⟨fun q hq => ?_, fun hs => ?_⟩
  · have := (Finset.mem_filter.mp hq).2
    exact Finset.mem_filter.mpr ⟨Finset.mem_univ _, this.1.trans h, this.2.trans hkt⟩
  · have := (Finset.mem_filter.mp (hs (Finset.mem_filter.mpr ⟨Finset.mem_univ k, h, hkt⟩))).2
    exact absurd this.2 (lt_irrefl k)

/-- Where there is one, it is picked. -/
theorem picked_row (d : S1024.Idx → BitVec 32) (x : FVec Ideal S1024x512 .bf16) (j : ℕ) (t : Fin 1024) (e : Fin 512)
    (h : d (ValueIdx.ix1 t) = BitVec.ofNat 32 j) : picked d x j (before d t) e = x (ValueIdx.ix2 (n0 := 1024) (n1 := 512) t e) := by
  refine sum_pick _ (fun k => x (ValueIdx.ix2 (n0 := 1024) (n1 := 512) k e)) t fun k => ⟨fun hk => ?_, fun hk => by subst hk; exact ⟨h, rfl⟩⟩
  rcases lt_trichotomy k t with hl | he | hl
  · exact absurd hk.2 (before_mono d (hk.1.trans h.symm) hl).ne
  · exact he
  · exact absurd hk.2.symm (before_mono d (h.trans hk.1.symm) hl).ne

/-- A slab, as the kernel computes each: of the places `o`, `o + 1`, … it holds the rows whose place is that. -/
def slabOf (o : BitVec 32) (v : IVec S1x1024 32) (x : FVec Ideal S1024x512 .bf16) : FVec Ideal S1x192x512 .bf16 :=
  shapeCast S1x192x512 (truncf .bf16 (matmul dot_S192x1024_S1024x512_S192x512_1_0_0_1_n_n none
    (truncf .bf16 (sitofp .f32 (extui 32 (cmpi .eq (addi (iota .tc S192x1024 32 [0] iota_S192x1024_d0_w32) (broadcast S192x1024 o))
      (broadcastTo S192x1024 v broadcasts_S1x1024_S192x1024)) natLt_1_32) : FVec Ideal S192x1024 .f32) bitsLt_bf16_f32) x
    (constant S192x512 .f32 0x00000000#32)) bitsLt_bf16_f32) shapeCasts_S192x512_S1x192x512

theorem slabOf_at (o : BitVec 32) (v : IVec S1x1024 32) (x : FVec Ideal S1024x512 .bf16) (s : Fin 192) (e : Fin 512) :
    slabOf o v x (ix1 s e) = ∑ k : Fin 1024,
      (if IntOp.addi (BitVec.ofNat 32 s.val) o = v (ValueIdx.ix2 (n0 := 1) (n1 := 1024) 0 k) then (1 : EReal) else 0)
        * x (ValueIdx.ix2 (n0 := 1024) (n1 := 512) k e) := by
  have hi : (ix1 s e : S1x192x512.Idx) = ValueIdx.ix3 (n0 := 1) (n1 := 192) (n2 := 512) 0 s e := by
    funext a
    apply Fin.ext
    fin_cases a <;> rfl
  rw [hi]
  unfold slabOf
  rw [ValueIdx.shapeCast_ab_1ab_apply]
  refine (hot_matmul _ natLt_1_32 bitsLt_bf16_f32 x s e).trans ?_
  refine Finset.sum_congr rfl fun k _ => congrArg (· * x (ValueIdx.ix2 (n0 := 1024) (n1 := 512) k e)) (if_congr ?_ rfl rfl)
  have e1 := ValueIdx.broadcastTo_1b_ab_apply v broadcasts_S1x1024_S192x1024 s k
  show IntOp.cmpi .eq (IntOp.addi (BitVec.ofNat 32 (0 * 192 + s.val)) o) _ = 1#1 ↔ _
  rw [Nat.zero_mul, Nat.zero_add, cmpi_eq_eq, ofBool_decide_eq_one_iff]
  exact Eq.congr_right e1

variable (m : (ℓ : Loc nD τ sig) → Buf (Elt Ideal) ℓ)

theorem slab_eq (c : Dev nD) (j : Fin 8) : slab m c j = slabOf (BitVec.ofNat 32 (192 * j.val)) (posW m c) (xs m c) := by
  have h7 : k0_pay7 (F := Ideal) (xs m c) = xs m c := cast_same _ _
  have e : slab m c j = slabOf (BitVec.ofNat 32 (192 * j.val)) (posW m c) (k0_pay7 (F := Ideal) (xs m c)) := by
    fin_cases j <;> rfl
  rw [e, h7]

/-- The slab for device `j`, at a place. -/
theorem SL_at (hd : ∀ c t, (dw m c t).toNat < 8) (hc : ∀ c j, cnt m c j ≤ 192) (c : Dev nD) (j : Fin 8) (s : Fin 192) (e : Fin 512) :
    SL m c (ix j s e) = picked (ds m c) (xs m c) j.val s.val e := by
  have e0 : SL m c (ix j s e) = slab m c j (ix1 s e) := rfl
  rw [e0, slab_eq, slabOf_at]
  refine Finset.sum_congr rfl fun k _ => congrArg (· * xs m c (ValueIdx.ix2 (n0 := 1024) (n1 := 512) k e)) (if_congr ?_ rfl rfl)
  have hb : before (ds m c) k < 192 := by
    have h1 := before_lt (ds m c) k (dw m c k).toNat (by simp [dw])
    have h2 := hc c ⟨(dw m c k).toNat, hd c k⟩
    unfold cnt at h2
    exact lt_of_lt_of_le h1 h2
  have e2 : posW m c (ValueIdx.ix2 (n0 := 1) (n1 := 1024) 0 k) = BitVec.ofNat 32 ((dw m c k).toNat * 192 + before (ds m c) k) :=
    pay5_at (ds m c) k (hd c k)
  rw [e2, addi_ofNat]
  have hk := hd c k
  have hs := s.isLt
  have hj := j.isLt
  have hw : ds m c (ValueIdx.ix1 k) = BitVec.ofNat 32 (dw m c k).toNat := by simp [dw]
  constructor
  · intro h
    have h' := congrArg BitVec.toNat h
    rw [toNat_ofNat_of_lt (by omega), toNat_ofNat_of_lt (by omega)] at h'
    rw [hw]
    have : (dw m c k).toNat = j.val := by omega
    exact ⟨by rw [this], by omega⟩
  · rintro ⟨h1, h2⟩
    have : (dw m c k).toNat = j.val := by
      show (ds m c (ValueIdx.ix1 k)).toNat = j.val
      rw [h1, toNat_ofNat_of_lt (by omega)]
    rw [this, h2]
    congr 1
    omega

/-- What device `c` has received of device `i`'s slab for it, at a place: places past the last row were never sent, and
    hold the zeros the device put there. -/
theorem ST_at (hd : ∀ c t, (dw m c t).toNat < 8) (hc : ∀ c j, cnt m c j ≤ 192) (c : Dev nD) (i : Fin 8) (s : Fin 192) (e : Fin 512) :
    ST m c (ix i s e) = picked (ds m i) (xs m i) c.val s.val e := by
  have hS : SL m i (ix c s e) = picked (ds m i) (xs m i) c.val s.val e := SL_at m hd hc i c s e
  have e0 : ST m c (ix i s e) = if i = c ∨ s.val < 16 * nch m i c then SL m i (ix c s e) else k0_pay1 (F := Ideal) (ix i s e) := rfl
  rw [e0]
  split_ifs with h
  · exact hS
  · rw [picked_none]
    · show Ideal.ofBits .bf16 0x0000#16 = 0
      simp [Ideal.ofBits, Ideal.ieee]
    · show cnt m i c ≤ s.val
      have hn : nch m i c = ((cntW m i c).toNat + 15) / 16 := if_neg (fun h' => h (.inl h'.symm))
      have hl := hc i c
      rw [cntW_eq, toNat_ofNat_of_lt (by omega)] at hn
      omega

end Cert.Exchange
end
-- ==== Proof.Select.lean ====
/-
# Which place a row of the result comes from

Row `r` of device `c`'s result comes from the last device `i` whose rows start at or before `r`, and from the place
`r` minus that start of what `i` sent.  The kernel finds `i` by counting the starts at or before `r`, and the start
by taking the greatest.
-/
module

public import proofs.«01_k».proof.Proof.Slabs

@[expose] public section

noncomputable section

namespace Cert.Exchange

open Cert.KernelIdeal Cert.KernelIdeal.Gen
open Idealize.ShloMosaic Idealize.ShloMosaic.TcCoe
open Idealize.SL.Sem
open Idealize.ShloMosaic.WordCmp

/-- One when row `r` is at or past `s`. -/
def ge (r s : BitVec 32) : BitVec 32 := (IntOp.cmpi .sge r s).setWidth 32

theorem ge_eq (r s : ℕ) (hr : r < 2 ^ 31) (hs : s < 2 ^ 31) :
    ge (BitVec.ofNat 32 r) (BitVec.ofNat 32 s) = BitVec.ofNat 32 (if s ≤ r then 1 else 0) := by
  unfold ge
  by_cases h : s ≤ r
  · rw [(cmpi_sge_ofNat_eq_one_iff (w := 32) hr hs).mpr h, if_pos h]
    rfl
  · rw [(cmpi_sge_ofNat_eq_zero_iff (w := 32) hr hs).mpr (by omega), if_neg h]
    rfl

/-- One step of the greatest start. -/
theorem max_step (b r s : ℕ) (hb : b < 2 ^ 31) (hr : r < 2 ^ 31) (hs : s < 2 ^ 31) :
    IntOp.maxsi (BitVec.ofNat 32 b) (IntOp.muli (ge (BitVec.ofNat 32 r) (BitVec.ofNat 32 s)) (BitVec.ofNat 32 s))
      = BitVec.ofNat 32 (max b (if s ≤ r then s else 0)) := by
  rw [ge_eq r s hr hs, muli_ofNat]
  have e : (if s ≤ r then 1 else 0) * s = if s ≤ r then s else 0 := by split_ifs <;> simp
  rw [e]
  have hq : (if s ≤ r then s else 0) < 2 ^ 31 := by split_ifs <;> omega
  generalize (if s ≤ r then s else 0) = q at hq
  unfold IntOp.maxsi
  have hi : (BitVec.ofNat 32 b).toInt = b := toInt_ofNat_of_lt (by simpa using hb)
  have hj : (BitVec.ofNat 32 q).toInt = q := toInt_ofNat_of_lt (by simpa using hq)
  simp only [BitVec.slt, BitVec.sle, hi, hj]
  rcases Nat.lt_or_ge b q with h | h
  · rw [max_eq_right h.le]
    split_ifs with h'
    · simp at h'; first | rfl | (exfalso; omega)
    · simp at h'; first | rfl | (exfalso; omega)
  · rw [max_eq_left h]
    split_ifs with h'
    · simp at h'; first | rfl | (congr 1; omega) | (exfalso; omega)
    · simp at h'; first | rfl | (congr 1; omega) | (exfalso; omega)

variable (m : (ℓ : Loc nD τ sig) → Buf (Elt Ideal) ℓ)

/-- Where device `i`'s rows start in device `c`'s result: after those of the devices before it. -/
def startOf (c : Dev nD) (i : ℕ) : ℕ := ∑ k : Fin 8, if k.val < i then cnt m k c else 0

theorem startOf_zero (c : Dev nD) : startOf m c 0 = 0 := by simp [startOf]

theorem startOf_succ (c : Dev nD) (i : Fin 8) : startOf m c (i.val + 1) = startOf m c i.val + cnt m i c := by
  unfold startOf
  have e : ∀ k : Fin 8, (if k.val < i.val + 1 then cnt m k c else 0) = (if k.val < i.val then cnt m k c else 0) + if k = i then cnt m k c else 0 := by
    intro k
    by_cases h : k = i
    · subst h; simp
    · have : k.val ≠ i.val := fun h' => h (Fin.ext h')
      rw [if_neg h]
      by_cases h2 : k.val < i.val
      · rw [if_pos h2, if_pos (by omega)]; rfl
      · rw [if_neg h2, if_neg (by omega)]
  rw [Finset.sum_congr rfl fun k _ => e k, Finset.sum_add_distrib, Finset.sum_ite_eq' Finset.univ i fun k => cnt m k c, if_pos (Finset.mem_univ _)]

theorem startOf_mono (c : Dev nD) {i j : ℕ} (h : i ≤ j) : startOf m c i ≤ startOf m c j :=
  Finset.sum_le_sum fun k _ => by split_ifs <;> omega

/-- Of eight starts in order, of which the first is zero: the number at or before `r` is one more than the last such, and
    the greatest such is that one's. -/
theorem last_start (s : ℕ → ℕ) (hs : ∀ i, s i ≤ s (i + 1)) (h0 : s 0 = 0) (r : ℕ) :
    ∃ i : Fin 8, s i.val ≤ r ∧ (∀ j : Fin 8, i < j → r < s j.val)
      ∧ (((((((0 + (if 0 ≤ r then 1 else 0)) + (if s 1 ≤ r then 1 else 0)) + (if s 2 ≤ r then 1 else 0)) + (if s 3 ≤ r then 1 else 0))
          + (if s 4 ≤ r then 1 else 0)) + (if s 5 ≤ r then 1 else 0)) + (if s 6 ≤ r then 1 else 0)) + (if s 7 ≤ r then 1 else 0) = i.val + 1
      ∧ max (max (max (max (max (max (max (max 0 (if 0 ≤ r then 0 else 0)) (if s 1 ≤ r then s 1 else 0)) (if s 2 ≤ r then s 2 else 0)) (if s 3 ≤ r then s 3 else 0))
          (if s 4 ≤ r then s 4 else 0)) (if s 5 ≤ r then s 5 else 0)) (if s 6 ≤ r then s 6 else 0)) (if s 7 ≤ r then s 7 else 0) = s i.val := by
  have h1 := hs 0; have h2 := hs 1; have h3 := hs 2; have h4 := hs 3; have h5 := hs 4; have h6 := hs 5; have h7 := hs 6
  norm_num at h1 h2 h3 h4 h5 h6 h7
  simp only [Nat.zero_le, if_true]
  by_cases c7 : s 7 ≤ r
  · have c1 : s 1 ≤ r := by omega
    have c2 : s 2 ≤ r := by omega
    have c3 : s 3 ≤ r := by omega
    have c4 : s 4 ≤ r := by omega
    have c5 : s 5 ≤ r := by omega
    have c6 : s 6 ≤ r := by omega
    refine ⟨7, by simpa using (show s 7 ≤ r by omega), fun j hj => ?_, ?_, ?_⟩
    · have := j.isLt; fin_cases j <;> first | exact absurd hj (by decide) | (simp only []; omega)
    · rw [if_pos c1, if_pos c2, if_pos c3, if_pos c4, if_pos c5, if_pos c6, if_pos c7]; rfl
    · rw [if_pos c1, if_pos c2, if_pos c3, if_pos c4, if_pos c5, if_pos c6, if_pos c7]; show _ = s 7; omega
  by_cases c6 : s 6 ≤ r
  · have c1 : s 1 ≤ r := by omega
    have c2 : s 2 ≤ r := by omega
    have c3 : s 3 ≤ r := by omega
    have c4 : s 4 ≤ r := by omega
    have c5 : s 5 ≤ r := by omega
    refine ⟨6, by simpa using (show s 6 ≤ r by omega), fun j hj => ?_, ?_, ?_⟩
    · have := j.isLt; fin_cases j <;> first | exact absurd hj (by decide) | (simp only []; omega)
    · rw [if_pos c1, if_pos c2, if_pos c3, if_pos c4, if_pos c5, if_pos c6, if_neg c7]; rfl
    · rw [if_pos c1, if_pos c2, if_pos c3, if_pos c4, if_pos c5, if_pos c6, if_neg c7]; show _ = s 6; omega
  by_cases c5 : s 5 ≤ r
  · have c1 : s 1 ≤ r := by omega
    have c2 : s 2 ≤ r := by omega
    have c3 : s 3 ≤ r := by omega
    have c4 : s 4 ≤ r := by omega
    refine ⟨5, by simpa using (show s 5 ≤ r by omega), fun j hj => ?_, ?_, ?_⟩
    · have := j.isLt; fin_cases j <;> first | exact absurd hj (by decide) | (simp only []; omega)
    · rw [if_pos c1, if_pos c2, if_pos c3, if_pos c4, if_pos c5, if_neg c6, if_neg c7]; rfl
    · rw [if_pos c1, if_pos c2, if_pos c3, if_pos c4, if_pos c5, if_neg c6, if_neg c7]; show _ = s 5; omega
  by_cases c4 : s 4 ≤ r
  · have c1 : s 1 ≤ r := by omega
    have c2 : s 2 ≤ r := by omega
    have c3 : s 3 ≤ r := by omega
    refine ⟨4, by simpa using (show s 4 ≤ r by omega), fun j hj => ?_, ?_, ?_⟩
    · have := j.isLt; fin_cases j <;> first | exact absurd hj (by decide) | (simp only []; omega)
    · rw [if_pos c1, if_pos c2, if_pos c3, if_pos c4, if_neg c5, if_neg c6, if_neg c7]; rfl
    · rw [if_pos c1, if_pos c2, if_pos c3, if_pos c4, if_neg c5, if_neg c6, if_neg c7]; show _ = s 4; omega
  by_cases c3 : s 3 ≤ r
  · have c1 : s 1 ≤ r := by omega
    have c2 : s 2 ≤ r := by omega
    refine ⟨3, by simpa using (show s 3 ≤ r by omega), fun j hj => ?_, ?_, ?_⟩
    · have := j.isLt; fin_cases j <;> first | exact absurd hj (by decide) | (simp only []; omega)
    · rw [if_pos c1, if_pos c2, if_pos c3, if_neg c4, if_neg c5, if_neg c6, if_neg c7]; rfl
    · rw [if_pos c1, if_pos c2, if_pos c3, if_neg c4, if_neg c5, if_neg c6, if_neg c7]; show _ = s 3; omega
  by_cases c2 : s 2 ≤ r
  · have c1 : s 1 ≤ r := by omega
    refine ⟨2, by simpa using (show s 2 ≤ r by omega), fun j hj => ?_, ?_, ?_⟩
    · have := j.isLt; fin_cases j <;> first | exact absurd hj (by decide) | (simp only []; omega)
    · rw [if_pos c1, if_pos c2, if_neg c3, if_neg c4, if_neg c5, if_neg c6, if_neg c7]; rfl
    · rw [if_pos c1, if_pos c2, if_neg c3, if_neg c4, if_neg c5, if_neg c6, if_neg c7]; show _ = s 2; omega
  by_cases c1 : s 1 ≤ r
  · refine ⟨1, by simpa using (show s 1 ≤ r by omega), fun j hj => ?_, ?_, ?_⟩
    · have := j.isLt; fin_cases j <;> first | exact absurd hj (by decide) | (simp only []; omega)
    · rw [if_pos c1, if_neg c2, if_neg c3, if_neg c4, if_neg c5, if_neg c6, if_neg c7]; rfl
    · rw [if_pos c1, if_neg c2, if_neg c3, if_neg c4, if_neg c5, if_neg c6, if_neg c7]; show _ = s 1; omega
  · refine ⟨0, by simpa using (show s 0 ≤ r by omega), fun j hj => ?_, ?_, ?_⟩
    · have := j.isLt; fin_cases j <;> first | exact absurd hj (by decide) | (simp only []; omega)
    · rw [if_neg c1, if_neg c2, if_neg c3, if_neg c4, if_neg c5, if_neg c6, if_neg c7]; rfl
    · rw [if_neg c1, if_neg c2, if_neg c3, if_neg c4, if_neg c5, if_neg c6, if_neg c7]; show _ = s 0; omega

/-- No start is past the last row by more than the counts allow. -/
theorem startOf_le (hc : ∀ c j, cnt m c j ≤ 192) (c : Dev nD) (i : ℕ) : startOf m c i ≤ 1536 := by
  refine (Finset.sum_le_sum (g := fun _ => 192) fun k _ => ?_).trans (by simp)
  split_ifs
  · exact hc k c
  · omega

/-- The sum of the counts so far is the next start. -/
theorem add_count (c : Dev nD) (i : Fin 8) :
    IntOp.addi (BitVec.ofNat 32 (startOf m c i.val)) (cntW m i c) = BitVec.ofNat 32 (startOf m c (i.val + 1)) := by
  rw [cntW_eq, addi_ofNat, startOf_succ]

theorem sum1_eq (c : Dev nD) : sum1 m c = BitVec.ofNat 32 (startOf m c 1) := by
  refine Eq.trans ?_ (add_count m c 0)
  show IntOp.addi 0#32 (cntW m 0 c) = IntOp.addi (BitVec.ofNat 32 (startOf m c 0)) (cntW m 0 c)
  rw [startOf_zero]

/-- The word of the place, in the words the kernel computes it from. -/
theorem selW_words (c : Dev nD) (r : Fin 1024) :
    selW m c (ValueIdx.ix2 (n0 := 1024) (n1 := 1) r 0) =
      (let R := BitVec.ofNat 32 r.val
       let s1 := sum1 m c
       let s2 := Scalar.addi s1 (cntW m 1 c)
       let s3 := Scalar.addi s2 (cntW m 2 c)
       let s4 := Scalar.addi s3 (cntW m 3 c)
       let s5 := Scalar.addi s4 (cntW m 4 c)
       let s6 := Scalar.addi s5 (cntW m 5 c)
       let s7 := Scalar.addi s6 (cntW m 6 c)
       let S := IntOp.addi (IntOp.addi (IntOp.addi (IntOp.addi (IntOp.addi (IntOp.addi (IntOp.addi (IntOp.addi 0#32 (ge R 0#32)) (ge R s1)) (ge R s2)) (ge R s3))
        (ge R s4)) (ge R s5)) (ge R s6)) (ge R s7)
       let B := IntOp.maxsi (IntOp.maxsi (IntOp.maxsi (IntOp.maxsi (IntOp.maxsi (IntOp.maxsi (IntOp.maxsi (IntOp.maxsi 0#32 (IntOp.muli (ge R 0#32) 0#32))
        (IntOp.muli (ge R s1) s1)) (IntOp.muli (ge R s2) s2)) (IntOp.muli (ge R s3) s3)) (IntOp.muli (ge R s4) s4)) (IntOp.muli (ge R s5) s5))
        (IntOp.muli (ge R s6) s6)) (IntOp.muli (ge R s7) s7)
       IntOp.subi (IntOp.addi (IntOp.muli (IntOp.subi S 1#32) 192#32) R) B) := by
  have e : (BitVec.ofNat 32 r.val) = BitVec.ofNat 32 (0 * 1024 + r.val) := by rw [Nat.zero_mul, Nat.zero_add]
  rw [e]
  rfl

/-- The place row `r` comes from: of the last device whose rows start at or before it, the row's number less that start. -/
theorem selW_at (hc : ∀ c j, cnt m c j ≤ 192) (c : Dev nD) (r : Fin 1024) :
    ∃ i : Fin 8, startOf m c i.val ≤ r.val ∧ (∀ j : Fin 8, i < j → r.val < startOf m c j.val)
      ∧ selW m c (ValueIdx.ix2 (n0 := 1024) (n1 := 1) r 0) = BitVec.ofNat 32 (192 * i.val + (r.val - startOf m c i.val)) := by
  obtain ⟨i, hi, hj, hS, hB⟩ := last_start (startOf m c) (fun i => startOf_mono m c (Nat.le_succ i)) (startOf_zero m c) r.val
  refine ⟨i, hi, hj, ?_⟩
  have hr := r.isLt
  have hl := startOf_le m hc c
  have h1 := hl 1; have h2 := hl 2; have h3 := hl 3; have h4 := hl 4; have h5 := hl 5; have h6 := hl 6; have h7 := hl 7
  rw [selW_words]
  have e2 : Scalar.addi (BitVec.ofNat 32 (startOf m c 1)) (cntW m 1 c) = BitVec.ofNat 32 (startOf m c 2) := add_count m c 1
  have e3 : Scalar.addi (BitVec.ofNat 32 (startOf m c 2)) (cntW m 2 c) = BitVec.ofNat 32 (startOf m c 3) := add_count m c 2
  have e4 : Scalar.addi (BitVec.ofNat 32 (startOf m c 3)) (cntW m 3 c) = BitVec.ofNat 32 (startOf m c 4) := add_count m c 3
  have e5 : Scalar.addi (BitVec.ofNat 32 (startOf m c 4)) (cntW m 4 c) = BitVec.ofNat 32 (startOf m c 5) := add_count m c 4
  have e6 : Scalar.addi (BitVec.ofNat 32 (startOf m c 5)) (cntW m 5 c) = BitVec.ofNat 32 (startOf m c 6) := add_count m c 5
  have e7 : Scalar.addi (BitVec.ofNat 32 (startOf m c 6)) (cntW m 6 c) = BitVec.ofNat 32 (startOf m c 7) := add_count m c 6
  have q0 := ge_eq r.val 0 (by omega) (by omega)
  have q1 := ge_eq r.val (startOf m c 1) (by omega) (by omega)
  have q2 := ge_eq r.val (startOf m c 2) (by omega) (by omega)
  have q3 := ge_eq r.val (startOf m c 3) (by omega) (by omega)
  have q4 := ge_eq r.val (startOf m c 4) (by omega) (by omega)
  have q5 := ge_eq r.val (startOf m c 5) (by omega) (by omega)
  have q6 := ge_eq r.val (startOf m c 6) (by omega) (by omega)
  have q7 := ge_eq r.val (startOf m c 7) (by omega) (by omega)
  have bound : ∀ b s : ℕ, b ≤ 1536 → s ≤ 1536 → max b (if s ≤ r.val then s else 0) ≤ 1536 := fun b s hb hs => by split_ifs <;> omega
  have b0 := bound 0 0 (by omega) (by omega)
  have b1 := bound _ _ b0 h1
  have b2 := bound _ _ b1 h2
  have b3 := bound _ _ b2 h3
  have b4 := bound _ _ b3 h4
  have b5 := bound _ _ b4 h5
  have b6 := bound _ _ b5 h6
  dsimp only
  rw [sum1_eq, e2, e3, e4, e5, e6, e7]
  rw [max_step 0 r.val 0 (by omega) (by omega) (by omega), max_step _ r.val (startOf m c 1) (by omega) (by omega) (by omega),
    max_step _ r.val (startOf m c 2) (by omega) (by omega) (by omega), max_step _ r.val (startOf m c 3) (by omega) (by omega) (by omega),
    max_step _ r.val (startOf m c 4) (by omega) (by omega) (by omega), max_step _ r.val (startOf m c 5) (by omega) (by omega) (by omega),
    max_step _ r.val (startOf m c 6) (by omega) (by omega) (by omega), max_step _ r.val (startOf m c 7) (by omega) (by omega) (by omega)]
  rw [q0, q1, q2, q3, q4, q5, q6, q7]
  rw [addi_ofNat, addi_ofNat, addi_ofNat, addi_ofNat, addi_ofNat, addi_ofNat, addi_ofNat, addi_ofNat, hS, hB]
  have hi8 := i.isLt
  unfold IntOp.subi IntOp.addi IntOp.muli
  apply BitVec.eq_of_toNat_eq
  simp only [BitVec.toNat_sub, BitVec.toNat_add, BitVec.toNat_mul, BitVec.toNat_ofNat]
  omega

end Cert.Exchange
end
-- ==== Proof.Gathered.lean ====
/-
# The result of a device

Row `r` of device `c`'s result is the row `c` is sent by the device that row comes from: of that device's rows for `c`, the
one with as many before it as `r` is past where that device's rows start.
-/
module

public import proofs.«01_k».proof.Proof.Select

@[expose] public section

noncomputable section

namespace Cert.Exchange

open Cert.KernelIdeal Cert.KernelIdeal.Gen
open Idealize.ShloMosaic Idealize.ShloMosaic.TcCoe
open Idealize.SL.Sem
open Idealize.ShloMosaic.WordCmp

/-- The rows of one slab the result takes, zeros for the others: the slab's places are numbered from `o`. -/
def taken (o : BitVec 32) (sel : IVec S1024x1 32) (v : FVec Ideal S1x192x512 .bf16) : FVec Ideal S1024x512 .f32 :=
  matmul dot_S1024x192_S192x512_S1024x512_1_0_0_1_n_n none
    (truncf .bf16 (sitofp .f32 (extui 32 (cmpi .eq (broadcastTo S1024x192 sel broadcasts_S1024x1_S1024x192)
      (addi (iota .tc S1024x192 32 [1] iota_S1024x192_d1_w32) (broadcast S1024x192 o))) natLt_1_32) : FVec Ideal S1024x192 .f32) bitsLt_bf16_f32)
    (shapeCast S192x512 v shapeCasts_S1x192x512_S192x512) (constant S1024x512 .f32 0x00000000#32)

theorem taken_at (j n : ℕ) (hj : j < 8) (hn : n < 4096) (sel : IVec S1024x1 32) (v : FVec Ideal S1x192x512 .bf16) (r : Fin 1024) (e : Fin 512)
    (hs : sel (ValueIdx.ix2 (n0 := 1024) (n1 := 1) r 0) = BitVec.ofNat 32 n) :
    taken (BitVec.ofNat 32 (192 * j)) sel v (ValueIdx.ix2 (n0 := 1024) (n1 := 512) r e)
      = ∑ k : Fin 192, (if n = 192 * j + k.val then (1 : EReal) else 0) * v (ix1 k e) := by
  refine (hot_matmul _ natLt_1_32 bitsLt_bf16_f32 _ r e).trans ?_
  refine Finset.sum_congr rfl fun k _ => congrArg₂ (fun a b : EReal => a * b) (if_congr ?_ rfl rfl) ?_
  · have e1 : broadcastTo S1024x192 sel broadcasts_S1024x1_S1024x192 (ValueIdx.ix2 (n0 := 1024) (n1 := 192) r k) = BitVec.ofNat 32 n := by
      rw [broadcastTo_apply sel broadcasts_S1024x1_S1024x192 _ (ValueIdx.ix2 (n0 := 1024) (n1 := 1) r 0) (fun ax => by fin_cases ax <;> rfl)]
      exact hs
    show IntOp.cmpi .eq _ (IntOp.addi (BitVec.ofNat 32 (0 * 192 + k.val)) (BitVec.ofNat 32 (192 * j))) = 1#1 ↔ _
    have hk := k.isLt
    refine (Eq.congr_left (congrArg (fun w => IntOp.cmpi .eq w (IntOp.addi (BitVec.ofNat 32 (0 * 192 + k.val)) (BitVec.ofNat 32 (192 * j)))) e1)).trans ?_
    rw [Nat.zero_mul, Nat.zero_add, addi_ofNat, cmpi_eq_ofNat_eq_one_iff (by omega) (by omega)]
    omega
  · have hi : (ix1 k e : S1x192x512.Idx) = ValueIdx.ix3 (n0 := 1) (n1 := 192) (n2 := 512) 0 k e := by
      funext a
      apply Fin.ext
      fin_cases a <;> rfl
    rw [hi]
    exact ValueIdx.shapeCast_1ab_ab_apply v shapeCasts_S1x192x512_S192x512 k e

/-- The slab the place is in gives its row … -/
theorem taken_here (j q : ℕ) (hj : j < 8) (hq : q < 192) (sel : IVec S1024x1 32) (v : FVec Ideal S1x192x512 .bf16) (r : Fin 1024) (e : Fin 512)
    (hs : sel (ValueIdx.ix2 (n0 := 1024) (n1 := 1) r 0) = BitVec.ofNat 32 (192 * j + q)) :
    taken (BitVec.ofNat 32 (192 * j)) sel v (ValueIdx.ix2 (n0 := 1024) (n1 := 512) r e) = v (ix1 ⟨q, hq⟩ e) := by
  rw [taken_at j (192 * j + q) hj (by omega) sel v r e hs]
  refine sum_pick _ (fun k => v (ix1 k e)) ⟨q, hq⟩ fun k => ?_
  rw [Fin.ext_iff]
  show _ ↔ k.val = q
  omega

/-- … and the others give zeros. -/
theorem taken_not (j n : ℕ) (hj : j < 8) (hn : n < 4096) (h : n < 192 * j ∨ 192 * j + 192 ≤ n) (sel : IVec S1024x1 32) (v : FVec Ideal S1x192x512 .bf16)
    (r : Fin 1024) (e : Fin 512) (hs : sel (ValueIdx.ix2 (n0 := 1024) (n1 := 1) r 0) = BitVec.ofNat 32 n) :
    taken (BitVec.ofNat 32 (192 * j)) sel v (ValueIdx.ix2 (n0 := 1024) (n1 := 512) r e) = 0 := by
  rw [taken_at j n hj hn sel v r e hs]
  exact sum_none _ _ fun k hk => by have := k.isLt; omega

variable (m : (ℓ : Loc nD τ sig) → Buf (Elt Ideal) ℓ)

/-- The result is the sum of what it takes of the eight slabs. -/
theorem outAt_sum (c : Dev nD) (r : Fin 1024) (e : Fin 512) :
    outAt m c (ValueIdx.ix2 (n0 := 1024) (n1 := 512) r e)
      = ∑ j : Fin 8, taken (BitVec.ofNat 32 (192 * j.val)) (selW m c) (sv m c j) (ValueIdx.ix2 (n0 := 1024) (n1 := 512) r e) := by
  rw [Fin.sum_univ_eight]
  have z : Ideal.ofBits .f32 0x00000000#32 = 0 := Ideal.ofBits_zero_f32
  refine Eq.trans (b := (Ideal.ofBits .f32 0x00000000#32
    + taken (BitVec.ofNat 32 (192 * (0 : Fin 8).val)) (selW m c) (sv m c 0) (ValueIdx.ix2 (n0 := 1024) (n1 := 512) r e)
    + taken (BitVec.ofNat 32 (192 * (1 : Fin 8).val)) (selW m c) (sv m c 1) (ValueIdx.ix2 (n0 := 1024) (n1 := 512) r e)
    + taken (BitVec.ofNat 32 (192 * (2 : Fin 8).val)) (selW m c) (sv m c 2) (ValueIdx.ix2 (n0 := 1024) (n1 := 512) r e)
    + taken (BitVec.ofNat 32 (192 * (3 : Fin 8).val)) (selW m c) (sv m c 3) (ValueIdx.ix2 (n0 := 1024) (n1 := 512) r e)
    + taken (BitVec.ofNat 32 (192 * (4 : Fin 8).val)) (selW m c) (sv m c 4) (ValueIdx.ix2 (n0 := 1024) (n1 := 512) r e)
    + taken (BitVec.ofNat 32 (192 * (5 : Fin 8).val)) (selW m c) (sv m c 5) (ValueIdx.ix2 (n0 := 1024) (n1 := 512) r e)
    + taken (BitVec.ofNat 32 (192 * (6 : Fin 8).val)) (selW m c) (sv m c 6) (ValueIdx.ix2 (n0 := 1024) (n1 := 512) r e)
    + taken (BitVec.ofNat 32 (192 * (7 : Fin 8).val)) (selW m c) (sv m c 7) (ValueIdx.ix2 (n0 := 1024) (n1 := 512) r e))) ?_ ?_
  · rfl
  · rw [z, zero_add]

/-- A row of the result. -/
theorem outAt_at (hd : ∀ c t, (dw m c t).toNat < 8) (hc : ∀ c j, cnt m c j ≤ 192) (c : Dev nD) (r : Fin 1024) :
    ∃ i : Fin 8, startOf m c i.val ≤ r.val ∧ (∀ j : Fin 8, i < j → r.val < startOf m c j.val)
      ∧ ∀ e : Fin 512, outAt m c (ValueIdx.ix2 (n0 := 1024) (n1 := 512) r e) = picked (ds m i) (xs m i) c.val (r.val - startOf m c i.val) e := by
  obtain ⟨i, hi, hj, hs⟩ := selW_at m hc c r
  refine ⟨i, hi, hj, fun e => ?_⟩
  rw [outAt_sum]
  have hr := r.isLt
  have hi8 := i.isLt
  by_cases hq : r.val - startOf m c i.val < 192
  · rw [Finset.sum_eq_single i]
    · rw [taken_here i.val _ hi8 hq _ _ r e hs]
      exact ST_at m hd hc c i ⟨_, hq⟩ e
    · intro j _ hne
      have : j.val ≠ i.val := fun h => hne (Fin.ext h)
      exact taken_not j.val _ j.isLt (by omega) (by omega) _ _ r e hs
    · intro h
      exact absurd (Finset.mem_univ _) h
  · have h7 : i.val = 7 := by
      by_contra h
      have hn := hj ⟨i.val + 1, by omega⟩ (by rw [Fin.lt_def]; show i.val < i.val + 1; omega)
      have hn' : r.val < startOf m c (i.val + 1) := hn
      rw [startOf_succ] at hn'
      have := hc i c
      omega
    rw [Finset.sum_eq_zero fun j _ => taken_not j.val _ j.isLt (by omega) (by have := j.isLt; omega) _ _ r e hs]
    rw [picked_none]
    have := hc i c
    unfold cnt at this
    exact le_trans this (by omega)

end Cert.Exchange
end
-- ==== Proof.Order.lean ====
module

public import Idealize.ShloMosaic.PureOps
public import Idealize.ShloMosaic.Lib.SortFacts
public import Idealize.ShloMosaic.Lib.SortPrefix
public import Mathlib.Algebra.BigOperators.Fin
public import Mathlib.Data.Fintype.Card
public import Mathlib.Order.Interval.Finset.Fin

/-!
# Where a stable sort puts each entry

The reference sorts the positions by their key and keeps positions of equal key in order.  The place an
entry gets is the number of smaller keys plus the number of equal keys that stand before it.  From this
follows what sits at place `first c + r`: the `r`-th position whose key is `c`.
-/

@[expose] public section

noncomputable section

namespace Cert.Exchange

open Idealize.ShloMosaic

section Order

variable {n : Nat} (key : Fin n → ℤ)

/-- Order by key alone. -/
def byKey (k k' : Fin n) : Bool := decide (key k < key k')

/-- Order by key, and by position where keys are equal. -/
def byBoth (k k' : Fin n) : Bool :=
  decide (key k < key k') || (decide (key k = key k') && decide (k < k'))

/-- On an increasing list of positions the stable sort by key is the sort by key and position. -/
theorem stable_both (l : List (Fin n)) (hl : l.Pairwise (· < ·)) :
    stableSort (byKey key) l = stableSort (byBoth key) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ _).mem_iff.mp hb)
    have hn : ¬ b < a := not_lt.mpr hab.le
    simp [byKey, byBoth, hn]

/-- The sort by key, place by place, is the sort by key and position. -/
theorem sorted_both : sortedFrom (byKey key) = sortedFrom (byBoth key) := by
  funext k
  unfold sortedFrom
  have h : sortPositions n (byKey key) = sortPositions n (byBoth key) :=
    stable_both key _ (List.pairwise_lt_finRange n)
  rw [List.get_of_eq h]
  rfl

/-- Order by key and position is a strict total order. -/
theorem both_total : StrictTotalBefore (byBoth key) :=
  StrictTotalBefore.of_key_then_position (fun a b : ℤ => decide (a < b)) key (by simp)
    (fun a b c h h' => by simp only [decide_eq_true_eq] at h h' ⊢; exact h.trans h')
    (fun a b => by simp only [decide_eq_true_eq]; exact lt_trichotomy a b)

/-- A lower place holds an earlier entry. -/
theorem sorted_lt {i j : Fin n} (h : i < j) :
    byBoth key (sortedFrom (byKey key) i) (sortedFrom (byKey key) j) = true := by
  rw [sorted_both]
  have hB := both_total key
  have hn := sortedFrom_noInversion (byBoth key) (byBoth key) (fun a b h => hB.asymm a b h) (fun _ _ h => h)
    hB.negTrans i j h
  rcases hB.total (sortedFrom (byBoth key) i) (sortedFrom (byBoth key) j)
      (fun e => h.ne (sortedFrom_injective _ e)) with h1 | h1
  · exact h1
  · rw [hn] at h1; exact absurd h1 (by decide)

/-- The place of an entry counts the entries before it. -/
theorem place_both (i : Fin n) :
    i.val = (Finset.univ.filter fun q => byBoth key q (sortedFrom (byKey key) i) = true).card := by
  have himg : (Finset.univ.filter fun q => byBoth key q (sortedFrom (byKey key) i) = true)
      = (Finset.Iio i).image (sortedFrom (byKey key)) := by
    ext q
    simp only [Finset.mem_filter, Finset.mem_univ, true_and, Finset.mem_image, Finset.mem_Iio]
    constructor
    · intro hq
      obtain ⟨j, rfl⟩ := sortedFrom_surjective (byKey key) q
      refine ⟨j, ?_, rfl⟩
      by_contra hij
      rcases eq_or_lt_of_le (not_lt.mp hij) with e | e
      · subst e; rw [(both_total key).irrefl] at hq; exact absurd hq (by decide)
      · rw [(both_total key).asymm _ _ (sorted_lt key e)] at hq; exact absurd hq (by decide)
    · rintro ⟨j, hj, rfl⟩
      exact sorted_lt key hj
  rw [himg, Finset.card_image_of_injective _ (sortedFrom_injective _), Fin.card_Iio]

/-- How many keys are below `c`. -/
def below (c : ℤ) : ℕ := (Finset.univ.filter fun q => key q < c).card

/-- How many keys are `c`. -/
def alike (c : ℤ) : ℕ := (Finset.univ.filter fun q => key q = c).card

/-- How many positions before `p` have the key of `p`. -/
def rankOf (p : Fin n) : ℕ := (Finset.univ.filter fun q => key q = key p ∧ q < p).card

/-- The place of an entry: the smaller keys, and the equal keys before it. -/
theorem place_eq (i : Fin n) :
    i.val = below key (key (sortedFrom (byKey key) i)) + rankOf key (sortedFrom (byKey key) i) := by
  refine (place_both key i).trans ?_
  unfold below rankOf
  rw [← Finset.card_union_of_disjoint]
  · congr 1
    ext q
    simp [byBoth]
  · rw [Finset.disjoint_left]
    intro q h1 h2
    simp only [Finset.mem_filter, Finset.mem_univ, true_and] at h1 h2
    exact absurd h2.1 h1.ne

/-- A position's rank is below the number of its fellows. -/
theorem rankOf_lt (p : Fin n) : rankOf key p < alike key (key p) := by
  unfold rankOf alike
  refine Finset.card_lt_card ⟨fun q => ?_, fun h => ?_⟩
  · simp only [Finset.mem_filter, Finset.mem_univ, true_and]
    exact fun h => h.1
  · have hp : p ∈ Finset.univ.filter fun q => key q = key p := by simp
    have := h hp
    simp at this

/-- Below a larger key stand at least the keys below `c` and those that are `c`. -/
theorem below_add {c d : ℤ} (h : c < d) : below key c + alike key c ≤ below key d := by
  unfold below alike
  rw [← Finset.card_union_of_disjoint]
  · refine Finset.card_le_card fun q hq => ?_
    simp only [Finset.mem_union, Finset.mem_filter, Finset.mem_univ, true_and] at hq ⊢
    rcases hq with hq | hq
    · exact hq.trans h
    · rw [hq]; exact h
  · rw [Finset.disjoint_left]
    intro q h1 h2
    simp only [Finset.mem_filter, Finset.mem_univ, true_and] at h1 h2
    exact absurd h2 h1.ne

/-- The keys below `c` and those that are `c` are no more than all. -/
theorem below_alike_le (c : ℤ) : below key c + alike key c ≤ n := by
  unfold below alike
  rw [← Finset.card_union_of_disjoint]
  · exact (Finset.card_le_univ _).trans (Fintype.card_fin n).le
  · rw [Finset.disjoint_left]
    intro q h1 h2
    simp only [Finset.mem_filter, Finset.mem_univ, true_and] at h1 h2
    exact absurd h2 h1.ne

/-- Place `below c + r`, with `r` under the number of keys `c`, holds the position of key `c` and rank `r`. -/
theorem sorted_at (c : ℤ) (r : ℕ) (hr : r < alike key c) (i : Fin n) (hi : i.val = below key c + r) :
    key (sortedFrom (byKey key) i) = c ∧ rankOf key (sortedFrom (byKey key) i) = r := by
  have hp := place_eq key i
  have hl := rankOf_lt key (sortedFrom (byKey key) i)
  generalize sortedFrom (byKey key) i = p at hp hl ⊢
  have hk : key p = c := by
    rcases lt_trichotomy (key p) c with h | h | h
    · have := below_add key h; omega
    · exact h
    · have := below_add key h; omega
  refine ⟨hk, ?_⟩
  rw [hk] at hp
  omega

end Order

end Cert.Exchange

end
-- ==== Proof.RefTerm.lean ====
module

public import proofs.«01_k».proof.Proof.Counts
public import proofs.«01_k».proof.Proof.Order
public import proofs.«01_k».proof.Proof.Gen.ReferenceIdeal
public import proofs.«01_k».proof.Proof.Gen.ReferenceIdeal.Run

/-!
# The reference's result, part by part

The term the reference's run leaves is long.  Here it is cut into named parts: the counts of keys, the row
each place of a rank's block asks for, the sorted order, and the rows taken.
-/

@[expose] public section

noncomputable section

namespace Cert.Sorted

open Cert.ReferenceIdeal Cert.ReferenceIdeal.Gen
open Idealize.ShloMosaic Idealize.ShloMosaic.TcCoe
open Idealize.ShloMosaic.WordCmp
open Cert.Exchange (byKey below alike rankOf)

/-- The column number, at every place of the eight blocks. -/
def colT : IVec S8x1024 32 :=
  broadcastInDim S8x1024 ![0, 1] bcast_S1x1024_S8x1024_0_1 (broadcastInDim S1x1024 ![1] bcast_S1024_S1x1024_1 (iotaInDim S1024 32 0))

/-- One word per rank, repeated over that rank's block. -/
def wideT (v : IVec S8 32) : IVec S8x1024 32 :=
  broadcastInDim S8x1024 ![0, 1] bcast_S8x1_S8x1024_0_1 (broadcastInDim S8x1 ![0] bcast_S8_S8x1_0 v)

/-- Which destinations stand to which rank in the relation `p`. -/
def hitsT (p : CmpIPredicate) (d : IVec S8192 32) : IVec S8x8192 1 :=
  cmpi p (broadcastInDim S8x8192 ![0, 1] bcast_S1x8192_S8x8192_0_1 (broadcastInDim S1x8192 ![1] bcast_S8192_S1x8192_1 d))
    (broadcastInDim S8x8192 ![0, 1] bcast_S8x1_S8x8192_0_1 (broadcastInDim S8x1 ![0] bcast_S8_S8x1_0 (iotaInDim S8 32 0)))

/-- How many destinations stand to each rank in the relation `p`. -/
def tallyT (p : CmpIPredicate) (d : IVec S8192 32) : IVec S8 32 :=
  Host.reduce IntOp.addi (extui 32 (hitsT p d) natLt_1_32) (constantI S_ 32 0#32) reducesTo_S8x8192_S8_d1 h_S_

/-- Whether a place of a rank's block is filled. -/
def filledT (d : IVec S8192 32) : IVec S8x1024 1 := cmpi .slt colT (wideT (tallyT .eq d))

/-- The place in the sorted order a place of a rank's block asks for. -/
def placeT (d : IVec S8192 32) : IVec S8x1024 32 :=
  select (filledT d) (addi (wideT (tallyT .slt d)) colT) (broadcastInDim S8x1024 ![] bcast_S_S8x1024 (id (constantI S_ 32 0#32)))

/-- An index, counted from the end where it is negative. -/
def wrapT (v : IVec S8x1024 32) : IVec S8x1024 32 :=
  select (cmpi .slt v (broadcastInDim S8x1024 ![] bcast_S_S8x1024 (constantI S_ 32 0#32)))
    (addi v (broadcastInDim S8x1024 ![] bcast_S_S8x1024 (constantI S_ 32 8192#32))) v

/-- The positions in sorted order. -/
def orderT (d : IVec S8192 32) : IVec S8192 32 :=
  (Host.sort2 S8192 0 comparator_i32_i32_d0 d (iotaInDim S8192 32 0)).2

/-- The row of `x` each place of the blocks takes. -/
def takenT (d : IVec S8192 32) : IVec S8x1024 32 :=
  Host.gather gather_S8192_S8x1024x1_S8x1024_n_0_n_n_0_2_1 (orderT d)
    (broadcastInDim S8x1024x1 ![0, 1] bcast_S8x1024_S8x1024x1_0_1 (wrapT (placeT d)))

/-- The rows taken. -/
def rowsT (x : FVec Ideal S8192x512 .bf16) (v : IVec S8x1024 32) : FVec Ideal S8x1024x512 .bf16 :=
  Host.gather gather_S8192x512_S8x1024x1_S8x1024x512_2_0_n_n_0_2_1512 x
    (broadcastInDim S8x1024x1 ![0, 1] bcast_S8x1024_S8x1024x1_0_1 (wrapT v))

/-- The rows taken where a place is filled, zero elsewhere; the blocks laid one below the other. -/
def resultT (x : FVec Ideal S8192x512 .bf16) (d : IVec S8192 32) : FVec Ideal S8192x512 .bf16 :=
  shapeCast S8192x512 (select (broadcastInDim S8x1024x512 ![0, 1, 2] bcast_S8x1024x1_S8x1024x512_0_1_2
      (broadcastInDim S8x1024x1 ![0, 1] bcast_S8x1024_S8x1024x1_0_1 (filledT d))) (rowsT x (takenT d))
    (broadcastInDim S8x1024x512 ![] bcast_S_S8x1024x512 (constant S_ .bf16 0x0000#16))) shapeCasts_S8x1024x512_S8192x512

set_option maxRecDepth 8192 in
/-- What the reference's run leaves is these parts put together. -/
theorem result_parts (m : (ℓ : Loc nD τ sig) → Buf (Elt Ideal) ℓ) (c : Dev nD) :
    Value.res_main_v45 m c = resultT (m ((c.tc : Thread nD τ).loc main_arg0)) (m ((c.tc : Thread nD τ).loc main_arg1)) := rfl

/-- The destinations as integers. -/
def keyOf (d : IVec S8192 32) (k : Fin 8192) : ℤ := (d (ValueIdx.ix1 k)).toInt

theorem hits_reduces : S8x8192.Reduces [1] S8 := by decide

theorem colT_at (c : Fin 8) (r : Fin 1024) : colT (ValueIdx.ix2 (n0 := 8) (n1 := 1024) c r) = BitVec.ofNat 32 r.val := rfl

theorem wideT_at (v : IVec S8 32) (c : Fin 8) (r : Fin 1024) :
    wideT v (ValueIdx.ix2 (n0 := 8) (n1 := 1024) c r) = v (ValueIdx.ix1 c) :=
  congrArg v (funext fun a => by fin_cases a; rfl)

theorem hitsT_at (p : CmpIPredicate) (d : IVec S8192 32) (c : Fin 8) (k : Fin 8192) :
    hitsT p d (ValueIdx.ix2 (n0 := 8) (n1 := 8192) c k) = IntOp.cmpi p (d (ValueIdx.ix1 k)) (BitVec.ofNat 32 c.val) := by
  have e : broadcastInDim S8x8192 ![0, 1] bcast_S1x8192_S8x8192_0_1 (broadcastInDim S1x8192 ![1] bcast_S8192_S1x8192_1 d)
      (ValueIdx.ix2 (n0 := 8) (n1 := 8192) c k) = d (ValueIdx.ix1 k) :=
    congrArg d (funext fun a => by fin_cases a; rfl)
  unfold hitsT
  rw [cmpi_at, e]
  rfl

theorem tallyT_at (p : CmpIPredicate) (d : IVec S8192 32) (c : Fin 8) :
    tallyT p d (ValueIdx.ix1 c) = BitVec.ofNat 32
      (Finset.univ.filter fun k : Fin 8192 => IntOp.cmpi p (d (ValueIdx.ix1 k)) (BitVec.ofNat 32 c.val) = 1#1).card := by
  refine (Cert.Exchange.hostCount (hitsT p d) _ _ hits_reduces _ _ rfl _).trans ?_
  refine congrArg (fun S : Finset (Fin 8192) => BitVec.ofNat 32 S.card) (Finset.filter_congr fun k _ => ?_)
  have hl : hits_reduces.lift (ValueIdx.ix1 c) k = ValueIdx.ix2 (n0 := 8) (n1 := 8192) c k := by
    funext a
    apply Fin.ext
    fin_cases a <;> rfl
  exact iff_of_eq (congrArg (fun b : BitVec 1 => b = 1#1) ((congrArg (hitsT p d) hl).trans (hitsT_at p d c k)))

/-- A small word, read signed, is its number. -/
theorem small_int {n : ℕ} (h : n < 2 ^ 31) : (BitVec.ofNat 32 n).toInt = (n : ℤ) := toInt_ofNat_of_lt (w := 32) h

theorem tally_eq (d : IVec S8192 32) (c : Fin 8) :
    tallyT .eq d (ValueIdx.ix1 c) = BitVec.ofNat 32 (alike (keyOf d) c.val) := by
  rw [tallyT_at]
  refine congrArg (fun S : Finset (Fin 8192) => BitVec.ofNat 32 S.card) (Finset.filter_congr fun k _ => ?_)
  have hc := c.isLt
  rw [cmpi_eq_eq, ofBool_decide_eq_one_iff, ← BitVec.toInt_inj, small_int (by omega)]
  rfl

theorem tally_lt (d : IVec S8192 32) (c : Fin 8) :
    tallyT .slt d (ValueIdx.ix1 c) = BitVec.ofNat 32 (below (keyOf d) c.val) := by
  rw [tallyT_at]
  refine congrArg (fun S : Finset (Fin 8192) => BitVec.ofNat 32 S.card) (Finset.filter_congr fun k _ => ?_)
  have hc := c.isLt
  rw [cmpi_slt_eq, ofBool_decide_eq_one_iff, small_int (by omega)]
  rfl

/-- Filled are the places below the number of rows the rank receives. -/
theorem filledT_at (d : IVec S8192 32) (c : Fin 8) (r : Fin 1024) :
    filledT d (ValueIdx.ix2 (n0 := 8) (n1 := 1024) c r) = BitVec.ofBool (decide (r.val < alike (keyOf d) c.val)) := by
  have hb := Cert.Exchange.below_alike_le (keyOf d) c.val
  have hr := r.isLt
  unfold filledT
  rw [cmpi_at, colT_at, wideT_at, tally_eq, cmpi_slt_ofNat (w := 32) (by omega) (by omega)]

/-- A filled place asks for the place in the sorted order so far behind the rank's first. -/
theorem placeT_at (d : IVec S8192 32) (c : Fin 8) (r : Fin 1024) (h : r.val < alike (keyOf d) c.val) :
    placeT d (ValueIdx.ix2 (n0 := 8) (n1 := 1024) c r) = BitVec.ofNat 32 (below (keyOf d) c.val + r.val) := by
  unfold placeT
  rw [select_at, filledT_at, decide_eq_true h]
  refine (select_one _ _).trans ?_
  refine Eq.trans (congrArg₂ IntOp.addi (wideT_at _ c r) (colT_at c r)) ?_
  rw [tally_lt, addi_ofNat]

/-- A small index is not negative and stays. -/
theorem wrapT_at (v : IVec S8x1024 32) (j : S8x1024.Idx) (n : ℕ) (hn : n < 8192) (h : v j = BitVec.ofNat 32 n) :
    wrapT v j = BitVec.ofNat 32 n := by
  unfold wrapT
  rw [select_at, cmpi_at, h]
  have e : IntOp.cmpi .slt (BitVec.ofNat 32 n) 0#32 = 0#1 :=
    (cmpi_slt_ofNat_eq_zero_iff (w := 32) (by omega) (by omega)).mpr (by omega)
  exact select_of_eq_zero e _ _

/-- The second array of a sorted pair, at a place: the entry sorted there. -/
theorem second_sorted {n : ℕ} {α β : Type} (cmp : α × β → α × β → BitVec 1) (x : (⟨1, ![n]⟩ : Shape).Idx → α)
    (y : (⟨1, ![n]⟩ : Shape).Idx → β) (i : Fin n) :
    (Host.sort2 ⟨1, ![n]⟩ 0 cmp x y).2 (ValueIdx.ix1 i) = y (ValueIdx.ix1 (sortedFrom (fun k k' =>
      cmp (x (ValueIdx.ix1 k), y (ValueIdx.ix1 k)) (x (ValueIdx.ix1 k'), y (ValueIdx.ix1 k')) == 1#1) i)) := by
  have hs : ∀ k : Fin n, Shape.Idx.along (s := ⟨1, ![n]⟩) (ValueIdx.ix1 i) (0 : Fin 1) k = ValueIdx.ix1 k := by
    intro k
    funext a
    obtain rfl : a = 0 := Subsingleton.elim _ _
    exact (Shape.Idx.along_rank1 (ValueIdx.ix1 i) k ▸ rfl)
  unfold Host.sort2
  rw [dif_pos (show 0 < (⟨1, ![n]⟩ : Shape).rank from Nat.one_pos)]
  refine (congrArg y (hs _)).trans ?_
  refine congrArg (fun B : Fin n → Fin n → Bool => y (ValueIdx.ix1 (sortedFrom B i))) ?_
  funext k k'
  exact congrArg₂ (fun a b => cmp (x a, y a) (x b, y b) == 1#1) (hs k) (hs k')

/-- The sorted order holds, at each place, the position sorted there. -/
theorem orderT_at (d : IVec S8192 32) (i : Fin 8192) :
    orderT d (ValueIdx.ix1 i) = BitVec.ofNat 32 (sortedFrom (byKey (keyOf d)) i).val := by
  refine (second_sorted comparator_i32_i32_d0 d (iotaInDim S8192 32 0) i).trans ?_
  refine congrArg (fun B : Fin 8192 → Fin 8192 → Bool => BitVec.ofNat 32 (sortedFrom B i).val) ?_
  funext k k'
  refine Eq.trans (congrArg (fun b : BitVec 1 => b == 1#1) (cmpi_slt_eq (d (ValueIdx.ix1 k)) (d (ValueIdx.ix1 k')))) ?_
  unfold byKey keyOf
  cases decide ((d (ValueIdx.ix1 k)).toInt < (d (ValueIdx.ix1 k')).toInt) <;> rfl

end Cert.Sorted

end
-- ==== Proof.RefValue.lean ====
module

public import proofs.«01_k».proof.Proof.RefTerm

/-!
# The reference's result, at an index

Row `r` of block `c` of the reference's result is the row of `x` sorted at place `first c + r`, where the rank
receives more than `r` rows; it is zero otherwise.
-/

@[expose] public section

noncomputable section

namespace Cert.Sorted

open Cert.ReferenceIdeal Cert.ReferenceIdeal.Gen
open Idealize.ShloMosaic Idealize.ShloMosaic.TcCoe
open Idealize.ShloMosaic.WordCmp
open Cert.Exchange (byKey below alike rankOf)

/-- A gather of whole rows: each place of a table takes the row its index word names, held within the array. -/
theorem gather_row {α : Type} {N D R C w : ℕ} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (a : Fin R) (b : Fin C) (e : Fin D) :
    Host.gather (s := ⟨2, ![N, D]⟩) (si := ⟨3, ![R, C, 1]⟩) (t := ⟨3, ![R, C, D]⟩)
        { offsetDims := [2], collapsedSliceDims := [0], operandBatchingDims := [], startIndicesBatchingDims := [],
          startIndexMap := [0], indexVectorDim := 2, sliceSizes := ![1, D], wf := wf } x idx (ValueIdx.ix3 a b e)
      = x (ValueIdx.ix2 ⟨min (idx (ValueIdx.ix3 a b (0 : Fin 1))).toInt.toNat (N - 1), by omega⟩ e) := by
  set g : GatherDims ⟨2, ![N, D]⟩ ⟨3, ![R, C, 1]⟩ ⟨3, ![R, C, D]⟩ :=
    { offsetDims := [2], collapsedSliceDims := [0], operandBatchingDims := [], startIndicesBatchingDims := [],
      startIndexMap := [0], indexVectorDim := 2, sliceSizes := ![1, D], wf := wf } with hg
  have hk : ∀ q : Fin 2, q ∈ g.sKept ↔ q ≠ 0 := by
    intro q
    rw [GatherDims.mem_sKept]
    simp [hg]
  unfold Host.gather
  refine congrArg x (funext fun q => Fin.ext ?_)
  show g.start (ValueIdx.ix3 a b e) idx q + g.batchCoord (ValueIdx.ix3 a b e) q + g.offCoord (ValueIdx.ix3 a b e) q = _
  rw [GatherDims.batchCoord_eq_zero _ _ _ List.not_mem_nil]
  rcases (show q = 0 ∨ q = 1 by fin_cases q <;> simp) with rfl | rfl
  · rw [GatherDims.offCoord_eq_zero _ _ _ (fun h => (hk 0).mp h rfl)]
    unfold GatherDims.start
    rw [dif_pos (show (0 : Fin 2) ∈ g.startIndexMap from List.mem_singleton.mpr rfl)]
    have hi : g.siIdx (ValueIdx.ix3 a b e) ⟨List.idxOf (0 : Fin 2) g.startIndexMap,
        List.idxOf_lt_length_iff.2 (List.mem_singleton.mpr rfl)⟩ = ValueIdx.ix3 a b (0 : Fin 1) := by
      funext q
      refine Fin.ext ?_
      match q with
      | ⟨0, _⟩ => rfl
      | ⟨1, _⟩ => rfl
      | ⟨2, _⟩ => rfl
    exact congrArg (fun i => min (idx i).toInt.toNat (N - 1)) hi
  · have h0 : g.start (ValueIdx.ix3 a b e) idx (1 : Fin 2) = 0 := by
      unfold GatherDims.start
      rw [dif_neg (show ¬ (1 : Fin 2) ∈ g.startIndexMap from by simp [hg])]
    refine (congrArg (fun n => n + 0 + g.offCoord (ValueIdx.ix3 a b e) (1 : Fin 2)) h0).trans ?_
    unfold GatherDims.offCoord
    rw [dif_pos ((hk 1).mpr (by decide))]
    simp only [Nat.zero_add]
    rfl

variable (d : IVec S8192 32)

/-- The position sorted at place `first c + r`. -/
def sourceOf (c : Fin 8) (r : Fin 1024) (h : r.val < alike (keyOf d) c.val) : Fin 8192 :=
  sortedFrom (byKey (keyOf d)) ⟨below (keyOf d) c.val + r.val, by
    have := Cert.Exchange.below_alike_le (keyOf d) c.val
    omega⟩

theorem lift_at {α : Type} (v : S8x1024.Idx → α) (c : Fin 8) (r : Fin 1024) (q : Fin 1) :
    broadcastInDim S8x1024x1 ![0, 1] bcast_S8x1024_S8x1024x1_0_1 v (ValueIdx.ix3 (n0 := 8) (n1 := 1024) (n2 := 1) c r q)
      = v (ValueIdx.ix2 (n0 := 8) (n1 := 1024) c r) :=
  congrArg v (funext fun a => by fin_cases a <;> rfl)

/-- A small word, held within the array, is its number. -/
theorem held {n : ℕ} (h : n < 8192) : min (BitVec.ofNat 32 n).toInt.toNat (8192 - 1) = n := by
  rw [small_int (by omega), Int.toNat_natCast]
  omega

/-- A filled place takes the row its place in the sorted order names. -/
theorem takenT_at (c : Fin 8) (r : Fin 1024) (h : r.val < alike (keyOf d) c.val) :
    takenT d (ValueIdx.ix2 (n0 := 8) (n1 := 1024) c r) = BitVec.ofNat 32 (sourceOf d c r h).val := by
  have hb := Cert.Exchange.below_alike_le (keyOf d) c.val
  have hw := wrapT_at (placeT d) (ValueIdx.ix2 (n0 := 8) (n1 := 1024) c r) (below (keyOf d) c.val + r.val) (by omega)
    (placeT_at d c r h)
  refine (ValueIdx.gather_take_apply (N := 8192) (R := 8) (C := 1024) (by omega)
    gather_S8192_S8x1024x1_S8x1024_n_0_n_n_0_2_1.wf (orderT d) _ (ValueIdx.ix2 (n0 := 8) (n1 := 1024) c r)).trans ?_
  refine Eq.trans (congrArg (fun i : Fin 8192 => orderT d (ValueIdx.ix1 i)) (Fin.ext ?_)) (orderT_at d ⟨below (keyOf d) c.val + r.val, by omega⟩)
  have e : broadcastInDim S8x1024x1 ![0, 1] bcast_S8x1024_S8x1024x1_0_1 (wrapT (placeT d))
      (ValueIdx.takeIdx (R := 8) (C := 1024) (ValueIdx.ix2 (n0 := 8) (n1 := 1024) c r))
        = BitVec.ofNat 32 (below (keyOf d) c.val + r.val) :=
    Eq.trans (congrArg (wrapT (placeT d)) (funext fun a => by fin_cases a <;> rfl)) hw
  exact (congrArg (fun z : BitVec 32 => min z.toInt.toNat (8192 - 1)) e).trans (held (by omega))

theorem rowsT_at (x : FVec Ideal S8192x512 .bf16) (v : IVec S8x1024 32) (c : Fin 8) (r : Fin 1024) (e : Fin 512) (p : Fin 8192)
    (h : v (ValueIdx.ix2 (n0 := 8) (n1 := 1024) c r) = BitVec.ofNat 32 p.val) :
    rowsT x v (ValueIdx.ix3 (n0 := 8) (n1 := 1024) (n2 := 512) c r e) = x (ValueIdx.ix2 (n0 := 8192) (n1 := 512) p e) := by
  refine (gather_row (N := 8192) (D := 512) (R := 8) (C := 1024) (by omega)
    gather_S8192x512_S8x1024x1_S8x1024x512_2_0_n_n_0_2_1512.wf x _ c r e).trans ?_
  refine congrArg (fun i : Fin 8192 => x (ValueIdx.ix2 (n0 := 8192) (n1 := 512) i e)) (Fin.ext ?_)
  have hw := (lift_at (wrapT v) c r 0).trans (wrapT_at v _ p.val p.isLt h)
  exact (congrArg (fun z : BitVec 32 => min z.toInt.toNat (8192 - 1)) hw).trans (held p.isLt)

theorem spread_at (v : IVec S8x1024x1 1) (c : Fin 8) (r : Fin 1024) (e : Fin 512) :
    broadcastInDim S8x1024x512 ![0, 1, 2] bcast_S8x1024x1_S8x1024x512_0_1_2 v (ValueIdx.ix3 (n0 := 8) (n1 := 1024) (n2 := 512) c r e)
      = v (ValueIdx.ix3 (n0 := 8) (n1 := 1024) (n2 := 1) c r 0) :=
  congrArg v (funext fun a => by fin_cases a <;> rfl)

/-- The result, before the blocks are laid one below the other. -/
def piecesT (x : FVec Ideal S8192x512 .bf16) : FVec Ideal S8x1024x512 .bf16 :=
  select (broadcastInDim S8x1024x512 ![0, 1, 2] bcast_S8x1024x1_S8x1024x512_0_1_2
      (broadcastInDim S8x1024x1 ![0, 1] bcast_S8x1024_S8x1024x1_0_1 (filledT d))) (rowsT x (takenT d))
    (broadcastInDim S8x1024x512 ![] bcast_S_S8x1024x512 (constant S_ .bf16 0x0000#16))

theorem piecesT_at (x : FVec Ideal S8192x512 .bf16) (c : Fin 8) (r : Fin 1024) (e : Fin 512) :
    piecesT d x (ValueIdx.ix3 (n0 := 8) (n1 := 1024) (n2 := 512) c r e)
      = if r.val < alike (keyOf d) c.val then rowsT x (takenT d) (ValueIdx.ix3 (n0 := 8) (n1 := 1024) (n2 := 512) c r e) else (0 : EReal) := by
  have hf : broadcastInDim S8x1024x512 ![0, 1, 2] bcast_S8x1024x1_S8x1024x512_0_1_2
      (broadcastInDim S8x1024x1 ![0, 1] bcast_S8x1024_S8x1024x1_0_1 (filledT d)) (ValueIdx.ix3 (n0 := 8) (n1 := 1024) (n2 := 512) c r e)
      = BitVec.ofBool (decide (r.val < alike (keyOf d) c.val)) :=
    (spread_at _ c r e).trans ((lift_at (filledT d) c r 0).trans (filledT_at d c r))
  have hz : broadcastInDim S8x1024x512 ![] bcast_S_S8x1024x512 (constant (F := Ideal) S_ .bf16 0x0000#16)
      (ValueIdx.ix3 (n0 := 8) (n1 := 1024) (n2 := 512) c r e) = (0 : EReal) := by
    show Ideal.ofBits .bf16 0x0000#16 = 0
    simp [Ideal.ofBits, Ideal.ieee]
  unfold piecesT
  rw [select_at, hf, select_decide, hz]

/-- The reference's result, at row `1024 c + r`. -/
theorem resultT_at (x : FVec Ideal S8192x512 .bf16) (c : Fin 8) (r : Fin 1024) (e : Fin 512) (p : Fin 8192)
    (hp : p.val = c.val * 1024 + r.val) :
    resultT x d (ValueIdx.ix2 (n0 := 8192) (n1 := 512) p e)
      = if h : r.val < alike (keyOf d) c.val then x (ValueIdx.ix2 (n0 := 8192) (n1 := 512) (sourceOf d c r h) e) else (0 : EReal) := by
  refine (shapeCast_apply (piecesT d x) shapeCasts_S8x1024x512_S8192x512 (ValueIdx.ix2 (n0 := 8192) (n1 := 512) p e)
    (ValueIdx.ix3 (n0 := 8) (n1 := 1024) (n2 := 512) c r e) ?_).trans ?_
  · refine (Shape.rowMajor_val_three _).trans (Eq.trans ?_ (Shape.rowMajor_val_two _).symm)
    show (c.val * 1024 + r.val) * 512 + e.val = p.val * 512 + e.val
    rw [hp]
  · rw [piecesT_at]
    split_ifs with h
    · exact rowsT_at x (takenT d) c r e (sourceOf d c r h) (takenT_at d c r h)
    · rfl

end Cert.Sorted

end
-- ==== Proof.Glue.lean ====
module

public import proofs.«01_k».proof.Proof.Gathered
public import proofs.«01_k».proof.Proof.RefValue
public import Mathlib.Logic.Equiv.Fin.Basic

/-!
# The devices' rows counted together

The reference sees one array of 8192 rows, the devices eight of 1024.  Row `t` of device `i` is row
`1024 i + t` of the whole.  So the rows for rank `c` in the whole are the devices' counts added up, and the
rank of a row among them is the start of its device plus the rows of that device before it.
-/

@[expose] public section

noncomputable section

namespace Cert.Exchange

open Cert.KernelIdeal Cert.KernelIdeal.Gen
open Idealize.ShloMosaic Idealize.ShloMosaic.TcCoe
open Idealize.SL.Sem
open Idealize.ShloMosaic.WordCmp
open Cert.Sorted (keyOf small_int)

/-- Row `t` of device `i` in the whole. -/
def glue (i : Fin 8) (t : Fin 1024) : Fin 8192 := ⟨1024 * i.val + t.val, by omega⟩

theorem glue_split (p : Fin 8192) : ∃ i t, p = glue i t :=
  ⟨⟨p.val / 1024, by omega⟩, ⟨p.val % 1024, by omega⟩, Fin.ext (by show p.val = 1024 * (p.val / 1024) + p.val % 1024; omega)⟩

theorem glue_lt (i j : Fin 8) (s t : Fin 1024) : glue i s < glue j t ↔ i < j ∨ (i = j ∧ s < t) := by
  have := s.isLt
  have := t.isLt
  rw [Fin.lt_def, Fin.lt_def, Fin.lt_def, Fin.ext_iff]
  show 1024 * i.val + s.val < 1024 * j.val + t.val ↔ _
  omega

/-- Counting over the whole is counting device by device. -/
theorem count_glue (P : Fin 8192 → Prop) [DecidablePred P] :
    (Finset.univ.filter P).card = ∑ i : Fin 8, (Finset.univ.filter fun t : Fin 1024 => P (glue i t)).card := by
  simp only [Finset.card_filter]
  rw [← Fintype.sum_prod_type' (fun (i : Fin 8) (t : Fin 1024) => if P (glue i t) then 1 else 0)]
  refine (Fintype.sum_bijective (fun q : Fin 8 × Fin 1024 => glue q.1 q.2) ⟨fun a b h => ?_, fun p => ?_⟩ _ _ fun q => rfl).symm
  · have hv : 1024 * a.1.val + a.2.val = 1024 * b.1.val + b.2.val := congrArg Fin.val h
    have := a.2.isLt
    have := b.2.isLt
    exact Prod.ext (Fin.ext (by omega)) (Fin.ext (by omega))
  · obtain ⟨i, t, rfl⟩ := glue_split p
    exact ⟨(i, t), rfl⟩

variable (m : (ℓ : Loc nD τ sig) → Buf (Elt Ideal) ℓ) (D : IVec Cert.ReferenceIdeal.S8192 32)

/-- The devices' destinations are the blocks of `D`. -/
def Cut : Prop := ∀ (i : Fin 8) (t : Fin 1024), dw m i t = D (ValueIdx.ix1 (glue i t))

variable {m D}

/-- A row is for rank `c` in the whole when its device's word says so. -/
theorem key_glue (h : Cut m D) (i : Fin 8) (t : Fin 1024) (c : Fin 8) :
    keyOf D (glue i t) = (c.val : ℤ) ↔ dw m i t = BitVec.ofNat 32 c.val := by
  have hc := c.isLt
  rw [h i t, ← BitVec.toInt_inj, small_int (by omega)]
  rfl

/-- The rows for rank `c` are the devices' counts added up. -/
theorem alike_glue (h : Cut m D) (c : Fin 8) : alike (keyOf D) c.val = startOf m c 8 := by
  unfold alike startOf
  rw [count_glue]
  refine Finset.sum_congr rfl fun i _ => ?_
  rw [if_pos i.isLt]
  unfold cnt
  exact congrArg Finset.card (Finset.filter_congr fun t _ => key_glue h i t c)

/-- The rank of a row among those for `c`: its device's start, and the rows of that device before it. -/
theorem rank_glue (h : Cut m D) (c i : Fin 8) (t : Fin 1024) (ht : dw m i t = BitVec.ofNat 32 c.val) :
    rankOf (keyOf D) (glue i t) = startOf m c i.val + before (ds m i) t := by
  have hk := (key_glue h i t c).mpr ht
  unfold rankOf startOf
  rw [count_glue, hk]
  have e : before (ds m i) t = ∑ k : Fin 8, if k = i then before (ds m i) t else 0 := by simp
  rw [e, ← Finset.sum_add_distrib]
  refine Finset.sum_congr rfl fun k _ => ?_
  rcases lt_trichotomy k i with hki | hki | hki
  · rw [if_pos (show k.val < i.val from hki), if_neg hki.ne, Nat.add_zero]
    unfold cnt
    refine congrArg Finset.card (Finset.filter_congr fun s _ => ?_)
    rw [key_glue h, glue_lt]
    exact ⟨fun q => q.1, fun q => ⟨q, .inl hki⟩⟩
  · subst hki
    rw [if_neg (lt_irrefl _), if_pos rfl, Nat.zero_add]
    unfold before
    refine congrArg Finset.card (Finset.filter_congr fun s _ => ?_)
    rw [key_glue h, glue_lt]
    have e1 : ds m k (ValueIdx.ix1 t) = BitVec.ofNat 32 c.val := ht
    rw [e1]
    exact ⟨fun q => ⟨q.1, q.2.elim (fun a => absurd a (lt_irrefl _)) (fun a => a.2)⟩, fun q => ⟨q.1, .inr ⟨rfl, q.2⟩⟩⟩
  · rw [if_neg (by rw [Fin.lt_def] at hki; omega), if_neg hki.ne']
    refine Finset.card_eq_zero.mpr (Finset.filter_eq_empty_iff.mpr fun s _ q => ?_)
    rcases (glue_lt k i s t).mp q.2 with a | a
    · exact absurd a (not_lt.mpr hki.le)
    · exact hki.ne' a.1

end Cert.Exchange

end
-- ==== Proof.Frames.lean ====
/-
# The frames

The run of the kernel under its precondition, its arguments left as they were and its counters at zero, over any float
values; then at the two readings the certificate names, and the reference's.
-/
module

public import proofs.«01_k».proof.Proof.Counts
public import proofs.«01_k».proof.Proof.Gen.Kernel
public import proofs.«01_k».proof.Proof.Gen.ReferenceIdeal
public import proofs.«01_k».proof.Proof.Gen.ReferenceIdeal.Run

@[expose] public section

noncomputable section

namespace Cert.Exchange

open Cert.KernelIdeal Cert.KernelIdeal.Gen
open Idealize.ShloMosaic Idealize.ShloMosaic.TcCoe
open Idealize.SL.Sem

variable {F : FTy → Type} [FloatOps F]

/-- The run: the result array ends holding what the kernel stored, the arguments what they held, every counter zero. -/
theorem run_out [hp : Cert.Pre_fits_Kernel.Facts] (m : (ℓ : Loc nD τ sig) → Buf (Elt F) ℓ) (ρ : Dev nD → PrngReg) (h : Pre m) :
    θ_run defs (onTc (τ := τ) (main (F := F))) (s₀ m ρ) (fun r =>
      (∀ c : Dev nD, r.2.mem ((c : Thread nD τ).loc main_v1) = outAt m c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ k => ⟨fun c => ⟨(k.1 c (2 : Fin 3)).trans (finalA_out m ρ c),
    (k.1 c (0 : Fin 3)).trans (finalA_in0 m ρ c), (k.1 c (1 : Fin 3)).trans (finalA_in1 m ρ c)⟩, k.2⟩)
    (run_main m ρ (fit_of_pre m h))

/-- The same, of the arguments and the counters alone. -/
theorem run_frame [hp : Cert.Pre_fits_Kernel.Facts] (m : (ℓ : Loc nD τ sig) → Buf (Elt F) ℓ) (ρ : Dev nD → PrngReg) (h : Pre m) :
    θ_run defs (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ k => ⟨fun c => (k.1 c).2, k.2⟩) (run_out m ρ h)

theorem frame_kernelIdeal [hp : Cert.Pre_fits_Kernel.Facts] : Cert.quiescent_KernelIdeal := fun m ρ h => run_frame (F := Ideal) m ρ h

/-- The two printings of the kernel have one body … -/
theorem body_same : Cert.Kernel.cc0__a2av_body (F := F) = Cert.KernelIdeal.cc0__a2av_body (F := F) := rfl

/-- … one table of the bodies … -/
theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ)) ?_
  funext l a
  match l, a with
  | 0, (t, s) =>
    dsimp only
    rw [body_same]
  | ⟨n + 1, h⟩, _ => exact absurd h (Nat.not_lt.2 (Nat.le_add_left _ _))

/-- … and one table of everything the launch calls. -/
theorem defs_same : Cert.Kernel.defs (F := F) = Cert.KernelIdeal.defs (F := F) := by
  unfold Cert.Kernel.defs Cert.KernelIdeal.defs
  rw [bodies_same]
  rfl

theorem frame_kernel [hp : Cert.Pre_fits_Kernel.Facts] : Cert.quiescent_Kernel := fun m ρ h => by
  have k := run_frame (F := Bits) m ρ h
  rw [← defs_same] at k
  exact k

/-- The reference's run ends, its arguments as they were; it has no counter. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, sem_eq_zero_of_no_sems (by decide) r.2⟩) (Cert.ReferenceIdeal.Value.run m ρ)

theorem frame_reference : Cert.quiescent_ReferenceIdeal := fun m ρ _ => run_reference m ρ

theorem frame_reference_pre [hp : Cert.Pre_fits_ReferenceIdeal.Facts] : Cert.quiescent_ReferenceIdeal_pre_fits_ReferenceIdeal :=
  fun m ρ _ => run_reference m ρ

/-- The shapes the precondition's text relies on. -/
theorem facts_pre : Cert.Pre_fits_Kernel.Facts where
  bcast_S1024_S1024x1_0 := by decide
  bcast_S1024_S1x1024_1 := by decide
  bcast_S1024x1_S1024x1024_0_1 := by decide
  bcast_S1x1024_S1024x1024_0_1 := by decide
  natLt_1_32 := by decide
  reducesTo_S1024x1024_S1024_d1 := by decide
  h_S_ := by decide
  bcast_S_S1024 := by decide

/-- The same of the precondition read of the whole arrays. -/
theorem facts_pre_whole : Cert.Pre_fits_ReferenceIdeal.Facts where
  bcast_S8192_S8192x1_0 := by decide
  bcast_S8192_S1x8192_1 := by decide
  bcast_S8192x1_S8192x8192_0_1 := by decide
  bcast_S1x8192_S8192x8192_0_1 := by decide
  natLt_1_32 := by decide
  reducesTo_S8192x8192_S8192_d1 := by decide
  h_S_ := by decide
  bcast_S_S8192 := by decide

end Cert.Exchange

end
-- ==== Proof.Meet.lean ====
module

public import proofs.«01_k».proof.Proof.Glue
public import proofs.«01_k».proof.Proof.Frames

/-!
# The devices' results are the blocks of the reference's

Row `r` of device `c`'s result comes from the device whose rows for `c` hold the `r`-th of them all; the reference
takes the `r`-th of them all out of its sorted order.  They are the same row.
-/

@[expose] public section

noncomputable section

namespace Cert.Exchange

open Cert.KernelIdeal Cert.KernelIdeal.Gen
open Idealize.ShloMosaic Idealize.ShloMosaic.TcCoe
open Idealize.SL.Sem
open Idealize.ShloMosaic.WordCmp
open Cert.Sorted (keyOf sourceOf resultT resultT_at)

variable {m : (ℓ : Loc nD τ sig) → Buf (Elt Ideal) ℓ}
variable {X : FVec Ideal Cert.ReferenceIdeal.S8192x512 .bf16} {D : IVec Cert.ReferenceIdeal.S8192 32}

/-- A row of a device's result is that row of the reference's. -/
theorem row_meets (hD : Cut m D)
    (hX : ∀ (i : Fin 8) (t : Fin 1024) (e : Fin 512),
      xs m i (ValueIdx.ix2 (n0 := 1024) (n1 := 512) t e) = X (ValueIdx.ix2 (n0 := 8192) (n1 := 512) (glue i t) e))
    (hd : ∀ c t, (dw m c t).toNat < 8) (hc : ∀ c j, cnt m c j ≤ 192) (c : Fin 8) (r : Fin 1024) (e : Fin 512) :
    outAt m c (ValueIdx.ix2 (n0 := 1024) (n1 := 512) r e)
      = resultT X D (ValueIdx.ix2 (n0 := 8192) (n1 := 512) (glue c r) e) := by
  obtain ⟨i, hi, hj, ho⟩ := outAt_at m hd hc c r
  have hres := resultT_at D X c r e (glue c r) (by show 1024 * c.val + r.val = _; omega)
  refine (ho e).trans (Eq.trans ?_ hres.symm)
  have hi8 := i.isLt
  split_ifs with h
  · -- the place is filled
    have hb := below_alike_le (keyOf D) c.val
    obtain ⟨hk, hr⟩ := sorted_at (keyOf D) c.val r.val h ⟨below (keyOf D) c.val + r.val, by omega⟩ rfl
    have hs : sourceOf D c r h = sortedFrom (byKey (keyOf D)) ⟨below (keyOf D) c.val + r.val, by omega⟩ := rfl
    rw [← hs] at hk hr
    obtain ⟨k, t, hp⟩ := glue_split (sourceOf D c r h)
    rw [hp] at hk hr
    have ht := (key_glue hD k t c).mp hk
    have hrank := rank_glue hD c k t ht
    have hlt : before (ds m k) t < cnt m k c := before_lt (ds m k) t c.val ht
    have hsucc := startOf_succ m c k
    have hki : k = i := by
      rcases lt_trichotomy k i with a | a | a
      · have := startOf_mono m c (show k.val + 1 ≤ i.val from a)
        omega
      · exact a
      · have := hj k a
        omega
    subst hki
    have hpl : r.val - startOf m c k.val = before (ds m k) t := by omega
    rw [hpl, hp, ← hX]
    exact picked_row (ds m k) (xs m k) c.val t e ht
  · -- past the rows the rank receives
    rw [alike_glue hD] at h
    have hsucc := startOf_succ m c i
    have := startOf_mono m c (show i.val + 1 ≤ 8 by omega)
    have hn : cnt m i c ≤ r.val - startOf m c i.val := by omega
    exact picked_none (ds m i) (xs m i) c.val _ e hn

/-- Where a device's element stands in the whole array of rows. -/
theorem idx_two (h : Layout.Tiles ⟨2, ![1024, 512]⟩ ⟨2, ![8192, 512]⟩ 0 8) (c : Fin 8) (r : Fin 1024) (e : Fin 512) :
    h.idx c (ValueIdx.ix2 (n0 := 1024) (n1 := 512) r e) = ValueIdx.ix2 (n0 := 8192) (n1 := 512) (glue c r) e := by
  funext a
  apply Fin.ext
  rw [Layout.Tiles.idx_val]
  fin_cases a
  · show c.val * 1024 + r.val = 1024 * c.val + r.val
    omega
  · rfl

/-- Where a device's word stands in the whole array of words. -/
theorem idx_one (h : Layout.Tiles ⟨1, ![1024]⟩ ⟨1, ![8192]⟩ 0 8) (c : Fin 8) (t : Fin 1024) :
    h.idx c (ValueIdx.ix1 t) = ValueIdx.ix1 (glue c t) := by
  funext a
  apply Fin.ext
  rw [Layout.Tiles.idx_val]
  fin_cases a
  show c.val * 1024 + t.val = 1024 * c.val + t.val
  omega

/-- The kernel's results are the blocks of the reference's. -/
theorem algebraic [hp : Cert.Pre_fits_Kernel.Facts] : Cert.algebraic_KernelIdeal_ReferenceIdeal := by
  intro m g m' g' hpre hcut
  have hD : Cut m (m' (((0 : Dev Cert.ReferenceIdeal.nD).tc : Thread Cert.ReferenceIdeal.nD Cert.ReferenceIdeal.τ).loc Cert.ReferenceIdeal.main_arg1)) := by
    intro i t
    unfold dw
    rw [ds_eq]
    refine (congrFun (hcut i).2 (ValueIdx.ix1 t)).trans ?_
    exact congrArg (m' (((0 : Dev Cert.ReferenceIdeal.nD).tc : Thread Cert.ReferenceIdeal.nD Cert.ReferenceIdeal.τ).loc Cert.ReferenceIdeal.main_arg1))
      (idx_one _ i t)
  have hX : ∀ (i : Fin 8) (t : Fin 1024) (e : Fin 512), xs m i (ValueIdx.ix2 (n0 := 1024) (n1 := 512) t e)
      = m' (((0 : Dev Cert.ReferenceIdeal.nD).tc : Thread Cert.ReferenceIdeal.nD Cert.ReferenceIdeal.τ).loc Cert.ReferenceIdeal.main_arg0)
        (ValueIdx.ix2 (n0 := 8192) (n1 := 512) (glue i t) e) := by
    intro i t e
    rw [xs_eq]
    refine (congrFun (hcut i).1 (ValueIdx.ix2 (n0 := 1024) (n1 := 512) t e)).trans ?_
    exact congrArg (m' (((0 : Dev Cert.ReferenceIdeal.nD).tc : Thread Cert.ReferenceIdeal.nD Cert.ReferenceIdeal.τ).loc Cert.ReferenceIdeal.main_arg0))
      (idx_two _ i t e)
  refine ⟨Cert.ReferenceIdeal.Value.res_main_v45 m' 0, ?_, ?_⟩
  · refine (θ_run defs _ _).mono (fun r k c => ⟨(k.1 c).1.trans ?_, (k.1 c).2⟩) (run_out m g hpre)
    funext j
    have hrow := row_meets hD hX (dw_lt m hpre) (cnt_fits m hpre) c (j 0) (j 1)
    refine Eq.trans (congrArg (outAt m c) (ValueIdx.eq_ix2 (n0 := 1024) (n1 := 512) j)) (hrow.trans ?_)
    refine Eq.trans (congrFun (Cert.Sorted.result_parts m' 0).symm _) ?_
    refine congrArg (Cert.ReferenceIdeal.Value.res_main_v45 m' 0) (Eq.trans (idx_two (by decide) c (j 0) (j 1)).symm ?_)
    exact congrArg _ (ValueIdx.eq_ix2 (n0 := 1024) (n1 := 512) j).symm
  · exact (θ_run Cert.ReferenceIdeal.defs _ _).mono (fun r k => k 0) (Cert.ReferenceIdeal.Value.run m' g')

end Cert.Exchange

end
-- ==== Proof.lean ====
module

public import proofs.«01_k».proof.Defs
public import proofs.«01_k».proof.Proof.Meet

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Exchange.facts_pre, Cert.Exchange.facts_pre_whole,
    Cert.Exchange.frame_kernel (hp := Cert.Exchange.facts_pre), Cert.Exchange.frame_kernelIdeal (hp := Cert.Exchange.facts_pre),
    Cert.Exchange.frame_reference, Cert.Exchange.frame_reference_pre (hp := Cert.Exchange.facts_pre_whole), trivial,
    Cert.Exchange.algebraic (hp := Cert.Exchange.facts_pre)⟩

end Cert.Proof

end
